-- ==== Defs.lean ====
def Pre_MlpX (m : (ℓ : Loc Cert.MlpX.nD Cert.MlpX.τ Cert.MlpX.sig) → Buf (Elt Bits) ℓ) : Prop :=
  True

def Pre_MlpXIdeal (m : (ℓ : Loc Cert.MlpXIdeal.nD Cert.MlpXIdeal.τ Cert.MlpXIdeal.sig) → Buf (Elt Ideal) ℓ) : Prop :=
  True

def Pre_MlpXRefIdeal (m : (ℓ : Loc Cert.MlpXRefIdeal.nD Cert.MlpXRefIdeal.τ Cert.MlpXRefIdeal.sig) → Buf (Elt Ideal) ℓ) : Prop :=
  True

def Pre_MlpW (m : (ℓ : Loc Cert.MlpW.nD Cert.MlpW.τ Cert.MlpW.sig) → Buf (Elt Bits) ℓ) : Prop :=
  True

def Pre_MlpWIdeal (m : (ℓ : Loc Cert.MlpWIdeal.nD Cert.MlpWIdeal.τ Cert.MlpWIdeal.sig) → Buf (Elt Ideal) ℓ) : Prop :=
  True

def Pre_MlpWRefIdeal (m : (ℓ : Loc Cert.MlpWRefIdeal.nD Cert.MlpWRefIdeal.τ Cert.MlpWRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Big (m : (ℓ : Loc Cert.Big.nD Cert.Big.τ Cert.Big.sig) → Buf (Elt Bits) ℓ) : Prop :=
  True

def Pre_BigIdeal (m : (ℓ : Loc Cert.BigIdeal.nD Cert.BigIdeal.τ Cert.BigIdeal.sig) → Buf (Elt Ideal) ℓ) : Prop :=
  True

def Pre_BigRefIdeal (m : (ℓ : Loc Cert.BigRefIdeal.nD Cert.BigRefIdeal.τ Cert.BigRefIdeal.sig) → Buf (Elt Ideal) ℓ) : Prop :=
  True

def quiescent_MlpX [hMlpX : Cert.MlpX.Facts] : Prop :=
  ∀ (m : (ℓ : Loc Cert.MlpX.nD Cert.MlpX.τ Cert.MlpX.sig) → Buf (Elt Bits) ℓ) (g : Dev Cert.MlpX.nD → PrngReg), Pre_MlpX m →
    θ_run (Cert.MlpX.defs (F := Bits)) (onTc (τ := Cert.MlpX.τ) (Cert.MlpX.main (F := Bits))) ⟨m, fun _ => 0, g⟩ (fun r => (∀ c : Dev Cert.MlpX.nD,
      r.2.mem ((c.tc : Thread Cert.MlpX.nD Cert.MlpX.τ).loc Cert.MlpX.main_arg0) = m ((c.tc : Thread Cert.MlpX.nD Cert.MlpX.τ).loc Cert.MlpX.main_arg0)
      ∧ r.2.mem ((c.tc : Thread Cert.MlpX.nD Cert.MlpX.τ).loc Cert.MlpX.main_arg1) = m ((c.tc : Thread Cert.MlpX.nD Cert.MlpX.τ).loc Cert.MlpX.main_arg1)
      ∧ r.2.mem ((c.tc : Thread Cert.MlpX.nD Cert.MlpX.τ).loc Cert.MlpX.main_arg2) = m ((c.tc : Thread Cert.MlpX.nD Cert.MlpX.τ).loc Cert.MlpX.main_arg2)
      ∧ r.2.mem ((c.tc : Thread Cert.MlpX.nD Cert.MlpX.τ).loc Cert.MlpX.main_arg3) = m ((c.tc : Thread Cert.MlpX.nD Cert.MlpX.τ).loc Cert.MlpX.main_arg3)
      ∧ r.2.mem ((c.tc : Thread Cert.MlpX.nD Cert.MlpX.τ).loc Cert.MlpX.main_arg4) = m ((c.tc : Thread Cert.MlpX.nD Cert.MlpX.τ).loc Cert.MlpX.main_arg4))
      ∧ r.2.sem = fun _ => 0)

def quiescent_MlpXIdeal [hMlpXIdeal : Cert.MlpXIdeal.Facts] : Prop :=
  ∀ (m : (ℓ : Loc Cert.MlpXIdeal.nD Cert.MlpXIdeal.τ Cert.MlpXIdeal.sig) → Buf (Elt Ideal) ℓ) (g : Dev Cert.MlpXIdeal.nD → PrngReg), Pre_MlpXIdeal m →
    θ_run (Cert.MlpXIdeal.defs (F := Ideal)) (onTc (τ := Cert.MlpXIdeal.τ) (Cert.MlpXIdeal.main (F := Ideal))) ⟨m, fun _ => 0, g⟩ (fun r => (∀ c : Dev Cert.MlpXIdeal.nD,
      r.2.mem ((c.tc : Thread Cert.MlpXIdeal.nD Cert.MlpXIdeal.τ).loc Cert.MlpXIdeal.main_arg0) = m ((c.tc : Thread Cert.MlpXIdeal.nD Cert.MlpXIdeal.τ).loc Cert.MlpXIdeal.main_arg0)
      ∧ r.2.mem ((c.tc : Thread Cert.MlpXIdeal.nD Cert.MlpXIdeal.τ).loc Cert.MlpXIdeal.main_arg1) = m ((c.tc : Thread Cert.MlpXIdeal.nD Cert.MlpXIdeal.τ).loc Cert.MlpXIdeal.main_arg1)
      ∧ r.2.mem ((c.tc : Thread Cert.MlpXIdeal.nD Cert.MlpXIdeal.τ).loc Cert.MlpXIdeal.main_arg2) = m ((c.tc : Thread Cert.MlpXIdeal.nD Cert.MlpXIdeal.τ).loc Cert.MlpXIdeal.main_arg2)
      ∧ r.2.mem ((c.tc : Thread Cert.MlpXIdeal.nD Cert.MlpXIdeal.τ).loc Cert.MlpXIdeal.main_arg3) = m ((c.tc : Thread Cert.MlpXIdeal.nD Cert.MlpXIdeal.τ).loc Cert.MlpXIdeal.main_arg3)
      ∧ r.2.mem ((c.tc : Thread Cert.MlpXIdeal.nD Cert.MlpXIdeal.τ).loc Cert.MlpXIdeal.main_arg4) = m ((c.tc : Thread Cert.MlpXIdeal.nD Cert.MlpXIdeal.τ).loc Cert.MlpXIdeal.main_arg4))
      ∧ r.2.sem = fun _ => 0)

def quiescent_MlpXRefIdeal [hMlpXRefIdeal : Cert.MlpXRefIdeal.Facts] : Prop :=
  ∀ (m : (ℓ : Loc Cert.MlpXRefIdeal.nD Cert.MlpXRefIdeal.τ Cert.MlpXRefIdeal.sig) → Buf (Elt Ideal) ℓ) (g : Dev Cert.MlpXRefIdeal.nD → PrngReg), Pre_MlpXRefIdeal m →
    θ_run (Cert.MlpXRefIdeal.defs (F := Ideal)) (onTc (τ := Cert.MlpXRefIdeal.τ) (Cert.MlpXRefIdeal.main (F := Ideal))) ⟨m, fun _ => 0, g⟩ (fun r => (∀ c : Dev Cert.MlpXRefIdeal.nD,
      r.2.mem ((c.tc : Thread Cert.MlpXRefIdeal.nD Cert.MlpXRefIdeal.τ).loc Cert.MlpXRefIdeal.main_arg0) = m ((c.tc : Thread Cert.MlpXRefIdeal.nD Cert.MlpXRefIdeal.τ).loc Cert.MlpXRefIdeal.main_arg0)
      ∧ r.2.mem ((c.tc : Thread Cert.MlpXRefIdeal.nD Cert.MlpXRefIdeal.τ).loc Cert.MlpXRefIdeal.main_arg1) = m ((c.tc : Thread Cert.MlpXRefIdeal.nD Cert.MlpXRefIdeal.τ).loc Cert.MlpXRefIdeal.main_arg1)
      ∧ r.2.mem ((c.tc : Thread Cert.MlpXRefIdeal.nD Cert.MlpXRefIdeal.τ).loc Cert.MlpXRefIdeal.main_arg2) = m ((c.tc : Thread Cert.MlpXRefIdeal.nD Cert.MlpXRefIdeal.τ).loc Cert.MlpXRefIdeal.main_arg2)
      ∧ r.2.mem ((c.tc : Thread Cert.MlpXRefIdeal.nD Cert.MlpXRefIdeal.τ).loc Cert.MlpXRefIdeal.main_arg3) = m ((c.tc : Thread Cert.MlpXRefIdeal.nD Cert.MlpXRefIdeal.τ).loc Cert.MlpXRefIdeal.main_arg3)
      ∧ r.2.mem ((c.tc : Thread Cert.MlpXRefIdeal.nD Cert.MlpXRefIdeal.τ).loc Cert.MlpXRefIdeal.main_arg4) = m ((c.tc : Thread Cert.MlpXRefIdeal.nD Cert.MlpXRefIdeal.τ).loc Cert.MlpXRefIdeal.main_arg4))
      ∧ r.2.sem = fun _ => 0)

def quiescent_MlpW [hMlpW : Cert.MlpW.Facts] : Prop :=
  ∀ (m : (ℓ : Loc Cert.MlpW.nD Cert.MlpW.τ Cert.MlpW.sig) → Buf (Elt Bits) ℓ) (g : Dev Cert.MlpW.nD → PrngReg), Pre_MlpW m →
    θ_run (Cert.MlpW.defs (F := Bits)) (onTc (τ := Cert.MlpW.τ) (Cert.MlpW.main (F := Bits))) ⟨m, fun _ => 0, g⟩ (fun r => (∀ c : Dev Cert.MlpW.nD,
      r.2.mem ((c.tc : Thread Cert.MlpW.nD Cert.MlpW.τ).loc Cert.MlpW.main_arg0) = m ((c.tc : Thread Cert.MlpW.nD Cert.MlpW.τ).loc Cert.MlpW.main_arg0)
      ∧ r.2.mem ((c.tc : Thread Cert.MlpW.nD Cert.MlpW.τ).loc Cert.MlpW.main_arg1) = m ((c.tc : Thread Cert.MlpW.nD Cert.MlpW.τ).loc Cert.MlpW.main_arg1)
      ∧ r.2.mem ((c.tc : Thread Cert.MlpW.nD Cert.MlpW.τ).loc Cert.MlpW.main_arg2) = m ((c.tc : Thread Cert.MlpW.nD Cert.MlpW.τ).loc Cert.MlpW.main_arg2)
      ∧ r.2.mem ((c.tc : Thread Cert.MlpW.nD Cert.MlpW.τ).loc Cert.MlpW.main_arg3) = m ((c.tc : Thread Cert.MlpW.nD Cert.MlpW.τ).loc Cert.MlpW.main_arg3)
      ∧ r.2.mem ((c.tc : Thread Cert.MlpW.nD Cert.MlpW.τ).loc Cert.MlpW.main_arg4) = m ((c.tc : Thread Cert.MlpW.nD Cert.MlpW.τ).loc Cert.MlpW.main_arg4))
      ∧ r.2.sem = fun _ => 0)

def quiescent_MlpWIdeal [hMlpWIdeal : Cert.MlpWIdeal.Facts] : Prop :=
  ∀ (m : (ℓ : Loc Cert.MlpWIdeal.nD Cert.MlpWIdeal.τ Cert.MlpWIdeal.sig) → Buf (Elt Ideal) ℓ) (g : Dev Cert.MlpWIdeal.nD → PrngReg), Pre_MlpWIdeal m →
    θ_run (Cert.MlpWIdeal.defs (F := Ideal)) (onTc (τ := Cert.MlpWIdeal.τ) (Cert.MlpWIdeal.main (F := Ideal))) ⟨m, fun _ => 0, g⟩ (fun r => (∀ c : Dev Cert.MlpWIdeal.nD,
      r.2.mem ((c.tc : Thread Cert.MlpWIdeal.nD Cert.MlpWIdeal.τ).loc Cert.MlpWIdeal.main_arg0) = m ((c.tc : Thread Cert.MlpWIdeal.nD Cert.MlpWIdeal.τ).loc Cert.MlpWIdeal.main_arg0)
      ∧ r.2.mem ((c.tc : Thread Cert.MlpWIdeal.nD Cert.MlpWIdeal.τ).loc Cert.MlpWIdeal.main_arg1) = m ((c.tc : Thread Cert.MlpWIdeal.nD Cert.MlpWIdeal.τ).loc Cert.MlpWIdeal.main_arg1)
      ∧ r.2.mem ((c.tc : Thread Cert.MlpWIdeal.nD Cert.MlpWIdeal.τ).loc Cert.MlpWIdeal.main_arg2) = m ((c.tc : Thread Cert.MlpWIdeal.nD Cert.MlpWIdeal.τ).loc Cert.MlpWIdeal.main_arg2)
      ∧ r.2.mem ((c.tc : Thread Cert.MlpWIdeal.nD Cert.MlpWIdeal.τ).loc Cert.MlpWIdeal.main_arg3) = m ((c.tc : Thread Cert.MlpWIdeal.nD Cert.MlpWIdeal.τ).loc Cert.MlpWIdeal.main_arg3)
      ∧ r.2.mem ((c.tc : Thread Cert.MlpWIdeal.nD Cert.MlpWIdeal.τ).loc Cert.MlpWIdeal.main_arg4) = m ((c.tc : Thread Cert.MlpWIdeal.nD Cert.MlpWIdeal.τ).loc Cert.MlpWIdeal.main_arg4))
      ∧ r.2.sem = fun _ => 0)

def quiescent_MlpWRefIdeal [hMlpWRefIdeal : Cert.MlpWRefIdeal.Facts] : Prop :=
  ∀ (m : (ℓ : Loc Cert.MlpWRefIdeal.nD Cert.MlpWRefIdeal.τ Cert.MlpWRefIdeal.sig) → Buf (Elt Ideal) ℓ) (g : Dev Cert.MlpWRefIdeal.nD → PrngReg), Pre_MlpWRefIdeal m →
    θ_run (Cert.MlpWRefIdeal.defs (F := Ideal)) (onTc (τ := Cert.MlpWRefIdeal.τ) (Cert.MlpWRefIdeal.main (F := Ideal))) ⟨m, fun _ => 0, g⟩ (fun r => (∀ c : Dev Cert.MlpWRefIdeal.nD,
      r.2.mem ((c.tc : Thread Cert.MlpWRefIdeal.nD Cert.MlpWRefIdeal.τ).loc Cert.MlpWRefIdeal.main_arg0) = m ((c.tc : Thread Cert.MlpWRefIdeal.nD Cert.MlpWRefIdeal.τ).loc Cert.MlpWRefIdeal.main_arg0)
      ∧ r.2.mem ((c.tc : Thread Cert.MlpWRefIdeal.nD Cert.MlpWRefIdeal.τ).loc Cert.MlpWRefIdeal.main_arg1) = m ((c.tc : Thread Cert.MlpWRefIdeal.nD Cert.MlpWRefIdeal.τ).loc Cert.MlpWRefIdeal.main_arg1)
      ∧ r.2.mem ((c.tc : Thread Cert.MlpWRefIdeal.nD Cert.MlpWRefIdeal.τ).loc Cert.MlpWRefIdeal.main_arg2) = m ((c.tc : Thread Cert.MlpWRefIdeal.nD Cert.MlpWRefIdeal.τ).loc Cert.MlpWRefIdeal.main_arg2)
      ∧ r.2.mem ((c.tc : Thread Cert.MlpWRefIdeal.nD Cert.MlpWRefIdeal.τ).loc Cert.MlpWRefIdeal.main_arg3) = m ((c.tc : Thread Cert.MlpWRefIdeal.nD Cert.MlpWRefIdeal.τ).loc Cert.MlpWRefIdeal.main_arg3)
      ∧ r.2.mem ((c.tc : Thread Cert.MlpWRefIdeal.nD Cert.MlpWRefIdeal.τ).loc Cert.MlpWRefIdeal.main_arg4) = m ((c.tc : Thread Cert.MlpWRefIdeal.nD Cert.MlpWRefIdeal.τ).loc Cert.MlpWRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Big [hBig : Cert.Big.Facts] : Prop :=
  ∀ (m : (ℓ : Loc Cert.Big.nD Cert.Big.τ Cert.Big.sig) → Buf (Elt Bits) ℓ) (g : Dev Cert.Big.nD → PrngReg), Pre_Big m →
    θ_run (Cert.Big.defs (F := Bits)) (onTc (τ := Cert.Big.τ) (Cert.Big.main (F := Bits))) ⟨m, fun _ => 0, g⟩ (fun r => (∀ c : Dev Cert.Big.nD,
      r.2.mem ((c.tc : Thread Cert.Big.nD Cert.Big.τ).loc Cert.Big.main_arg0) = m ((c.tc : Thread Cert.Big.nD Cert.Big.τ).loc Cert.Big.main_arg0)
      ∧ r.2.mem ((c.tc : Thread Cert.Big.nD Cert.Big.τ).loc Cert.Big.main_arg1) = m ((c.tc : Thread Cert.Big.nD Cert.Big.τ).loc Cert.Big.main_arg1)
      ∧ r.2.mem ((c.tc : Thread Cert.Big.nD Cert.Big.τ).loc Cert.Big.main_arg2) = m ((c.tc : Thread Cert.Big.nD Cert.Big.τ).loc Cert.Big.main_arg2)
      ∧ r.2.mem ((c.tc : Thread Cert.Big.nD Cert.Big.τ).loc Cert.Big.main_arg3) = m ((c.tc : Thread Cert.Big.nD Cert.Big.τ).loc Cert.Big.main_arg3)
      ∧ r.2.mem ((c.tc : Thread Cert.Big.nD Cert.Big.τ).loc Cert.Big.main_arg4) = m ((c.tc : Thread Cert.Big.nD Cert.Big.τ).loc Cert.Big.main_arg4)
      ∧ r.2.mem ((c.tc : Thread Cert.Big.nD Cert.Big.τ).loc Cert.Big.main_arg5) = m ((c.tc : Thread Cert.Big.nD Cert.Big.τ).loc Cert.Big.main_arg5)
      ∧ r.2.mem ((c.tc : Thread Cert.Big.nD Cert.Big.τ).loc Cert.Big.main_arg6) = m ((c.tc : Thread Cert.Big.nD Cert.Big.τ).loc Cert.Big.main_arg6)
      ∧ r.2.mem ((c.tc : Thread Cert.Big.nD Cert.Big.τ).loc Cert.Big.main_arg7) = m ((c.tc : Thread Cert.Big.nD Cert.Big.τ).loc Cert.Big.main_arg7)
      ∧ r.2.mem ((c.tc : Thread Cert.Big.nD Cert.Big.τ).loc Cert.Big.main_arg8) = m ((c.tc : Thread Cert.Big.nD Cert.Big.τ).loc Cert.Big.main_arg8)
      ∧ r.2.mem ((c.tc : Thread Cert.Big.nD Cert.Big.τ).loc Cert.Big.main_arg9) = m ((c.tc : Thread Cert.Big.nD Cert.Big.τ).loc Cert.Big.main_arg9)
      ∧ r.2.mem ((c.tc : Thread Cert.Big.nD Cert.Big.τ).loc Cert.Big.main_arg10) = m ((c.tc : Thread Cert.Big.nD Cert.Big.τ).loc Cert.Big.main_arg10)
      ∧ r.2.mem ((c.tc : Thread Cert.Big.nD Cert.Big.τ).loc Cert.Big.main_arg11) = m ((c.tc : Thread Cert.Big.nD Cert.Big.τ).loc Cert.Big.main_arg11)
      ∧ r.2.mem ((c.tc : Thread Cert.Big.nD Cert.Big.τ).loc Cert.Big.main_arg12) = m ((c.tc : Thread Cert.Big.nD Cert.Big.τ).loc Cert.Big.main_arg12)
      ∧ r.2.mem ((c.tc : Thread Cert.Big.nD Cert.Big.τ).loc Cert.Big.main_arg13) = m ((c.tc : Thread Cert.Big.nD Cert.Big.τ).loc Cert.Big.main_arg13)
      ∧ r.2.mem ((c.tc : Thread Cert.Big.nD Cert.Big.τ).loc Cert.Big.main_arg14) = m ((c.tc : Thread Cert.Big.nD Cert.Big.τ).loc Cert.Big.main_arg14)
      ∧ r.2.mem ((c.tc : Thread Cert.Big.nD Cert.Big.τ).loc Cert.Big.main_arg15) = m ((c.tc : Thread Cert.Big.nD Cert.Big.τ).loc Cert.Big.main_arg15)
      ∧ r.2.mem ((c.tc : Thread Cert.Big.nD Cert.Big.τ).loc Cert.Big.main_arg16) = m ((c.tc : Thread Cert.Big.nD Cert.Big.τ).loc Cert.Big.main_arg16)
      ∧ r.2.mem ((c.tc : Thread Cert.Big.nD Cert.Big.τ).loc Cert.Big.main_arg17) = m ((c.tc : Thread Cert.Big.nD Cert.Big.τ).loc Cert.Big.main_arg17)
      ∧ r.2.mem ((c.tc : Thread Cert.Big.nD Cert.Big.τ).loc Cert.Big.main_arg18) = m ((c.tc : Thread Cert.Big.nD Cert.Big.τ).loc Cert.Big.main_arg18)
      ∧ r.2.mem ((c.tc : Thread Cert.Big.nD Cert.Big.τ).loc Cert.Big.main_arg19) = m ((c.tc : Thread Cert.Big.nD Cert.Big.τ).loc Cert.Big.main_arg19)
      ∧ r.2.mem ((c.tc : Thread Cert.Big.nD Cert.Big.τ).loc Cert.Big.main_arg20) = m ((c.tc : Thread Cert.Big.nD Cert.Big.τ).loc Cert.Big.main_arg20)
      ∧ r.2.mem ((c.tc : Thread Cert.Big.nD Cert.Big.τ).loc Cert.Big.main_arg21) = m ((c.tc : Thread Cert.Big.nD Cert.Big.τ).loc Cert.Big.main_arg21)
      ∧ r.2.mem ((c.tc : Thread Cert.Big.nD Cert.Big.τ).loc Cert.Big.main_arg22) = m ((c.tc : Thread Cert.Big.nD Cert.Big.τ).loc Cert.Big.main_arg22)
      ∧ r.2.mem ((c.tc : Thread Cert.Big.nD Cert.Big.τ).loc Cert.Big.main_arg23) = m ((c.tc : Thread Cert.Big.nD Cert.Big.τ).loc Cert.Big.main_arg23))
      ∧ r.2.sem = fun _ => 0)

def quiescent_BigIdeal [hBigIdeal : Cert.BigIdeal.Facts] : Prop :=
  ∀ (m : (ℓ : Loc Cert.BigIdeal.nD Cert.BigIdeal.τ Cert.BigIdeal.sig) → Buf (Elt Ideal) ℓ) (g : Dev Cert.BigIdeal.nD → PrngReg), Pre_BigIdeal m →
    θ_run (Cert.BigIdeal.defs (F := Ideal)) (onTc (τ := Cert.BigIdeal.τ) (Cert.BigIdeal.main (F := Ideal))) ⟨m, fun _ => 0, g⟩ (fun r => (∀ c : Dev Cert.BigIdeal.nD,
      r.2.mem ((c.tc : Thread Cert.BigIdeal.nD Cert.BigIdeal.τ).loc Cert.BigIdeal.main_arg0) = m ((c.tc : Thread Cert.BigIdeal.nD Cert.BigIdeal.τ).loc Cert.BigIdeal.main_arg0)
      ∧ r.2.mem ((c.tc : Thread Cert.BigIdeal.nD Cert.BigIdeal.τ).loc Cert.BigIdeal.main_arg1) = m ((c.tc : Thread Cert.BigIdeal.nD Cert.BigIdeal.τ).loc Cert.BigIdeal.main_arg1)
      ∧ r.2.mem ((c.tc : Thread Cert.BigIdeal.nD Cert.BigIdeal.τ).loc Cert.BigIdeal.main_arg2) = m ((c.tc : Thread Cert.BigIdeal.nD Cert.BigIdeal.τ).loc Cert.BigIdeal.main_arg2)
      ∧ r.2.mem ((c.tc : Thread Cert.BigIdeal.nD Cert.BigIdeal.τ).loc Cert.BigIdeal.main_arg3) = m ((c.tc : Thread Cert.BigIdeal.nD Cert.BigIdeal.τ).loc Cert.BigIdeal.main_arg3)
      ∧ r.2.mem ((c.tc : Thread Cert.BigIdeal.nD Cert.BigIdeal.τ).loc Cert.BigIdeal.main_arg4) = m ((c.tc : Thread Cert.BigIdeal.nD Cert.BigIdeal.τ).loc Cert.BigIdeal.main_arg4)
      ∧ r.2.mem ((c.tc : Thread Cert.BigIdeal.nD Cert.BigIdeal.τ).loc Cert.BigIdeal.main_arg5) = m ((c.tc : Thread Cert.BigIdeal.nD Cert.BigIdeal.τ).loc Cert.BigIdeal.main_arg5)
      ∧ r.2.mem ((c.tc : Thread Cert.BigIdeal.nD Cert.BigIdeal.τ).loc Cert.BigIdeal.main_arg6) = m ((c.tc : Thread Cert.BigIdeal.nD Cert.BigIdeal.τ).loc Cert.BigIdeal.main_arg6)
      ∧ r.2.mem ((c.tc : Thread Cert.BigIdeal.nD Cert.BigIdeal.τ).loc Cert.BigIdeal.main_arg7) = m ((c.tc : Thread Cert.BigIdeal.nD Cert.BigIdeal.τ).loc Cert.BigIdeal.main_arg7)
      ∧ r.2.mem ((c.tc : Thread Cert.BigIdeal.nD Cert.BigIdeal.τ).loc Cert.BigIdeal.main_arg8) = m ((c.tc : Thread Cert.BigIdeal.nD Cert.BigIdeal.τ).loc Cert.BigIdeal.main_arg8)
      ∧ r.2.mem ((c.tc : Thread Cert.BigIdeal.nD Cert.BigIdeal.τ).loc Cert.BigIdeal.main_arg9) = m ((c.tc : Thread Cert.BigIdeal.nD Cert.BigIdeal.τ).loc Cert.BigIdeal.main_arg9)
      ∧ r.2.mem ((c.tc : Thread Cert.BigIdeal.nD Cert.BigIdeal.τ).loc Cert.BigIdeal.main_arg10) = m ((c.tc : Thread Cert.BigIdeal.nD Cert.BigIdeal.τ).loc Cert.BigIdeal.main_arg10)
      ∧ r.2.mem ((c.tc : Thread Cert.BigIdeal.nD Cert.BigIdeal.τ).loc Cert.BigIdeal.main_arg11) = m ((c.tc : Thread Cert.BigIdeal.nD Cert.BigIdeal.τ).loc Cert.BigIdeal.main_arg11)
      ∧ r.2.mem ((c.tc : Thread Cert.BigIdeal.nD Cert.BigIdeal.τ).loc Cert.BigIdeal.main_arg12) = m ((c.tc : Thread Cert.BigIdeal.nD Cert.BigIdeal.τ).loc Cert.BigIdeal.main_arg12)
      ∧ r.2.mem ((c.tc : Thread Cert.BigIdeal.nD Cert.BigIdeal.τ).loc Cert.BigIdeal.main_arg13) = m ((c.tc : Thread Cert.BigIdeal.nD Cert.BigIdeal.τ).loc Cert.BigIdeal.main_arg13)
      ∧ r.2.mem ((c.tc : Thread Cert.BigIdeal.nD Cert.BigIdeal.τ).loc Cert.BigIdeal.main_arg14) = m ((c.tc : Thread Cert.BigIdeal.nD Cert.BigIdeal.τ).loc Cert.BigIdeal.main_arg14)
      ∧ r.2.mem ((c.tc : Thread Cert.BigIdeal.nD Cert.BigIdeal.τ).loc Cert.BigIdeal.main_arg15) = m ((c.tc : Thread Cert.BigIdeal.nD Cert.BigIdeal.τ).loc Cert.BigIdeal.main_arg15)
      ∧ r.2.mem ((c.tc : Thread Cert.BigIdeal.nD Cert.BigIdeal.τ).loc Cert.BigIdeal.main_arg16) = m ((c.tc : Thread Cert.BigIdeal.nD Cert.BigIdeal.τ).loc Cert.BigIdeal.main_arg16)
      ∧ r.2.mem ((c.tc : Thread Cert.BigIdeal.nD Cert.BigIdeal.τ).loc Cert.BigIdeal.main_arg17) = m ((c.tc : Thread Cert.BigIdeal.nD Cert.BigIdeal.τ).loc Cert.BigIdeal.main_arg17)
      ∧ r.2.mem ((c.tc : Thread Cert.BigIdeal.nD Cert.BigIdeal.τ).loc Cert.BigIdeal.main_arg18) = m ((c.tc : Thread Cert.BigIdeal.nD Cert.BigIdeal.τ).loc Cert.BigIdeal.main_arg18)
      ∧ r.2.mem ((c.tc : Thread Cert.BigIdeal.nD Cert.BigIdeal.τ).loc Cert.BigIdeal.main_arg19) = m ((c.tc : Thread Cert.BigIdeal.nD Cert.BigIdeal.τ).loc Cert.BigIdeal.main_arg19)
      ∧ r.2.mem ((c.tc : Thread Cert.BigIdeal.nD Cert.BigIdeal.τ).loc Cert.BigIdeal.main_arg20) = m ((c.tc : Thread Cert.BigIdeal.nD Cert.BigIdeal.τ).loc Cert.BigIdeal.main_arg20)
      ∧ r.2.mem ((c.tc : Thread Cert.BigIdeal.nD Cert.BigIdeal.τ).loc Cert.BigIdeal.main_arg21) = m ((c.tc : Thread Cert.BigIdeal.nD Cert.BigIdeal.τ).loc Cert.BigIdeal.main_arg21)
      ∧ r.2.mem ((c.tc : Thread Cert.BigIdeal.nD Cert.BigIdeal.τ).loc Cert.BigIdeal.main_arg22) = m ((c.tc : Thread Cert.BigIdeal.nD Cert.BigIdeal.τ).loc Cert.BigIdeal.main_arg22)
      ∧ r.2.mem ((c.tc : Thread Cert.BigIdeal.nD Cert.BigIdeal.τ).loc Cert.BigIdeal.main_arg23) = m ((c.tc : Thread Cert.BigIdeal.nD Cert.BigIdeal.τ).loc Cert.BigIdeal.main_arg23))
      ∧ r.2.sem = fun _ => 0)

def quiescent_BigRefIdeal [hBigRefIdeal : Cert.BigRefIdeal.Facts] : Prop :=
  ∀ (m : (ℓ : Loc Cert.BigRefIdeal.nD Cert.BigRefIdeal.τ Cert.BigRefIdeal.sig) → Buf (Elt Ideal) ℓ) (g : Dev Cert.BigRefIdeal.nD → PrngReg), Pre_BigRefIdeal m →
    θ_run (Cert.BigRefIdeal.defs (F := Ideal)) (onTc (τ := Cert.BigRefIdeal.τ) (Cert.BigRefIdeal.main (F := Ideal))) ⟨m, fun _ => 0, g⟩ (fun r => (∀ c : Dev Cert.BigRefIdeal.nD,
      r.2.mem ((c.tc : Thread Cert.BigRefIdeal.nD Cert.BigRefIdeal.τ).loc Cert.BigRefIdeal.main_arg0) = m ((c.tc : Thread Cert.BigRefIdeal.nD Cert.BigRefIdeal.τ).loc Cert.BigRefIdeal.main_arg0)
      ∧ r.2.mem ((c.tc : Thread Cert.BigRefIdeal.nD Cert.BigRefIdeal.τ).loc Cert.BigRefIdeal.main_arg1) = m ((c.tc : Thread Cert.BigRefIdeal.nD Cert.BigRefIdeal.τ).loc Cert.BigRefIdeal.main_arg1)
      ∧ r.2.mem ((c.tc : Thread Cert.BigRefIdeal.nD Cert.BigRefIdeal.τ).loc Cert.BigRefIdeal.main_arg2) = m ((c.tc : Thread Cert.BigRefIdeal.nD Cert.BigRefIdeal.τ).loc Cert.BigRefIdeal.main_arg2)
      ∧ r.2.mem ((c.tc : Thread Cert.BigRefIdeal.nD Cert.BigRefIdeal.τ).loc Cert.BigRefIdeal.main_arg3) = m ((c.tc : Thread Cert.BigRefIdeal.nD Cert.BigRefIdeal.τ).loc Cert.BigRefIdeal.main_arg3)
      ∧ r.2.mem ((c.tc : Thread Cert.BigRefIdeal.nD Cert.BigRefIdeal.τ).loc Cert.BigRefIdeal.main_arg4) = m ((c.tc : Thread Cert.BigRefIdeal.nD Cert.BigRefIdeal.τ).loc Cert.BigRefIdeal.main_arg4)
      ∧ r.2.mem ((c.tc : Thread Cert.BigRefIdeal.nD Cert.BigRefIdeal.τ).loc Cert.BigRefIdeal.main_arg5) = m ((c.tc : Thread Cert.BigRefIdeal.nD Cert.BigRefIdeal.τ).loc Cert.BigRefIdeal.main_arg5)
      ∧ r.2.mem ((c.tc : Thread Cert.BigRefIdeal.nD Cert.BigRefIdeal.τ).loc Cert.BigRefIdeal.main_arg6) = m ((c.tc : Thread Cert.BigRefIdeal.nD Cert.BigRefIdeal.τ).loc Cert.BigRefIdeal.main_arg6)
      ∧ r.2.mem ((c.tc : Thread Cert.BigRefIdeal.nD Cert.BigRefIdeal.τ).loc Cert.BigRefIdeal.main_arg7) = m ((c.tc : Thread Cert.BigRefIdeal.nD Cert.BigRefIdeal.τ).loc Cert.BigRefIdeal.main_arg7)
      ∧ r.2.mem ((c.tc : Thread Cert.BigRefIdeal.nD Cert.BigRefIdeal.τ).loc Cert.BigRefIdeal.main_arg8) = m ((c.tc : Thread Cert.BigRefIdeal.nD Cert.BigRefIdeal.τ).loc Cert.BigRefIdeal.main_arg8)
      ∧ r.2.mem ((c.tc : Thread Cert.BigRefIdeal.nD Cert.BigRefIdeal.τ).loc Cert.BigRefIdeal.main_arg9) = m ((c.tc : Thread Cert.BigRefIdeal.nD Cert.BigRefIdeal.τ).loc Cert.BigRefIdeal.main_arg9)
      ∧ r.2.mem ((c.tc : Thread Cert.BigRefIdeal.nD Cert.BigRefIdeal.τ).loc Cert.BigRefIdeal.main_arg10) = m ((c.tc : Thread Cert.BigRefIdeal.nD Cert.BigRefIdeal.τ).loc Cert.BigRefIdeal.main_arg10)
      ∧ r.2.mem ((c.tc : Thread Cert.BigRefIdeal.nD Cert.BigRefIdeal.τ).loc Cert.BigRefIdeal.main_arg11) = m ((c.tc : Thread Cert.BigRefIdeal.nD Cert.BigRefIdeal.τ).loc Cert.BigRefIdeal.main_arg11)
      ∧ r.2.mem ((c.tc : Thread Cert.BigRefIdeal.nD Cert.BigRefIdeal.τ).loc Cert.BigRefIdeal.main_arg12) = m ((c.tc : Thread Cert.BigRefIdeal.nD Cert.BigRefIdeal.τ).loc Cert.BigRefIdeal.main_arg12)
      ∧ r.2.mem ((c.tc : Thread Cert.BigRefIdeal.nD Cert.BigRefIdeal.τ).loc Cert.BigRefIdeal.main_arg13) = m ((c.tc : Thread Cert.BigRefIdeal.nD Cert.BigRefIdeal.τ).loc Cert.BigRefIdeal.main_arg13)
      ∧ r.2.mem ((c.tc : Thread Cert.BigRefIdeal.nD Cert.BigRefIdeal.τ).loc Cert.BigRefIdeal.main_arg14) = m ((c.tc : Thread Cert.BigRefIdeal.nD Cert.BigRefIdeal.τ).loc Cert.BigRefIdeal.main_arg14)
      ∧ r.2.mem ((c.tc : Thread Cert.BigRefIdeal.nD Cert.BigRefIdeal.τ).loc Cert.BigRefIdeal.main_arg15) = m ((c.tc : Thread Cert.BigRefIdeal.nD Cert.BigRefIdeal.τ).loc Cert.BigRefIdeal.main_arg15)
      ∧ r.2.mem ((c.tc : Thread Cert.BigRefIdeal.nD Cert.BigRefIdeal.τ).loc Cert.BigRefIdeal.main_arg16) = m ((c.tc : Thread Cert.BigRefIdeal.nD Cert.BigRefIdeal.τ).loc Cert.BigRefIdeal.main_arg16)
      ∧ r.2.mem ((c.tc : Thread Cert.BigRefIdeal.nD Cert.BigRefIdeal.τ).loc Cert.BigRefIdeal.main_arg17) = m ((c.tc : Thread Cert.BigRefIdeal.nD Cert.BigRefIdeal.τ).loc Cert.BigRefIdeal.main_arg17)
      ∧ r.2.mem ((c.tc : Thread Cert.BigRefIdeal.nD Cert.BigRefIdeal.τ).loc Cert.BigRefIdeal.main_arg18) = m ((c.tc : Thread Cert.BigRefIdeal.nD Cert.BigRefIdeal.τ).loc Cert.BigRefIdeal.main_arg18)
      ∧ r.2.mem ((c.tc : Thread Cert.BigRefIdeal.nD Cert.BigRefIdeal.τ).loc Cert.BigRefIdeal.main_arg19) = m ((c.tc : Thread Cert.BigRefIdeal.nD Cert.BigRefIdeal.τ).loc Cert.BigRefIdeal.main_arg19)
      ∧ r.2.mem ((c.tc : Thread Cert.BigRefIdeal.nD Cert.BigRefIdeal.τ).loc Cert.BigRefIdeal.main_arg20) = m ((c.tc : Thread Cert.BigRefIdeal.nD Cert.BigRefIdeal.τ).loc Cert.BigRefIdeal.main_arg20)
      ∧ r.2.mem ((c.tc : Thread Cert.BigRefIdeal.nD Cert.BigRefIdeal.τ).loc Cert.BigRefIdeal.main_arg21) = m ((c.tc : Thread Cert.BigRefIdeal.nD Cert.BigRefIdeal.τ).loc Cert.BigRefIdeal.main_arg21)
      ∧ r.2.mem ((c.tc : Thread Cert.BigRefIdeal.nD Cert.BigRefIdeal.τ).loc Cert.BigRefIdeal.main_arg22) = m ((c.tc : Thread Cert.BigRefIdeal.nD Cert.BigRefIdeal.τ).loc Cert.BigRefIdeal.main_arg22)
      ∧ r.2.mem ((c.tc : Thread Cert.BigRefIdeal.nD Cert.BigRefIdeal.τ).loc Cert.BigRefIdeal.main_arg23) = m ((c.tc : Thread Cert.BigRefIdeal.nD Cert.BigRefIdeal.τ).loc Cert.BigRefIdeal.main_arg23))
      ∧ r.2.sem = fun _ => 0)

def preserves_MlpX_MlpXIdeal : Prop :=
  True

def algebraic_MlpXIdeal_MlpXRefIdeal [hMlpXIdeal : Cert.MlpXIdeal.Facts] [hMlpXRefIdeal : Cert.MlpXRefIdeal.Facts] : Prop :=
  ∀ (m : (ℓ : Loc Cert.MlpXIdeal.nD Cert.MlpXIdeal.τ Cert.MlpXIdeal.sig) → Buf (Elt Ideal) ℓ) (g : Dev Cert.MlpXIdeal.nD → PrngReg)
    (m' : (ℓ : Loc Cert.MlpXRefIdeal.nD Cert.MlpXRefIdeal.τ Cert.MlpXRefIdeal.sig) → Buf (Elt Ideal) ℓ) (g' : Dev Cert.MlpXRefIdeal.nD → PrngReg), Pre_MlpXIdeal m →
    (∀ c : Dev Cert.MlpXIdeal.nD,
      m' ((c.tc : Thread Cert.MlpXRefIdeal.nD Cert.MlpXRefIdeal.τ).loc Cert.MlpXRefIdeal.main_arg0) = m ((c.tc : Thread Cert.MlpXIdeal.nD Cert.MlpXIdeal.τ).loc Cert.MlpXIdeal.main_arg0)
      ∧ m' ((c.tc : Thread Cert.MlpXRefIdeal.nD Cert.MlpXRefIdeal.τ).loc Cert.MlpXRefIdeal.main_arg1) = m ((c.tc : Thread Cert.MlpXIdeal.nD Cert.MlpXIdeal.τ).loc Cert.MlpXIdeal.main_arg1)
      ∧ m' ((c.tc : Thread Cert.MlpXRefIdeal.nD Cert.MlpXRefIdeal.τ).loc Cert.MlpXRefIdeal.main_arg2) = m ((c.tc : Thread Cert.MlpXIdeal.nD Cert.MlpXIdeal.τ).loc Cert.MlpXIdeal.main_arg2)
      ∧ m' ((c.tc : Thread Cert.MlpXRefIdeal.nD Cert.MlpXRefIdeal.τ).loc Cert.MlpXRefIdeal.main_arg3) = m ((c.tc : Thread Cert.MlpXIdeal.nD Cert.MlpXIdeal.τ).loc Cert.MlpXIdeal.main_arg3)
      ∧ m' ((c.tc : Thread Cert.MlpXRefIdeal.nD Cert.MlpXRefIdeal.τ).loc Cert.MlpXRefIdeal.main_arg4) = m ((c.tc : Thread Cert.MlpXIdeal.nD Cert.MlpXIdeal.τ).loc Cert.MlpXIdeal.main_arg4)) →
    ∃ (v0 : (c : Dev Cert.MlpXIdeal.nD) → Buf (Elt Ideal) ((c.tc : Thread Cert.MlpXIdeal.nD Cert.MlpXIdeal.τ).loc Cert.MlpXIdeal.main_v22_0)) (v1 : (c : Dev Cert.MlpXIdeal.nD) → Buf (Elt Ideal) ((c.tc : Thread Cert.MlpXIdeal.nD Cert.MlpXIdeal.τ).loc Cert.MlpXIdeal.main_v22_1)) (v2 : (c : Dev Cert.MlpXIdeal.nD) → Buf (Elt Ideal) ((c.tc : Thread Cert.MlpXIdeal.nD Cert.MlpXIdeal.τ).loc Cert.MlpXIdeal.main_v22_2)),
      θ_run (Cert.MlpXIdeal.defs (F := Ideal)) (onTc (τ := Cert.MlpXIdeal.τ) (Cert.MlpXIdeal.main (F := Ideal))) ⟨m, fun _ => 0, g⟩ (fun r => ∀ c : Dev Cert.MlpXIdeal.nD,
          r.2.mem ((c.tc : Thread Cert.MlpXIdeal.nD Cert.MlpXIdeal.τ).loc Cert.MlpXIdeal.main_v22_0) = v0 c
          ∧ r.2.mem ((c.tc : Thread Cert.MlpXIdeal.nD Cert.MlpXIdeal.τ).loc Cert.MlpXIdeal.main_v22_1) = v1 c
          ∧ r.2.mem ((c.tc : Thread Cert.MlpXIdeal.nD Cert.MlpXIdeal.τ).loc Cert.MlpXIdeal.main_v22_2) = v2 c
          ∧ r.2.mem ((c.tc : Thread Cert.MlpXIdeal.nD Cert.MlpXIdeal.τ).loc Cert.MlpXIdeal.main_arg0) = m ((c.tc : Thread Cert.MlpXIdeal.nD Cert.MlpXIdeal.τ).loc Cert.MlpXIdeal.main_arg0)
          ∧ r.2.mem ((c.tc : Thread Cert.MlpXIdeal.nD Cert.MlpXIdeal.τ).loc Cert.MlpXIdeal.main_arg1) = m ((c.tc : Thread Cert.MlpXIdeal.nD Cert.MlpXIdeal.τ).loc Cert.MlpXIdeal.main_arg1)
          ∧ r.2.mem ((c.tc : Thread Cert.MlpXIdeal.nD Cert.MlpXIdeal.τ).loc Cert.MlpXIdeal.main_arg2) = m ((c.tc : Thread Cert.MlpXIdeal.nD Cert.MlpXIdeal.τ).loc Cert.MlpXIdeal.main_arg2)
          ∧ r.2.mem ((c.tc : Thread Cert.MlpXIdeal.nD Cert.MlpXIdeal.τ).loc Cert.MlpXIdeal.main_arg3) = m ((c.tc : Thread Cert.MlpXIdeal.nD Cert.MlpXIdeal.τ).loc Cert.MlpXIdeal.main_arg3)
          ∧ r.2.mem ((c.tc : Thread Cert.MlpXIdeal.nD Cert.MlpXIdeal.τ).loc Cert.MlpXIdeal.main_arg4) = m ((c.tc : Thread Cert.MlpXIdeal.nD Cert.MlpXIdeal.τ).loc Cert.MlpXIdeal.main_arg4))
      ∧ θ_run (Cert.MlpXRefIdeal.defs (F := Ideal)) (onTc (τ := Cert.MlpXRefIdeal.τ) (Cert.MlpXRefIdeal.main (F := Ideal))) ⟨m', fun _ => 0, g'⟩ (fun r => ∀ c : Dev Cert.MlpXRefIdeal.nD,
          r.2.mem ((c.tc : Thread Cert.MlpXRefIdeal.nD Cert.MlpXRefIdeal.τ).loc Cert.MlpXRefIdeal.main_v79) = v0 c
          ∧ r.2.mem ((c.tc : Thread Cert.MlpXRefIdeal.nD Cert.MlpXRefIdeal.τ).loc Cert.MlpXRefIdeal.main_v78) = v1 c
          ∧ r.2.mem ((c.tc : Thread Cert.MlpXRefIdeal.nD Cert.MlpXRefIdeal.τ).loc Cert.MlpXRefIdeal.main_v82) = v2 c
          ∧ r.2.mem ((c.tc : Thread Cert.MlpXRefIdeal.nD Cert.MlpXRefIdeal.τ).loc Cert.MlpXRefIdeal.main_arg0) = m' ((c.tc : Thread Cert.MlpXRefIdeal.nD Cert.MlpXRefIdeal.τ).loc Cert.MlpXRefIdeal.main_arg0)
          ∧ r.2.mem ((c.tc : Thread Cert.MlpXRefIdeal.nD Cert.MlpXRefIdeal.τ).loc Cert.MlpXRefIdeal.main_arg1) = m' ((c.tc : Thread Cert.MlpXRefIdeal.nD Cert.MlpXRefIdeal.τ).loc Cert.MlpXRefIdeal.main_arg1)
          ∧ r.2.mem ((c.tc : Thread Cert.MlpXRefIdeal.nD Cert.MlpXRefIdeal.τ).loc Cert.MlpXRefIdeal.main_arg2) = m' ((c.tc : Thread Cert.MlpXRefIdeal.nD Cert.MlpXRefIdeal.τ).loc Cert.MlpXRefIdeal.main_arg2)
          ∧ r.2.mem ((c.tc : Thread Cert.MlpXRefIdeal.nD Cert.MlpXRefIdeal.τ).loc Cert.MlpXRefIdeal.main_arg3) = m' ((c.tc : Thread Cert.MlpXRefIdeal.nD Cert.MlpXRefIdeal.τ).loc Cert.MlpXRefIdeal.main_arg3)
          ∧ r.2.mem ((c.tc : Thread Cert.MlpXRefIdeal.nD Cert.MlpXRefIdeal.τ).loc Cert.MlpXRefIdeal.main_arg4) = m' ((c.tc : Thread Cert.MlpXRefIdeal.nD Cert.MlpXRefIdeal.τ).loc Cert.MlpXRefIdeal.main_arg4))

def preserves_MlpW_MlpWIdeal : Prop :=
  True

def algebraic_MlpWIdeal_MlpWRefIdeal [hMlpWIdeal : Cert.MlpWIdeal.Facts] [hMlpWRefIdeal : Cert.MlpWRefIdeal.Facts] : Prop :=
  ∀ (m : (ℓ : Loc Cert.MlpWIdeal.nD Cert.MlpWIdeal.τ Cert.MlpWIdeal.sig) → Buf (Elt Ideal) ℓ) (g : Dev Cert.MlpWIdeal.nD → PrngReg)
    (m' : (ℓ : Loc Cert.MlpWRefIdeal.nD Cert.MlpWRefIdeal.τ Cert.MlpWRefIdeal.sig) → Buf (Elt Ideal) ℓ) (g' : Dev Cert.MlpWRefIdeal.nD → PrngReg), Pre_MlpWIdeal m →
    (∀ c : Dev Cert.MlpWIdeal.nD,
      m' ((c.tc : Thread Cert.MlpWRefIdeal.nD Cert.MlpWRefIdeal.τ).loc Cert.MlpWRefIdeal.main_arg0) = m ((c.tc : Thread Cert.MlpWIdeal.nD Cert.MlpWIdeal.τ).loc Cert.MlpWIdeal.main_arg0)
      ∧ m' ((c.tc : Thread Cert.MlpWRefIdeal.nD Cert.MlpWRefIdeal.τ).loc Cert.MlpWRefIdeal.main_arg1) = m ((c.tc : Thread Cert.MlpWIdeal.nD Cert.MlpWIdeal.τ).loc Cert.MlpWIdeal.main_arg1)
      ∧ m' ((c.tc : Thread Cert.MlpWRefIdeal.nD Cert.MlpWRefIdeal.τ).loc Cert.MlpWRefIdeal.main_arg2) = m ((c.tc : Thread Cert.MlpWIdeal.nD Cert.MlpWIdeal.τ).loc Cert.MlpWIdeal.main_arg2)
      ∧ m' ((c.tc : Thread Cert.MlpWRefIdeal.nD Cert.MlpWRefIdeal.τ).loc Cert.MlpWRefIdeal.main_arg3) = m ((c.tc : Thread Cert.MlpWIdeal.nD Cert.MlpWIdeal.τ).loc Cert.MlpWIdeal.main_arg3)
      ∧ m' ((c.tc : Thread Cert.MlpWRefIdeal.nD Cert.MlpWRefIdeal.τ).loc Cert.MlpWRefIdeal.main_arg4) = m ((c.tc : Thread Cert.MlpWIdeal.nD Cert.MlpWIdeal.τ).loc Cert.MlpWIdeal.main_arg4)) →
    ∃ (v0 : (c : Dev Cert.MlpWIdeal.nD) → Buf (Elt Ideal) ((c.tc : Thread Cert.MlpWIdeal.nD Cert.MlpWIdeal.τ).loc Cert.MlpWIdeal.main_v31_0)) (v1 : (c : Dev Cert.MlpWIdeal.nD) → Buf (Elt Ideal) ((c.tc : Thread Cert.MlpWIdeal.nD Cert.MlpWIdeal.τ).loc Cert.MlpWIdeal.main_v31_1)),
      θ_run (Cert.MlpWIdeal.defs (F := Ideal)) (onTc (τ := Cert.MlpWIdeal.τ) (Cert.MlpWIdeal.main (F := Ideal))) ⟨m, fun _ => 0, g⟩ (fun r => ∀ c : Dev Cert.MlpWIdeal.nD,
          r.2.mem ((c.tc : Thread Cert.MlpWIdeal.nD Cert.MlpWIdeal.τ).loc Cert.MlpWIdeal.main_v31_0) = v0 c
          ∧ r.2.mem ((c.tc : Thread Cert.MlpWIdeal.nD Cert.MlpWIdeal.τ).loc Cert.MlpWIdeal.main_v31_1) = v1 c
          ∧ r.2.mem ((c.tc : Thread Cert.MlpWIdeal.nD Cert.MlpWIdeal.τ).loc Cert.MlpWIdeal.main_arg0) = m ((c.tc : Thread Cert.MlpWIdeal.nD Cert.MlpWIdeal.τ).loc Cert.MlpWIdeal.main_arg0)
          ∧ r.2.mem ((c.tc : Thread Cert.MlpWIdeal.nD Cert.MlpWIdeal.τ).loc Cert.MlpWIdeal.main_arg1) = m ((c.tc : Thread Cert.MlpWIdeal.nD Cert.MlpWIdeal.τ).loc Cert.MlpWIdeal.main_arg1)
          ∧ r.2.mem ((c.tc : Thread Cert.MlpWIdeal.nD Cert.MlpWIdeal.τ).loc Cert.MlpWIdeal.main_arg2) = m ((c.tc : Thread Cert.MlpWIdeal.nD Cert.MlpWIdeal.τ).loc Cert.MlpWIdeal.main_arg2)
          ∧ r.2.mem ((c.tc : Thread Cert.MlpWIdeal.nD Cert.MlpWIdeal.τ).loc Cert.MlpWIdeal.main_arg3) = m ((c.tc : Thread Cert.MlpWIdeal.nD Cert.MlpWIdeal.τ).loc Cert.MlpWIdeal.main_arg3)
          ∧ r.2.mem ((c.tc : Thread Cert.MlpWIdeal.nD Cert.MlpWIdeal.τ).loc Cert.MlpWIdeal.main_arg4) = m ((c.tc : Thread Cert.MlpWIdeal.nD Cert.MlpWIdeal.τ).loc Cert.MlpWIdeal.main_arg4))
      ∧ θ_run (Cert.MlpWRefIdeal.defs (F := Ideal)) (onTc (τ := Cert.MlpWRefIdeal.τ) (Cert.MlpWRefIdeal.main (F := Ideal))) ⟨m', fun _ => 0, g'⟩ (fun r => ∀ c : Dev Cert.MlpWRefIdeal.nD,
          r.2.mem ((c.tc : Thread Cert.MlpWRefIdeal.nD Cert.MlpWRefIdeal.τ).loc Cert.MlpWRefIdeal.main_v33) = v0 c
          ∧ r.2.mem ((c.tc : Thread Cert.MlpWRefIdeal.nD Cert.MlpWRefIdeal.τ).loc Cert.MlpWRefIdeal.main_v35) = v1 c
          ∧ r.2.mem ((c.tc : Thread Cert.MlpWRefIdeal.nD Cert.MlpWRefIdeal.τ).loc Cert.MlpWRefIdeal.main_arg0) = m' ((c.tc : Thread Cert.MlpWRefIdeal.nD Cert.MlpWRefIdeal.τ).loc Cert.MlpWRefIdeal.main_arg0)
          ∧ r.2.mem ((c.tc : Thread Cert.MlpWRefIdeal.nD Cert.MlpWRefIdeal.τ).loc Cert.MlpWRefIdeal.main_arg1) = m' ((c.tc : Thread Cert.MlpWRefIdeal.nD Cert.MlpWRefIdeal.τ).loc Cert.MlpWRefIdeal.main_arg1)
          ∧ r.2.mem ((c.tc : Thread Cert.MlpWRefIdeal.nD Cert.MlpWRefIdeal.τ).loc Cert.MlpWRefIdeal.main_arg2) = m' ((c.tc : Thread Cert.MlpWRefIdeal.nD Cert.MlpWRefIdeal.τ).loc Cert.MlpWRefIdeal.main_arg2)
          ∧ r.2.mem ((c.tc : Thread Cert.MlpWRefIdeal.nD Cert.MlpWRefIdeal.τ).loc Cert.MlpWRefIdeal.main_arg3) = m' ((c.tc : Thread Cert.MlpWRefIdeal.nD Cert.MlpWRefIdeal.τ).loc Cert.MlpWRefIdeal.main_arg3)
          ∧ r.2.mem ((c.tc : Thread Cert.MlpWRefIdeal.nD Cert.MlpWRefIdeal.τ).loc Cert.MlpWRefIdeal.main_arg4) = m' ((c.tc : Thread Cert.MlpWRefIdeal.nD Cert.MlpWRefIdeal.τ).loc Cert.MlpWRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v5_0)) (v1 : (c : Dev Cert.InIdeal.nD) → Buf (Elt Ideal) ((c.tc : Thread Cert.InIdeal.nD Cert.InIdeal.τ).loc Cert.InIdeal.main_v5_1)) (v2 : (c : Dev Cert.InIdeal.nD) → Buf (Elt Ideal) ((c.tc : Thread Cert.InIdeal.nD Cert.InIdeal.τ).loc Cert.InIdeal.main_v5_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5_0) = v0 c
          ∧ r.2.mem ((c.tc : Thread Cert.InIdeal.nD Cert.InIdeal.τ).loc Cert.InIdeal.main_v5_1) = v1 c
          ∧ r.2.mem ((c.tc : Thread Cert.InIdeal.nD Cert.InIdeal.τ).loc Cert.InIdeal.main_v5_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v40) = v0 c
          ∧ r.2.mem ((c.tc : Thread Cert.InRefIdeal.nD Cert.InRefIdeal.τ).loc Cert.InRefIdeal.main_v43) = v1 c
          ∧ r.2.mem ((c.tc : Thread Cert.InRefIdeal.nD Cert.InRefIdeal.τ).loc Cert.InRefIdeal.main_v46) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)) →
    ∃ (v0 : (c : Dev Cert.HeadIdeal.nD) → Buf (Elt Ideal) ((c.tc : Thread Cert.HeadIdeal.nD Cert.HeadIdeal.τ).loc Cert.HeadIdeal.main_v5_0)) (v1 : (c : Dev Cert.HeadIdeal.nD) → Buf (Elt Ideal) ((c.tc : Thread Cert.HeadIdeal.nD Cert.HeadIdeal.τ).loc Cert.HeadIdeal.main_v5_1)) (v2 : (c : Dev Cert.HeadIdeal.nD) → Buf (Elt Ideal) ((c.tc : Thread Cert.HeadIdeal.nD Cert.HeadIdeal.τ).loc Cert.HeadIdeal.main_v5_2)) (v3 : (c : Dev Cert.HeadIdeal.nD) → Buf (Elt Ideal) ((c.tc : Thread Cert.HeadIdeal.nD Cert.HeadIdeal.τ).loc Cert.HeadIdeal.main_v5_3)) (v4 : (c : Dev Cert.HeadIdeal.nD) → Buf (Elt Ideal) ((c.tc : Thread Cert.HeadIdeal.nD Cert.HeadIdeal.τ).loc Cert.HeadIdeal.main_v5_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v5_0) = v0 c
          ∧ r.2.mem ((c.tc : Thread Cert.HeadIdeal.nD Cert.HeadIdeal.τ).loc Cert.HeadIdeal.main_v5_1) = v1 c
          ∧ r.2.mem ((c.tc : Thread Cert.HeadIdeal.nD Cert.HeadIdeal.τ).loc Cert.HeadIdeal.main_v5_2) = v2 c
          ∧ r.2.mem ((c.tc : Thread Cert.HeadIdeal.nD Cert.HeadIdeal.τ).loc Cert.HeadIdeal.main_v5_3) = v3 c
          ∧ r.2.mem ((c.tc : Thread Cert.HeadIdeal.nD Cert.HeadIdeal.τ).loc Cert.HeadIdeal.main_v5_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v114) = v0 c
          ∧ r.2.mem ((c.tc : Thread Cert.HeadRefIdeal.nD Cert.HeadRefIdeal.τ).loc Cert.HeadRefIdeal.main_v123) = v1 c
          ∧ r.2.mem ((c.tc : Thread Cert.HeadRefIdeal.nD Cert.HeadRefIdeal.τ).loc Cert.HeadRefIdeal.main_v124) = v2 c
          ∧ r.2.mem ((c.tc : Thread Cert.HeadRefIdeal.nD Cert.HeadRefIdeal.τ).loc Cert.HeadRefIdeal.main_v125) = v3 c
          ∧ r.2.mem ((c.tc : Thread Cert.HeadRefIdeal.nD Cert.HeadRefIdeal.τ).loc Cert.HeadRefIdeal.main_v122) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7))

def preserves_Adam_AdamIdeal : Prop :=
  IdealRules.named_const.Statement Cert.AdamIdeal.κ "c1" .f32 0x3FC48605#32 (((5463681 / 8388608)⁻¹ : ℝ) : EReal)
  ∧ IdealRules.named_const.Statement Cert.AdamIdeal.κ "c2" .f32 0x42C8E6D3#32 (((2672307 / 268435456)⁻¹ : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg1) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Big_BigIdeal : Prop :=
  IdealRules.named_const.Statement Cert.BigIdeal.κ "c1" .f32 0x3FC48605#32 (((5463681 / 8388608)⁻¹ : ℝ) : EReal)
  ∧ IdealRules.named_const.Statement Cert.BigIdeal.κ "c2" .f32 0x42C8E6D3#32 (((2672307 / 268435456)⁻¹ : ℝ) : EReal)

def algebraic_BigIdeal_BigRefIdeal [hBigIdeal : Cert.BigIdeal.Facts] [hBigRefIdeal : Cert.BigRefIdeal.Facts] : Prop :=
  ∀ (m : (ℓ : Loc Cert.BigIdeal.nD Cert.BigIdeal.τ Cert.BigIdeal.sig) → Buf (Elt Ideal) ℓ) (g : Dev Cert.BigIdeal.nD → PrngReg)
    (m' : (ℓ : Loc Cert.BigRefIdeal.nD Cert.BigRefIdeal.τ Cert.BigRefIdeal.sig) → Buf (Elt Ideal) ℓ) (g' : Dev Cert.BigRefIdeal.nD → PrngReg), Pre_BigIdeal m →
    (∀ c : Dev Cert.BigIdeal.nD,
      m' ((c.tc : Thread Cert.BigRefIdeal.nD Cert.BigRefIdeal.τ).loc Cert.BigRefIdeal.main_arg0) = m ((c.tc : Thread Cert.BigIdeal.nD Cert.BigIdeal.τ).loc Cert.BigIdeal.main_arg0)
      ∧ m' ((c.tc : Thread Cert.BigRefIdeal.nD Cert.BigRefIdeal.τ).loc Cert.BigRefIdeal.main_arg1) = m ((c.tc : Thread Cert.BigIdeal.nD Cert.BigIdeal.τ).loc Cert.BigIdeal.main_arg1)
      ∧ m' ((c.tc : Thread Cert.BigRefIdeal.nD Cert.BigRefIdeal.τ).loc Cert.BigRefIdeal.main_arg2) = m ((c.tc : Thread Cert.BigIdeal.nD Cert.BigIdeal.τ).loc Cert.BigIdeal.main_arg2)
      ∧ m' ((c.tc : Thread Cert.BigRefIdeal.nD Cert.BigRefIdeal.τ).loc Cert.BigRefIdeal.main_arg3) = m ((c.tc : Thread Cert.BigIdeal.nD Cert.BigIdeal.τ).loc Cert.BigIdeal.main_arg3)
      ∧ m' ((c.tc : Thread Cert.BigRefIdeal.nD Cert.BigRefIdeal.τ).loc Cert.BigRefIdeal.main_arg4) = m ((c.tc : Thread Cert.BigIdeal.nD Cert.BigIdeal.τ).loc Cert.BigIdeal.main_arg4)
      ∧ m' ((c.tc : Thread Cert.BigRefIdeal.nD Cert.BigRefIdeal.τ).loc Cert.BigRefIdeal.main_arg5) = m ((c.tc : Thread Cert.BigIdeal.nD Cert.BigIdeal.τ).loc Cert.BigIdeal.main_arg5)
      ∧ m' ((c.tc : Thread Cert.BigRefIdeal.nD Cert.BigRefIdeal.τ).loc Cert.BigRefIdeal.main_arg6) = m ((c.tc : Thread Cert.BigIdeal.nD Cert.BigIdeal.τ).loc Cert.BigIdeal.main_arg6)
      ∧ m' ((c.tc : Thread Cert.BigRefIdeal.nD Cert.BigRefIdeal.τ).loc Cert.BigRefIdeal.main_arg7) = m ((c.tc : Thread Cert.BigIdeal.nD Cert.BigIdeal.τ).loc Cert.BigIdeal.main_arg7)
      ∧ m' ((c.tc : Thread Cert.BigRefIdeal.nD Cert.BigRefIdeal.τ).loc Cert.BigRefIdeal.main_arg8) = m ((c.tc : Thread Cert.BigIdeal.nD Cert.BigIdeal.τ).loc Cert.BigIdeal.main_arg8)
      ∧ m' ((c.tc : Thread Cert.BigRefIdeal.nD Cert.BigRefIdeal.τ).loc Cert.BigRefIdeal.main_arg9) = m ((c.tc : Thread Cert.BigIdeal.nD Cert.BigIdeal.τ).loc Cert.BigIdeal.main_arg9)
      ∧ m' ((c.tc : Thread Cert.BigRefIdeal.nD Cert.BigRefIdeal.τ).loc Cert.BigRefIdeal.main_arg10) = m ((c.tc : Thread Cert.BigIdeal.nD Cert.BigIdeal.τ).loc Cert.BigIdeal.main_arg10)
      ∧ m' ((c.tc : Thread Cert.BigRefIdeal.nD Cert.BigRefIdeal.τ).loc Cert.BigRefIdeal.main_arg11) = m ((c.tc : Thread Cert.BigIdeal.nD Cert.BigIdeal.τ).loc Cert.BigIdeal.main_arg11)
      ∧ m' ((c.tc : Thread Cert.BigRefIdeal.nD Cert.BigRefIdeal.τ).loc Cert.BigRefIdeal.main_arg12) = m ((c.tc : Thread Cert.BigIdeal.nD Cert.BigIdeal.τ).loc Cert.BigIdeal.main_arg12)
      ∧ m' ((c.tc : Thread Cert.BigRefIdeal.nD Cert.BigRefIdeal.τ).loc Cert.BigRefIdeal.main_arg13) = m ((c.tc : Thread Cert.BigIdeal.nD Cert.BigIdeal.τ).loc Cert.BigIdeal.main_arg13)
      ∧ m' ((c.tc : Thread Cert.BigRefIdeal.nD Cert.BigRefIdeal.τ).loc Cert.BigRefIdeal.main_arg14) = m ((c.tc : Thread Cert.BigIdeal.nD Cert.BigIdeal.τ).loc Cert.BigIdeal.main_arg14)
      ∧ m' ((c.tc : Thread Cert.BigRefIdeal.nD Cert.BigRefIdeal.τ).loc Cert.BigRefIdeal.main_arg15) = m ((c.tc : Thread Cert.BigIdeal.nD Cert.BigIdeal.τ).loc Cert.BigIdeal.main_arg15)
      ∧ m' ((c.tc : Thread Cert.BigRefIdeal.nD Cert.BigRefIdeal.τ).loc Cert.BigRefIdeal.main_arg16) = m ((c.tc : Thread Cert.BigIdeal.nD Cert.BigIdeal.τ).loc Cert.BigIdeal.main_arg16)
      ∧ m' ((c.tc : Thread Cert.BigRefIdeal.nD Cert.BigRefIdeal.τ).loc Cert.BigRefIdeal.main_arg17) = m ((c.tc : Thread Cert.BigIdeal.nD Cert.BigIdeal.τ).loc Cert.BigIdeal.main_arg17)
      ∧ m' ((c.tc : Thread Cert.BigRefIdeal.nD Cert.BigRefIdeal.τ).loc Cert.BigRefIdeal.main_arg18) = m ((c.tc : Thread Cert.BigIdeal.nD Cert.BigIdeal.τ).loc Cert.BigIdeal.main_arg18)
      ∧ m' ((c.tc : Thread Cert.BigRefIdeal.nD Cert.BigRefIdeal.τ).loc Cert.BigRefIdeal.main_arg19) = m ((c.tc : Thread Cert.BigIdeal.nD Cert.BigIdeal.τ).loc Cert.BigIdeal.main_arg19)
      ∧ m' ((c.tc : Thread Cert.BigRefIdeal.nD Cert.BigRefIdeal.τ).loc Cert.BigRefIdeal.main_arg20) = m ((c.tc : Thread Cert.BigIdeal.nD Cert.BigIdeal.τ).loc Cert.BigIdeal.main_arg20)
      ∧ m' ((c.tc : Thread Cert.BigRefIdeal.nD Cert.BigRefIdeal.τ).loc Cert.BigRefIdeal.main_arg21) = m ((c.tc : Thread Cert.BigIdeal.nD Cert.BigIdeal.τ).loc Cert.BigIdeal.main_arg21)
      ∧ m' ((c.tc : Thread Cert.BigRefIdeal.nD Cert.BigRefIdeal.τ).loc Cert.BigRefIdeal.main_arg22) = m ((c.tc : Thread Cert.BigIdeal.nD Cert.BigIdeal.τ).loc Cert.BigIdeal.main_arg22)
      ∧ m' ((c.tc : Thread Cert.BigRefIdeal.nD Cert.BigRefIdeal.τ).loc Cert.BigRefIdeal.main_arg23) = m ((c.tc : Thread Cert.BigIdeal.nD Cert.BigIdeal.τ).loc Cert.BigIdeal.main_arg23)) →
    ∃ (v0 : (c : Dev Cert.BigIdeal.nD) → Buf (Elt Ideal) ((c.tc : Thread Cert.BigIdeal.nD Cert.BigIdeal.τ).loc Cert.BigIdeal.main_v0_0)) (v1 : (c : Dev Cert.BigIdeal.nD) → Buf (Elt Ideal) ((c.tc : Thread Cert.BigIdeal.nD Cert.BigIdeal.τ).loc Cert.BigIdeal.main_v0_1)) (v2 : (c : Dev Cert.BigIdeal.nD) → Buf (Elt Ideal) ((c.tc : Thread Cert.BigIdeal.nD Cert.BigIdeal.τ).loc Cert.BigIdeal.main_v0_2)) (v3 : (c : Dev Cert.BigIdeal.nD) → Buf (Elt Ideal) ((c.tc : Thread Cert.BigIdeal.nD Cert.BigIdeal.τ).loc Cert.BigIdeal.main_v0_3)) (v4 : (c : Dev Cert.BigIdeal.nD) → Buf (Elt Ideal) ((c.tc : Thread Cert.BigIdeal.nD Cert.BigIdeal.τ).loc Cert.BigIdeal.main_v0_4)) (v5 : (c : Dev Cert.BigIdeal.nD) → Buf (Elt Ideal) ((c.tc : Thread Cert.BigIdeal.nD Cert.BigIdeal.τ).loc Cert.BigIdeal.main_v0_5)) (v6 : (c : Dev Cert.BigIdeal.nD) → Buf (Elt Ideal) ((c.tc : Thread Cert.BigIdeal.nD Cert.BigIdeal.τ).loc Cert.BigIdeal.main_v0_6)) (v7 : (c : Dev Cert.BigIdeal.nD) → Buf (Elt Ideal) ((c.tc : Thread Cert.BigIdeal.nD Cert.BigIdeal.τ).loc Cert.BigIdeal.main_v0_7)) (v8 : (c : Dev Cert.BigIdeal.nD) → Buf (Elt Ideal) ((c.tc : Thread Cert.BigIdeal.nD Cert.BigIdeal.τ).loc Cert.BigIdeal.main_v0_8)) (v9 : (c : Dev Cert.BigIdeal.nD) → Buf (Elt Ideal) ((c.tc : Thread Cert.BigIdeal.nD Cert.BigIdeal.τ).loc Cert.BigIdeal.main_v0_9)) (v10 : (c : Dev Cert.BigIdeal.nD) → Buf (Elt Ideal) ((c.tc : Thread Cert.BigIdeal.nD Cert.BigIdeal.τ).loc Cert.BigIdeal.main_v0_10)) (v11 : (c : Dev Cert.BigIdeal.nD) → Buf (Elt Ideal) ((c.tc : Thread Cert.BigIdeal.nD Cert.BigIdeal.τ).loc Cert.BigIdeal.main_v0_11)) (v12 : (c : Dev Cert.BigIdeal.nD) → Buf (Elt Ideal) ((c.tc : Thread Cert.BigIdeal.nD Cert.BigIdeal.τ).loc Cert.BigIdeal.main_v0_12)) (v13 : (c : Dev Cert.BigIdeal.nD) → Buf (Elt Ideal) ((c.tc : Thread Cert.BigIdeal.nD Cert.BigIdeal.τ).loc Cert.BigIdeal.main_v0_13)) (v14 : (c : Dev Cert.BigIdeal.nD) → Buf (Elt Ideal) ((c.tc : Thread Cert.BigIdeal.nD Cert.BigIdeal.τ).loc Cert.BigIdeal.main_v0_14)) (v15 : (c : Dev Cert.BigIdeal.nD) → Buf (Elt Ideal) ((c.tc : Thread Cert.BigIdeal.nD Cert.BigIdeal.τ).loc Cert.BigIdeal.main_v0_15)) (v16 : (c : Dev Cert.BigIdeal.nD) → Buf (Elt Ideal) ((c.tc : Thread Cert.BigIdeal.nD Cert.BigIdeal.τ).loc Cert.BigIdeal.main_v0_16)) (v17 : (c : Dev Cert.BigIdeal.nD) → Buf (Elt Ideal) ((c.tc : Thread Cert.BigIdeal.nD Cert.BigIdeal.τ).loc Cert.BigIdeal.main_v0_17)),
      θ_run (Cert.BigIdeal.defs (F := Ideal)) (onTc (τ := Cert.BigIdeal.τ) (Cert.BigIdeal.main (F := Ideal))) ⟨m, fun _ => 0, g⟩ (fun r => ∀ c : Dev Cert.BigIdeal.nD,
          r.2.mem ((c.tc : Thread Cert.BigIdeal.nD Cert.BigIdeal.τ).loc Cert.BigIdeal.main_v0_0) = v0 c
          ∧ r.2.mem ((c.tc : Thread Cert.BigIdeal.nD Cert.BigIdeal.τ).loc Cert.BigIdeal.main_v0_1) = v1 c
          ∧ r.2.mem ((c.tc : Thread Cert.BigIdeal.nD Cert.BigIdeal.τ).loc Cert.BigIdeal.main_v0_2) = v2 c
          ∧ r.2.mem ((c.tc : Thread Cert.BigIdeal.nD Cert.BigIdeal.τ).loc Cert.BigIdeal.main_v0_3) = v3 c
          ∧ r.2.mem ((c.tc : Thread Cert.BigIdeal.nD Cert.BigIdeal.τ).loc Cert.BigIdeal.main_v0_4) = v4 c
          ∧ r.2.mem ((c.tc : Thread Cert.BigIdeal.nD Cert.BigIdeal.τ).loc Cert.BigIdeal.main_v0_5) = v5 c
          ∧ r.2.mem ((c.tc : Thread Cert.BigIdeal.nD Cert.BigIdeal.τ).loc Cert.BigIdeal.main_v0_6) = v6 c
          ∧ r.2.mem ((c.tc : Thread Cert.BigIdeal.nD Cert.BigIdeal.τ).loc Cert.BigIdeal.main_v0_7) = v7 c
          ∧ r.2.mem ((c.tc : Thread Cert.BigIdeal.nD Cert.BigIdeal.τ).loc Cert.BigIdeal.main_v0_8) = v8 c
          ∧ r.2.mem ((c.tc : Thread Cert.BigIdeal.nD Cert.BigIdeal.τ).loc Cert.BigIdeal.main_v0_9) = v9 c
          ∧ r.2.mem ((c.tc : Thread Cert.BigIdeal.nD Cert.BigIdeal.τ).loc Cert.BigIdeal.main_v0_10) = v10 c
          ∧ r.2.mem ((c.tc : Thread Cert.BigIdeal.nD Cert.BigIdeal.τ).loc Cert.BigIdeal.main_v0_11) = v11 c
          ∧ r.2.mem ((c.tc : Thread Cert.BigIdeal.nD Cert.BigIdeal.τ).loc Cert.BigIdeal.main_v0_12) = v12 c
          ∧ r.2.mem ((c.tc : Thread Cert.BigIdeal.nD Cert.BigIdeal.τ).loc Cert.BigIdeal.main_v0_13) = v13 c
          ∧ r.2.mem ((c.tc : Thread Cert.BigIdeal.nD Cert.BigIdeal.τ).loc Cert.BigIdeal.main_v0_14) = v14 c
          ∧ r.2.mem ((c.tc : Thread Cert.BigIdeal.nD Cert.BigIdeal.τ).loc Cert.BigIdeal.main_v0_15) = v15 c
          ∧ r.2.mem ((c.tc : Thread Cert.BigIdeal.nD Cert.BigIdeal.τ).loc Cert.BigIdeal.main_v0_16) = v16 c
          ∧ r.2.mem ((c.tc : Thread Cert.BigIdeal.nD Cert.BigIdeal.τ).loc Cert.BigIdeal.main_v0_17) = v17 c
          ∧ r.2.mem ((c.tc : Thread Cert.BigIdeal.nD Cert.BigIdeal.τ).loc Cert.BigIdeal.main_arg0) = m ((c.tc : Thread Cert.BigIdeal.nD Cert.BigIdeal.τ).loc Cert.BigIdeal.main_arg0)
          ∧ r.2.mem ((c.tc : Thread Cert.BigIdeal.nD Cert.BigIdeal.τ).loc Cert.BigIdeal.main_arg1) = m ((c.tc : Thread Cert.BigIdeal.nD Cert.BigIdeal.τ).loc Cert.BigIdeal.main_arg1)
          ∧ r.2.mem ((c.tc : Thread Cert.BigIdeal.nD Cert.BigIdeal.τ).loc Cert.BigIdeal.main_arg2) = m ((c.tc : Thread Cert.BigIdeal.nD Cert.BigIdeal.τ).loc Cert.BigIdeal.main_arg2)
          ∧ r.2.mem ((c.tc : Thread Cert.BigIdeal.nD Cert.BigIdeal.τ).loc Cert.BigIdeal.main_arg3) = m ((c.tc : Thread Cert.BigIdeal.nD Cert.BigIdeal.τ).loc Cert.BigIdeal.main_arg3)
          ∧ r.2.mem ((c.tc : Thread Cert.BigIdeal.nD Cert.BigIdeal.τ).loc Cert.BigIdeal.main_arg4) = m ((c.tc : Thread Cert.BigIdeal.nD Cert.BigIdeal.τ).loc Cert.BigIdeal.main_arg4)
          ∧ r.2.mem ((c.tc : Thread Cert.BigIdeal.nD Cert.BigIdeal.τ).loc Cert.BigIdeal.main_arg5) = m ((c.tc : Thread Cert.BigIdeal.nD Cert.BigIdeal.τ).loc Cert.BigIdeal.main_arg5)
          ∧ r.2.mem ((c.tc : Thread Cert.BigIdeal.nD Cert.BigIdeal.τ).loc Cert.BigIdeal.main_arg6) = m ((c.tc : Thread Cert.BigIdeal.nD Cert.BigIdeal.τ).loc Cert.BigIdeal.main_arg6)
          ∧ r.2.mem ((c.tc : Thread Cert.BigIdeal.nD Cert.BigIdeal.τ).loc Cert.BigIdeal.main_arg7) = m ((c.tc : Thread Cert.BigIdeal.nD Cert.BigIdeal.τ).loc Cert.BigIdeal.main_arg7)
          ∧ r.2.mem ((c.tc : Thread Cert.BigIdeal.nD Cert.BigIdeal.τ).loc Cert.BigIdeal.main_arg8) = m ((c.tc : Thread Cert.BigIdeal.nD Cert.BigIdeal.τ).loc Cert.BigIdeal.main_arg8)
          ∧ r.2.mem ((c.tc : Thread Cert.BigIdeal.nD Cert.BigIdeal.τ).loc Cert.BigIdeal.main_arg9) = m ((c.tc : Thread Cert.BigIdeal.nD Cert.BigIdeal.τ).loc Cert.BigIdeal.main_arg9)
          ∧ r.2.mem ((c.tc : Thread Cert.BigIdeal.nD Cert.BigIdeal.τ).loc Cert.BigIdeal.main_arg10) = m ((c.tc : Thread Cert.BigIdeal.nD Cert.BigIdeal.τ).loc Cert.BigIdeal.main_arg10)
          ∧ r.2.mem ((c.tc : Thread Cert.BigIdeal.nD Cert.BigIdeal.τ).loc Cert.BigIdeal.main_arg11) = m ((c.tc : Thread Cert.BigIdeal.nD Cert.BigIdeal.τ).loc Cert.BigIdeal.main_arg11)
          ∧ r.2.mem ((c.tc : Thread Cert.BigIdeal.nD Cert.BigIdeal.τ).loc Cert.BigIdeal.main_arg12) = m ((c.tc : Thread Cert.BigIdeal.nD Cert.BigIdeal.τ).loc Cert.BigIdeal.main_arg12)
          ∧ r.2.mem ((c.tc : Thread Cert.BigIdeal.nD Cert.BigIdeal.τ).loc Cert.BigIdeal.main_arg13) = m ((c.tc : Thread Cert.BigIdeal.nD Cert.BigIdeal.τ).loc Cert.BigIdeal.main_arg13)
          ∧ r.2.mem ((c.tc : Thread Cert.BigIdeal.nD Cert.BigIdeal.τ).loc Cert.BigIdeal.main_arg14) = m ((c.tc : Thread Cert.BigIdeal.nD Cert.BigIdeal.τ).loc Cert.BigIdeal.main_arg14)
          ∧ r.2.mem ((c.tc : Thread Cert.BigIdeal.nD Cert.BigIdeal.τ).loc Cert.BigIdeal.main_arg15) = m ((c.tc : Thread Cert.BigIdeal.nD Cert.BigIdeal.τ).loc Cert.BigIdeal.main_arg15)
          ∧ r.2.mem ((c.tc : Thread Cert.BigIdeal.nD Cert.BigIdeal.τ).loc Cert.BigIdeal.main_arg16) = m ((c.tc : Thread Cert.BigIdeal.nD Cert.BigIdeal.τ).loc Cert.BigIdeal.main_arg16)
          ∧ r.2.mem ((c.tc : Thread Cert.BigIdeal.nD Cert.BigIdeal.τ).loc Cert.BigIdeal.main_arg17) = m ((c.tc : Thread Cert.BigIdeal.nD Cert.BigIdeal.τ).loc Cert.BigIdeal.main_arg17)
          ∧ r.2.mem ((c.tc : Thread Cert.BigIdeal.nD Cert.BigIdeal.τ).loc Cert.BigIdeal.main_arg18) = m ((c.tc : Thread Cert.BigIdeal.nD Cert.BigIdeal.τ).loc Cert.BigIdeal.main_arg18)
          ∧ r.2.mem ((c.tc : Thread Cert.BigIdeal.nD Cert.BigIdeal.τ).loc Cert.BigIdeal.main_arg19) = m ((c.tc : Thread Cert.BigIdeal.nD Cert.BigIdeal.τ).loc Cert.BigIdeal.main_arg19)
          ∧ r.2.mem ((c.tc : Thread Cert.BigIdeal.nD Cert.BigIdeal.τ).loc Cert.BigIdeal.main_arg20) = m ((c.tc : Thread Cert.BigIdeal.nD Cert.BigIdeal.τ).loc Cert.BigIdeal.main_arg20)
          ∧ r.2.mem ((c.tc : Thread Cert.BigIdeal.nD Cert.BigIdeal.τ).loc Cert.BigIdeal.main_arg21) = m ((c.tc : Thread Cert.BigIdeal.nD Cert.BigIdeal.τ).loc Cert.BigIdeal.main_arg21)
          ∧ r.2.mem ((c.tc : Thread Cert.BigIdeal.nD Cert.BigIdeal.τ).loc Cert.BigIdeal.main_arg22) = m ((c.tc : Thread Cert.BigIdeal.nD Cert.BigIdeal.τ).loc Cert.BigIdeal.main_arg22)
          ∧ r.2.mem ((c.tc : Thread Cert.BigIdeal.nD Cert.BigIdeal.τ).loc Cert.BigIdeal.main_arg23) = m ((c.tc : Thread Cert.BigIdeal.nD Cert.BigIdeal.τ).loc Cert.BigIdeal.main_arg23))
      ∧ θ_run (Cert.BigRefIdeal.defs (F := Ideal)) (onTc (τ := Cert.BigRefIdeal.τ) (Cert.BigRefIdeal.main (F := Ideal))) ⟨m', fun _ => 0, g'⟩ (fun r => ∀ c : Dev Cert.BigRefIdeal.nD,
          r.2.mem ((c.tc : Thread Cert.BigRefIdeal.nD Cert.BigRefIdeal.τ).loc Cert.BigRefIdeal.main_v23) = v0 c
          ∧ r.2.mem ((c.tc : Thread Cert.BigRefIdeal.nD Cert.BigRefIdeal.τ).loc Cert.BigRefIdeal.main_v47) = v1 c
          ∧ r.2.mem ((c.tc : Thread Cert.BigRefIdeal.nD Cert.BigRefIdeal.τ).loc Cert.BigRefIdeal.main_v71) = v2 c
          ∧ r.2.mem ((c.tc : Thread Cert.BigRefIdeal.nD Cert.BigRefIdeal.τ).loc Cert.BigRefIdeal.main_v95) = v3 c
          ∧ r.2.mem ((c.tc : Thread Cert.BigRefIdeal.nD Cert.BigRefIdeal.τ).loc Cert.BigRefIdeal.main_v119) = v4 c
          ∧ r.2.mem ((c.tc : Thread Cert.BigRefIdeal.nD Cert.BigRefIdeal.τ).loc Cert.BigRefIdeal.main_v143) = v5 c
          ∧ r.2.mem ((c.tc : Thread Cert.BigRefIdeal.nD Cert.BigRefIdeal.τ).loc Cert.BigRefIdeal.main_v4) = v6 c
          ∧ r.2.mem ((c.tc : Thread Cert.BigRefIdeal.nD Cert.BigRefIdeal.τ).loc Cert.BigRefIdeal.main_v28) = v7 c
          ∧ r.2.mem ((c.tc : Thread Cert.BigRefIdeal.nD Cert.BigRefIdeal.τ).loc Cert.BigRefIdeal.main_v52) = v8 c
          ∧ r.2.mem ((c.tc : Thread Cert.BigRefIdeal.nD Cert.BigRefIdeal.τ).loc Cert.BigRefIdeal.main_v76) = v9 c
          ∧ r.2.mem ((c.tc : Thread Cert.BigRefIdeal.nD Cert.BigRefIdeal.τ).loc Cert.BigRefIdeal.main_v100) = v10 c
          ∧ r.2.mem ((c.tc : Thread Cert.BigRefIdeal.nD Cert.BigRefIdeal.τ).loc Cert.BigRefIdeal.main_v124) = v11 c
          ∧ r.2.mem ((c.tc : Thread Cert.BigRefIdeal.nD Cert.BigRefIdeal.τ).loc Cert.BigRefIdeal.main_v10) = v12 c
          ∧ r.2.mem ((c.tc : Thread Cert.BigRefIdeal.nD Cert.BigRefIdeal.τ).loc Cert.BigRefIdeal.main_v34) = v13 c
          ∧ r.2.mem ((c.tc : Thread Cert.BigRefIdeal.nD Cert.BigRefIdeal.τ).loc Cert.BigRefIdeal.main_v58) = v14 c
          ∧ r.2.mem ((c.tc : Thread Cert.BigRefIdeal.nD Cert.BigRefIdeal.τ).loc Cert.BigRefIdeal.main_v82) = v15 c
          ∧ r.2.mem ((c.tc : Thread Cert.BigRefIdeal.nD Cert.BigRefIdeal.τ).loc Cert.BigRefIdeal.main_v106) = v16 c
          ∧ r.2.mem ((c.tc : Thread Cert.BigRefIdeal.nD Cert.BigRefIdeal.τ).loc Cert.BigRefIdeal.main_v130) = v17 c
          ∧ r.2.mem ((c.tc : Thread Cert.BigRefIdeal.nD Cert.BigRefIdeal.τ).loc Cert.BigRefIdeal.main_arg0) = m' ((c.tc : Thread Cert.BigRefIdeal.nD Cert.BigRefIdeal.τ).loc Cert.BigRefIdeal.main_arg0)
          ∧ r.2.mem ((c.tc : Thread Cert.BigRefIdeal.nD Cert.BigRefIdeal.τ).loc Cert.BigRefIdeal.main_arg1) = m' ((c.tc : Thread Cert.BigRefIdeal.nD Cert.BigRefIdeal.τ).loc Cert.BigRefIdeal.main_arg1)
          ∧ r.2.mem ((c.tc : Thread Cert.BigRefIdeal.nD Cert.BigRefIdeal.τ).loc Cert.BigRefIdeal.main_arg2) = m' ((c.tc : Thread Cert.BigRefIdeal.nD Cert.BigRefIdeal.τ).loc Cert.BigRefIdeal.main_arg2)
          ∧ r.2.mem ((c.tc : Thread Cert.BigRefIdeal.nD Cert.BigRefIdeal.τ).loc Cert.BigRefIdeal.main_arg3) = m' ((c.tc : Thread Cert.BigRefIdeal.nD Cert.BigRefIdeal.τ).loc Cert.BigRefIdeal.main_arg3)
          ∧ r.2.mem ((c.tc : Thread Cert.BigRefIdeal.nD Cert.BigRefIdeal.τ).loc Cert.BigRefIdeal.main_arg4) = m' ((c.tc : Thread Cert.BigRefIdeal.nD Cert.BigRefIdeal.τ).loc Cert.BigRefIdeal.main_arg4)
          ∧ r.2.mem ((c.tc : Thread Cert.BigRefIdeal.nD Cert.BigRefIdeal.τ).loc Cert.BigRefIdeal.main_arg5) = m' ((c.tc : Thread Cert.BigRefIdeal.nD Cert.BigRefIdeal.τ).loc Cert.BigRefIdeal.main_arg5)
          ∧ r.2.mem ((c.tc : Thread Cert.BigRefIdeal.nD Cert.BigRefIdeal.τ).loc Cert.BigRefIdeal.main_arg6) = m' ((c.tc : Thread Cert.BigRefIdeal.nD Cert.BigRefIdeal.τ).loc Cert.BigRefIdeal.main_arg6)
          ∧ r.2.mem ((c.tc : Thread Cert.BigRefIdeal.nD Cert.BigRefIdeal.τ).loc Cert.BigRefIdeal.main_arg7) = m' ((c.tc : Thread Cert.BigRefIdeal.nD Cert.BigRefIdeal.τ).loc Cert.BigRefIdeal.main_arg7)
          ∧ r.2.mem ((c.tc : Thread Cert.BigRefIdeal.nD Cert.BigRefIdeal.τ).loc Cert.BigRefIdeal.main_arg8) = m' ((c.tc : Thread Cert.BigRefIdeal.nD Cert.BigRefIdeal.τ).loc Cert.BigRefIdeal.main_arg8)
          ∧ r.2.mem ((c.tc : Thread Cert.BigRefIdeal.nD Cert.BigRefIdeal.τ).loc Cert.BigRefIdeal.main_arg9) = m' ((c.tc : Thread Cert.BigRefIdeal.nD Cert.BigRefIdeal.τ).loc Cert.BigRefIdeal.main_arg9)
          ∧ r.2.mem ((c.tc : Thread Cert.BigRefIdeal.nD Cert.BigRefIdeal.τ).loc Cert.BigRefIdeal.main_arg10) = m' ((c.tc : Thread Cert.BigRefIdeal.nD Cert.BigRefIdeal.τ).loc Cert.BigRefIdeal.main_arg10)
          ∧ r.2.mem ((c.tc : Thread Cert.BigRefIdeal.nD Cert.BigRefIdeal.τ).loc Cert.BigRefIdeal.main_arg11) = m' ((c.tc : Thread Cert.BigRefIdeal.nD Cert.BigRefIdeal.τ).loc Cert.BigRefIdeal.main_arg11)
          ∧ r.2.mem ((c.tc : Thread Cert.BigRefIdeal.nD Cert.BigRefIdeal.τ).loc Cert.BigRefIdeal.main_arg12) = m' ((c.tc : Thread Cert.BigRefIdeal.nD Cert.BigRefIdeal.τ).loc Cert.BigRefIdeal.main_arg12)
          ∧ r.2.mem ((c.tc : Thread Cert.BigRefIdeal.nD Cert.BigRefIdeal.τ).loc Cert.BigRefIdeal.main_arg13) = m' ((c.tc : Thread Cert.BigRefIdeal.nD Cert.BigRefIdeal.τ).loc Cert.BigRefIdeal.main_arg13)
          ∧ r.2.mem ((c.tc : Thread Cert.BigRefIdeal.nD Cert.BigRefIdeal.τ).loc Cert.BigRefIdeal.main_arg14) = m' ((c.tc : Thread Cert.BigRefIdeal.nD Cert.BigRefIdeal.τ).loc Cert.BigRefIdeal.main_arg14)
          ∧ r.2.mem ((c.tc : Thread Cert.BigRefIdeal.nD Cert.BigRefIdeal.τ).loc Cert.BigRefIdeal.main_arg15) = m' ((c.tc : Thread Cert.BigRefIdeal.nD Cert.BigRefIdeal.τ).loc Cert.BigRefIdeal.main_arg15)
          ∧ r.2.mem ((c.tc : Thread Cert.BigRefIdeal.nD Cert.BigRefIdeal.τ).loc Cert.BigRefIdeal.main_arg16) = m' ((c.tc : Thread Cert.BigRefIdeal.nD Cert.BigRefIdeal.τ).loc Cert.BigRefIdeal.main_arg16)
          ∧ r.2.mem ((c.tc : Thread Cert.BigRefIdeal.nD Cert.BigRefIdeal.τ).loc Cert.BigRefIdeal.main_arg17) = m' ((c.tc : Thread Cert.BigRefIdeal.nD Cert.BigRefIdeal.τ).loc Cert.BigRefIdeal.main_arg17)
          ∧ r.2.mem ((c.tc : Thread Cert.BigRefIdeal.nD Cert.BigRefIdeal.τ).loc Cert.BigRefIdeal.main_arg18) = m' ((c.tc : Thread Cert.BigRefIdeal.nD Cert.BigRefIdeal.τ).loc Cert.BigRefIdeal.main_arg18)
          ∧ r.2.mem ((c.tc : Thread Cert.BigRefIdeal.nD Cert.BigRefIdeal.τ).loc Cert.BigRefIdeal.main_arg19) = m' ((c.tc : Thread Cert.BigRefIdeal.nD Cert.BigRefIdeal.τ).loc Cert.BigRefIdeal.main_arg19)
          ∧ r.2.mem ((c.tc : Thread Cert.BigRefIdeal.nD Cert.BigRefIdeal.τ).loc Cert.BigRefIdeal.main_arg20) = m' ((c.tc : Thread Cert.BigRefIdeal.nD Cert.BigRefIdeal.τ).loc Cert.BigRefIdeal.main_arg20)
          ∧ r.2.mem ((c.tc : Thread Cert.BigRefIdeal.nD Cert.BigRefIdeal.τ).loc Cert.BigRefIdeal.main_arg21) = m' ((c.tc : Thread Cert.BigRefIdeal.nD Cert.BigRefIdeal.τ).loc Cert.BigRefIdeal.main_arg21)
          ∧ r.2.mem ((c.tc : Thread Cert.BigRefIdeal.nD Cert.BigRefIdeal.τ).loc Cert.BigRefIdeal.main_arg22) = m' ((c.tc : Thread Cert.BigRefIdeal.nD Cert.BigRefIdeal.τ).loc Cert.BigRefIdeal.main_arg22)
          ∧ r.2.mem ((c.tc : Thread Cert.BigRefIdeal.nD Cert.BigRefIdeal.τ).loc Cert.BigRefIdeal.main_arg23) = m' ((c.tc : Thread Cert.BigRefIdeal.nD Cert.BigRefIdeal.τ).loc Cert.BigRefIdeal.main_arg23))

def Claim : Prop :=
  ∃ (hMlpX : Cert.MlpX.Facts) (hMlpXIdeal : Cert.MlpXIdeal.Facts) (hMlpXRefIdeal : Cert.MlpXRefIdeal.Facts) (hMlpW : Cert.MlpW.Facts) (hMlpWIdeal : Cert.MlpWIdeal.Facts) (hMlpWRefIdeal : Cert.MlpWRefIdeal.Facts) (hIn : Cert.In.Facts) (hInIdeal : Cert.InIdeal.Facts) (hInRefIdeal : Cert.InRefIdeal.Facts) (hHead : Cert.Head.Facts) (hHeadIdeal : Cert.HeadIdeal.Facts) (hHeadRefIdeal : Cert.HeadRefIdeal.Facts) (hAdam : Cert.Adam.Facts) (hAdamIdeal : Cert.AdamIdeal.Facts) (hAdamRefIdeal : Cert.AdamRefIdeal.Facts) (hBig : Cert.Big.Facts) (hBigIdeal : Cert.BigIdeal.Facts) (hBigRefIdeal : Cert.BigRefIdeal.Facts),
    quiescent_MlpX (hMlpX := hMlpX)
    ∧ quiescent_MlpXIdeal (hMlpXIdeal := hMlpXIdeal)
    ∧ quiescent_MlpXRefIdeal (hMlpXRefIdeal := hMlpXRefIdeal)
    ∧ quiescent_MlpW (hMlpW := hMlpW)
    ∧ quiescent_MlpWIdeal (hMlpWIdeal := hMlpWIdeal)
    ∧ quiescent_MlpWRefIdeal (hMlpWRefIdeal := hMlpWRefIdeal)
    ∧ quiescent_In (hIn := hIn)
    ∧ quiescent_InIdeal (hInIdeal := hInIdeal)
    ∧ quiescent_InRefIdeal (hInRefIdeal := hInRefIdeal)
    ∧ quiescent_Head (hHead := hHead)
    ∧ quiescent_HeadIdeal (hHeadIdeal := hHeadIdeal)
    ∧ quiescent_HeadRefIdeal (hHeadRefIdeal := hHeadRefIdeal)
    ∧ quiescent_Adam (hAdam := hAdam)
    ∧ quiescent_AdamIdeal (hAdamIdeal := hAdamIdeal)
    ∧ quiescent_AdamRefIdeal (hAdamRefIdeal := hAdamRefIdeal)
    ∧ quiescent_Big (hBig := hBig)
    ∧ quiescent_BigIdeal (hBigIdeal := hBigIdeal)
    ∧ quiescent_BigRefIdeal (hBigRefIdeal := hBigRefIdeal)
    ∧ preserves_MlpX_MlpXIdeal
    ∧ algebraic_MlpXIdeal_MlpXRefIdeal (hMlpXIdeal := hMlpXIdeal) (hMlpXRefIdeal := hMlpXRefIdeal)
    ∧ preserves_MlpW_MlpWIdeal
    ∧ algebraic_MlpWIdeal_MlpWRefIdeal (hMlpWIdeal := hMlpWIdeal) (hMlpWRefIdeal := hMlpWRefIdeal)
    ∧ preserves_In_InIdeal
    ∧ algebraic_InIdeal_InRefIdeal (hInIdeal := hInIdeal) (hInRefIdeal := hInRefIdeal)
    ∧ preserves_Head_HeadIdeal
    ∧ algebraic_HeadIdeal_HeadRefIdeal (hHeadIdeal := hHeadIdeal) (hHeadRefIdeal := hHeadRefIdeal)
    ∧ preserves_Adam_AdamIdeal
    ∧ algebraic_AdamIdeal_AdamRefIdeal (hAdamIdeal := hAdamIdeal) (hAdamRefIdeal := hAdamRefIdeal)
    ∧ preserves_Big_BigIdeal
    ∧ algebraic_BigIdeal_BigRefIdeal (hBigIdeal := hBigIdeal) (hBigRefIdeal := hBigRefIdeal)
-- ==== MlpX.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x4x1024 : Shape := ⟨3, ![1024, 4, 1024]⟩
abbrev S4x1024x1024 : Shape := ⟨3, ![4, 1024, 1024]⟩
abbrev S8x1024 : Shape := ⟨2, ![8, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 35
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .bf16⟩
  | .hbm, ⟨26, _⟩ => ⟨S1x1024, .f32⟩
  | .hbm, ⟨27, _⟩ => ⟨S1024x4x1024, .f32⟩
  | .hbm, ⟨28, _⟩ => ⟨S4x1024x1024, .f32⟩
  | .hbm, ⟨29, _⟩ => ⟨S4x1024x1024, .bf16⟩
  | .hbm, ⟨30, _⟩ => ⟨S4x1024x1024, .f32⟩
  | .hbm, ⟨31, _⟩ => ⟨S4x1024x1024, .bf16⟩
  | .hbm, ⟨32, _⟩ => ⟨S8192x4096, .bf16⟩
  | .hbm, ⟨33, _⟩ => ⟨S8192x1024, .f32⟩
  | .hbm, ⟨34, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1024, .bf16⟩
  | .local _ .vmem, ⟨8, _⟩ => ⟨S4x1024x1024, .bf16⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v109 : BitVec 1 := Scalar.cmpi .eq arg0 c15_i32
  let v110 : BitVec 32 := Scalar.extui v109
  let c0_i32_67 : BitVec 32 := 0#32
  let v111 : BitVec 1 := Scalar.cmpi .ne v110 c0_i32_67
  v111

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MlpXRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S7x1024 : Shape := ⟨2, ![7, 1024]⟩
abbrev S8x1024 : Shape := ⟨2, ![8, 1024]⟩

abbrev nBuf : Space → Nat
  | .hbm => 113
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .i1⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x4096, .f32⟩
  | .hbm, ⟨61, _⟩ => ⟨S_, .f32⟩
  | .hbm, ⟨62, _⟩ => ⟨S8192x4096, .f32⟩
  | .hbm, ⟨63, _⟩ => ⟨S8192x4096, .f32⟩
  | .hbm, ⟨64, _⟩ => ⟨S_, .f32⟩
  | .hbm, ⟨65, _⟩ => ⟨S8192x4096, .f32⟩
  | .hbm, ⟨66, _⟩ => ⟨S8192x4096, .i1⟩
  | .hbm, ⟨67, _⟩ => ⟨S_, .f32⟩
  | .hbm, ⟨68, _⟩ => ⟨S8192x4096, .f32⟩
  | .hbm, ⟨69, _⟩ => ⟨S8192x4096, .f32⟩
  | .hbm, ⟨70, _⟩ => ⟨S_, .f32⟩
  | .hbm, ⟨71, _⟩ => ⟨S8192x4096, .f32⟩
  | .hbm, ⟨72, _⟩ => ⟨S8192x4096, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x4096, .f32⟩
  | .hbm, ⟨77, _⟩ => ⟨S8192x4096, .f32⟩
  | .hbm, ⟨78, _⟩ => ⟨S_, .f32⟩
  | .hbm, ⟨79, _⟩ => ⟨S8192x4096, .f32⟩
  | .hbm, ⟨80, _⟩ => ⟨S8192x4096, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x4096, .bf16⟩
  | .hbm, ⟨109, _⟩ => ⟨S1x1024, .f32⟩
  | .hbm, ⟨110, _⟩ => ⟨S_, .f32⟩
  | .hbm, ⟨111, _⟩ => ⟨S7x1024, .f32⟩
  | .hbm, ⟨112, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_19 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== MlpW.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S4x1024x1024 : Shape := ⟨3, ![4, 1024, 1024]⟩
abbrev S512x1024 : Shape := ⟨2, ![512, 1024]⟩
abbrev S512x2048 : Shape := ⟨2, ![512, 2048]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 49
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .bf16⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x1024, .bf16⟩
  | .hbm, ⟨45, _⟩ => ⟨S8192x4096, .bf16⟩
  | .hbm, ⟨46, _⟩ => ⟨S8192x1024, .bf16⟩
  | .hbm, ⟨47, _⟩ => ⟨S4x1024x1024, .bf16⟩
  | .hbm, ⟨48, _⟩ => ⟨S4x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S2x1024x1024, .bf16⟩
  | .local _ .vmem, ⟨9, _⟩ => ⟨S2x1024x1024, .bf16⟩
  | .local _ .vmem, ⟨10, _⟩ => ⟨S2x1024x1024, .bf16⟩
  | .local _ .vmem, ⟨11, _⟩ => ⟨S2x1024x1024, .bf16⟩
  | .local _ .vmem, ⟨12, _⟩ => ⟨S2x1024x1024, .f32⟩
  | .local _ .vmem, ⟨13, _⟩ => ⟨S2x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_41 : BitVec 32 := 0#32
  let v51 : BitVec 1 := Scalar.cmpi .ne v50 c0_i32_41
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpWRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x4x1024 : Shape := ⟨3, ![1024, 4, 1024]⟩
abbrev S4x1024x1024 : Shape := ⟨3, ![4, 1024, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .i1⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S1024x4096, .f32⟩
  | .hbm, ⟨37, _⟩ => ⟨S4096x1024, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S4096x1024, .f32⟩
  | .hbm, ⟨44, _⟩ => ⟨S1024x4096, .f32⟩
  | .hbm, ⟨45, _⟩ => ⟨S1024x4x1024, .f32⟩
  | .hbm, ⟨46, _⟩ => ⟨S4x1024x1024, .f32⟩
  | .hbm, ⟨47, _⟩ => ⟨S4x1024x1024, .bf16⟩
  | .hbm, ⟨48, _⟩ => ⟨S4x1024x1024, .f32⟩
  | .hbm, ⟨49, _⟩ => ⟨S4x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== In.lean ====
abbrev S8192x1536 : Shape := ⟨2, ![8192, 1536]⟩
abbrev S8192x1024 : Shape := ⟨2, ![8192, 1024]⟩
abbrev S1024 : Shape := ⟨1, ![1024]⟩
abbrev S1024x1536 : Shape := ⟨2, ![1024, 1536]⟩
abbrev S1x1024 : Shape := ⟨2, ![1, 1024]⟩
abbrev S1024x4x384 : Shape := ⟨3, ![1024, 4, 384]⟩
abbrev S4x1024x384 : Shape := ⟨3, ![4, 1024, 384]⟩
abbrev S8x1024 : Shape := ⟨2, ![8, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S512x384 : Shape := ⟨2, ![512, 384]⟩
abbrev S1x1024x384 : Shape := ⟨3, ![1, 1024, 384]⟩
abbrev S1024x384 : Shape := ⟨2, ![1024, 384]⟩

abbrev nBuf : Space → Nat
  | .hbm => 13
  | .vmem => 14
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1536, .f32⟩
  | .hbm, ⟨5, _⟩ => ⟨S8192x1536, .bf16⟩
  | .hbm, ⟨6, _⟩ => ⟨S1x1024, .f32⟩
  | .hbm, ⟨7, _⟩ => ⟨S1024x4x384, .f32⟩
  | .hbm, ⟨8, _⟩ => ⟨S4x1024x384, .f32⟩
  | .hbm, ⟨9, _⟩ => ⟨S4x1024x384, .bf16⟩
  | .hbm, ⟨10, _⟩ => ⟨S8192x1024, .f32⟩
  | .hbm, ⟨11, _⟩ => ⟨S4x1024x384, .bf16⟩
  | .hbm, ⟨12, _⟩ => ⟨S8x1024, .f32⟩
  | .local _ .vmem, ⟨0, _⟩ => ⟨S512x1536, .bf16⟩
  | .local _ .vmem, ⟨1, _⟩ => ⟨S512x1536, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x384, .bf16⟩
  | .local _ .vmem, ⟨8, _⟩ => ⟨S512x1024, .f32⟩
  | .local _ .vmem, ⟨9, _⟩ => ⟨S512x1024, .f32⟩
  | .local _ .vmem, ⟨10, _⟩ => ⟨S4x1024x384, .bf16⟩
  | .local _ .vmem, ⟨11, _⟩ => ⟨S8x1024, .f32⟩
  | .local _ .vmem, ⟨12, _⟩ => ⟨S4x1024x384, .f32⟩
  | .local _ .vmem, ⟨13, _⟩ => ⟨S8x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v113 : BitVec 1 := Scalar.cmpi .eq arg0 c15_i32
  let v114 : BitVec 32 := Scalar.extui v113
  let c0_i32_69 : BitVec 32 := 0#32
  let v115 : BitVec 1 := Scalar.cmpi .ne v114 c0_i32_69
  v115

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InRefIdeal.lean ====
abbrev S8192x1536 : Shape := ⟨2, ![8192, 1536]⟩
abbrev S8192x1024 : Shape := ⟨2, ![8192, 1024]⟩
abbrev S1024 : Shape := ⟨1, ![1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1536x1024 : Shape := ⟨2, ![1536, 1024]⟩
abbrev S1024x4x384 : Shape := ⟨3, ![1024, 4, 384]⟩
abbrev S4x1024x384 : Shape := ⟨3, ![4, 1024, 384]⟩
abbrev S7x1024 : Shape := ⟨2, ![7, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1536, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1536, .f32⟩
  | .hbm, ⟨26, _⟩ => ⟨S1536x1024, .f32⟩
  | .hbm, ⟨27, _⟩ => ⟨S1024x1536, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x4x384, .f32⟩
  | .hbm, ⟨56, _⟩ => ⟨S4x1024x384, .f32⟩
  | .hbm, ⟨57, _⟩ => ⟨S4x1024x384, .bf16⟩
  | .hbm, ⟨58, _⟩ => ⟨S1x1024, .f32⟩
  | .hbm, ⟨59, _⟩ => ⟨S_, .f32⟩
  | .hbm, ⟨60, _⟩ => ⟨S7x1024, .f32⟩
  | .hbm, ⟨61, _⟩ => ⟨S8x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Head.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S4x256x256 : Shape := ⟨3, ![4, 256, 256]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩
abbrev S256x256 : Shape := ⟨2, ![256, 256]⟩
abbrev S1x256x256 : Shape := ⟨3, ![1, 256, 256]⟩

abbrev nBuf : Space → Nat
  | .hbm => 18
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024, .f32⟩
  | .hbm, ⟨8, _⟩ => ⟨S1x1024, .f32⟩
  | .hbm, ⟨9, _⟩ => ⟨S1024x1024, .bf16⟩
  | .hbm, ⟨10, _⟩ => ⟨S1x1024, .f32⟩
  | .hbm, ⟨11, _⟩ => ⟨S256x1024, .bf16⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S1024x1024, .bf16⟩
  | .hbm, ⟨16, _⟩ => ⟨S4x256x256, .bf16⟩
  | .hbm, ⟨17, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S256x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S4x256x256, .bf16⟩
  | .local _ .vmem, ⟨17, _⟩ => ⟨S8x1024, .f32⟩
  | .local _ .vmem, ⟨18, _⟩ => ⟨S1024x1024, .f32⟩
  | .local _ .vmem, ⟨19, _⟩ => ⟨S256x1024, .f32⟩
  | .local _ .vmem, ⟨20, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v184 : BitVec 1 := Scalar.cmpi .eq arg0 c15_i32
  let v185 : BitVec 32 := Scalar.extui v184
  let c0_i32_81 : BitVec 32 := 0#32
  let v186 : BitVec 1 := Scalar.cmpi .ne v185 c0_i32_81
  v186

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== HeadRefIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩
abbrev S256x4x256 : Shape := ⟨3, ![256, 4, 256]⟩
abbrev S4x256x256 : Shape := ⟨3, ![4, 256, 256]⟩
abbrev S4x1024 : Shape := ⟨2, ![4, 1024]⟩
abbrev S8x1024 : Shape := ⟨2, ![8, 1024]⟩

abbrev nBuf : Space → Nat
  | .hbm => 166
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1024, .f32⟩
  | 4 => ⟨S1024x1024, .f32⟩
  | 5 => ⟨S1024, .f32⟩
  | 6 => ⟨S256x1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S1x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1024, .f32⟩
  | 63 => ⟨S8192x1024, .f32⟩
  | 64 => ⟨S1x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192, .f32⟩
  | 74 => ⟨S_, .f32⟩
  | 75 => ⟨S8192, .f32⟩
  | 76 => ⟨S8192, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S8192, .f32⟩
  | 85 => ⟨S_, .f32⟩
  | 86 => ⟨S8192, .f32⟩
  | 87 => ⟨S8192, .f32⟩
  | 88 => ⟨S8192x1024, .f32⟩
  | 89 => ⟨S8192x1024, .f32⟩
  | 90 => ⟨S8192x1024, .f32⟩
  | 91 => ⟨S_, .f32⟩
  | 92 => ⟨S1024, .f32⟩
  | 93 => ⟨S1x1024, .f32⟩
  | 94 => ⟨S8192x1024, .f32⟩
  | 95 => ⟨S8192x1024, .f32⟩
  | 96 => ⟨S_, .f32⟩
  | 97 => ⟨S1024, .f32⟩
  | 98 => ⟨S8192x1024, .f32⟩
  | 99 => ⟨S_, .f32⟩
  | 100 => ⟨S8192, .f32⟩
  | 101 => ⟨S8192x1, .f32⟩
  | 102 => ⟨S8192x1024, .f32⟩
  | 103 => ⟨S8192x1024, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S1024x256, .f32⟩
  | 118 => ⟨S256x1024, .f32⟩
  | 119 => ⟨S8192x1024, .f32⟩
  | 120 => ⟨S_, .f32⟩
  | 121 => ⟨S1024, .f32⟩
  | 122 => ⟨S1x1024, .f32⟩
  | 123 => ⟨S_, .f32⟩
  | 124 => ⟨S1024, .f32⟩
  | 125 => ⟨S1024x1024, .f32⟩
  | 126 => ⟨S1024x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S1x1024, .f32⟩
  | 4 => ⟨S8192x1024, .f32⟩
  | 5 => ⟨S8192x1024, .f32⟩
  | 6 => ⟨S_, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S8192x1024, .f32⟩
  | 13 => ⟨S8192x1024, .f32⟩
  | 14 => ⟨S8192x1024, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S256x4x256, .f32⟩
  | 27 => ⟨S4x256x256, .f32⟩
  | 28 => ⟨S1x1024, .f32⟩
  | 29 => ⟨S1x1024, .f32⟩
  | 30 => ⟨S1x1024, .f32⟩
  | 31 => ⟨S1x1024, .f32⟩
  | 32 => ⟨S_, .f32⟩
  | 33 => ⟨S4x1024, .f32⟩
  | 34 => ⟨S8x1024, .f32⟩
  | 35 => ⟨S8192x1024, .bf16⟩
  | 36 => ⟨S1024x1024, .bf16⟩
  | 37 => ⟨S4x256x256, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_cst_15 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_cst_17 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_19 : Ref sig .tc := ⟨.hbm, 96, rfl⟩
abbrev main_v68 : Ref sig .tc := ⟨.hbm, 97, rfl⟩
abbrev main_v69 : Ref sig .tc := ⟨.hbm, 98, rfl⟩
abbrev main_cst_20 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_21 : Ref sig .tc := ⟨.hbm, 105, rfl⟩
abbrev main_v75 : Ref sig .tc := ⟨.hbm, 106, rfl⟩
abbrev main_v76 : Ref sig .tc := ⟨.hbm, 107, rfl⟩
abbrev main_cst_22 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_23 : Ref sig .tc := ⟨.hbm, 120, rfl⟩
abbrev main_v88 : Ref sig .tc := ⟨.hbm, 121, rfl⟩
abbrev main_v89 : Ref sig .tc := ⟨.hbm, 122, rfl⟩
abbrev main_cst_24 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_25 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_26 : Ref sig .tc := ⟨.hbm, 134, rfl⟩
abbrev main_v99 : Ref sig .tc := ⟨.hbm, 135, rfl⟩
abbrev main_v100 : Ref sig .tc := ⟨.hbm, 136, rfl⟩
abbrev main_cst_27 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_28 : Ref sig .tc := ⟨.hbm, 144, rfl⟩
abbrev main_v107 : Ref sig .tc := ⟨.hbm, 145, rfl⟩
abbrev main_v108 : Ref sig .tc := ⟨.hbm, 146, rfl⟩
abbrev main_cst_29 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_30 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩

abbrev nD : Nat := 1
abbrev τ : Topo := Topo.v7x

variable {F : FTy → Type} [FloatOps F]
-- ==== Adam.lean ====
abbrev S1120x128 : Shape := ⟨2, ![1120, 128]⟩

abbrev nBuf : Space → Nat
  | .hbm => 8
  | .vmem => 8
  | .smem => 0
  | _ => 0

abbrev bufTy : (tb : Table) → Fin (tcTables nBuf tb) → BufTy
  | .hbm, ⟨0, _⟩ => ⟨S1120x128, .f32⟩
  | .hbm, ⟨1, _⟩ => ⟨S1120x128, .f32⟩
  | .hbm, ⟨2, _⟩ => ⟨S1120x128, .f32⟩
  | .hbm, ⟨3, _⟩ => ⟨S1120x128, .f32⟩
  | .hbm, ⟨4, _⟩ => ⟨S1120x128, .f32⟩
  | .hbm, ⟨5, _⟩ => ⟨S1120x128, .f32⟩
  | .hbm, ⟨6, _⟩ => ⟨S1120x128, .f32⟩
  | .hbm, ⟨7, _⟩ => ⟨S1120x128, .f32⟩
  | .local _ .vmem, ⟨0, _⟩ => ⟨S1120x128, .f32⟩
  | .local _ .vmem, ⟨1, _⟩ => ⟨S1120x128, .f32⟩
  | .local _ .vmem, ⟨2, _⟩ => ⟨S1120x128, .f32⟩
  | .local _ .vmem, ⟨3, _⟩ => ⟨S1120x128, .f32⟩
  | .local _ .vmem, ⟨4, _⟩ => ⟨S1120x128, .f32⟩
  | .local _ .vmem, ⟨5, _⟩ => ⟨S1120x128, .f32⟩
  | .local _ .vmem, ⟨6, _⟩ => ⟨S1120x128, .f32⟩
  | .local _ .vmem, ⟨7, _⟩ => ⟨S1120x128, .f32⟩
  | _, _ => ⟨S1120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1120x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamRefIdeal.lean ====
abbrev S1120x128 : Shape := ⟨2, ![1120, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1120x128, .f32⟩
  | .hbm, ⟨1, _⟩ => ⟨S1120x128, .f32⟩
  | .hbm, ⟨2, _⟩ => ⟨S1120x128, .f32⟩
  | .hbm, ⟨3, _⟩ => ⟨S1120x128, .f32⟩
  | .hbm, ⟨4, _⟩ => ⟨S_, .f32⟩
  | .hbm, ⟨5, _⟩ => ⟨S1120x128, .f32⟩
  | .hbm, ⟨6, _⟩ => ⟨S1120x128, .f32⟩
  | .hbm, ⟨7, _⟩ => ⟨S_, .f32⟩
  | .hbm, ⟨8, _⟩ => ⟨S1120x128, .f32⟩
  | .hbm, ⟨9, _⟩ => ⟨S1120x128, .f32⟩
  | .hbm, ⟨10, _⟩ => ⟨S1120x128, .f32⟩
  | .hbm, ⟨11, _⟩ => ⟨S_, .f32⟩
  | .hbm, ⟨12, _⟩ => ⟨S1120x128, .f32⟩
  | .hbm, ⟨13, _⟩ => ⟨S1120x128, .f32⟩
  | .hbm, ⟨14, _⟩ => ⟨S1120x128, .f32⟩
  | .hbm, ⟨15, _⟩ => ⟨S_, .f32⟩
  | .hbm, ⟨16, _⟩ => ⟨S1120x128, .f32⟩
  | .hbm, ⟨17, _⟩ => ⟨S1120x128, .f32⟩
  | .hbm, ⟨18, _⟩ => ⟨S1120x128, .f32⟩
  | .hbm, ⟨19, _⟩ => ⟨S_, .f32⟩
  | .hbm, ⟨20, _⟩ => ⟨S1120x128, .f32⟩
  | .hbm, ⟨21, _⟩ => ⟨S1120x128, .f32⟩
  | .hbm, ⟨22, _⟩ => ⟨S_, .f32⟩
  | .hbm, ⟨23, _⟩ => ⟨S1120x128, .f32⟩
  | .hbm, ⟨24, _⟩ => ⟨S1120x128, .f32⟩
  | .hbm, ⟨25, _⟩ => ⟨S1120x128, .f32⟩
  | .hbm, ⟨26, _⟩ => ⟨S_, .f32⟩
  | .hbm, ⟨27, _⟩ => ⟨S1120x128, .f32⟩
  | .hbm, ⟨28, _⟩ => ⟨S1120x128, .f32⟩
  | .hbm, ⟨29, _⟩ => ⟨S1120x128, .f32⟩
  | .hbm, ⟨30, _⟩ => ⟨S_, .f32⟩
  | .hbm, ⟨31, _⟩ => ⟨S1120x128, .f32⟩
  | .hbm, ⟨32, _⟩ => ⟨S1120x128, .f32⟩
  | .hbm, ⟨33, _⟩ => ⟨S1120x128, .f32⟩
  | .hbm, ⟨34, _⟩ => ⟨S_, .f32⟩
  | .hbm, ⟨35, _⟩ => ⟨S1120x128, .f32⟩
  | .hbm, ⟨36, _⟩ => ⟨S1120x128, .f32⟩
  | _, _ => ⟨S1120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Big.lean ====
abbrev S1024x384 : Shape := ⟨2, ![1024, 384]⟩
abbrev S256x1024 : Shape := ⟨2, ![256, 1024]⟩
abbrev S1024x1024 : Shape := ⟨2, ![1024, 1024]⟩
abbrev S256x256 : Shape := ⟨2, ![256, 256]⟩
abbrev S128x384 : Shape := ⟨2, ![128, 384]⟩
abbrev S32x1024 : Shape := ⟨2, ![32, 1024]⟩
abbrev S128x1024 : Shape := ⟨2, ![128, 1024]⟩
abbrev S32x256 : Shape := ⟨2, ![32, 256]⟩

abbrev nBuf : Space → Nat
  | .hbm => 48
  | .vmem => 96
  | .smem => 0
  | _ => 0

abbrev bufTy : (tb : Table) → Fin (tcTables nBuf tb) → BufTy
  | .hbm, ⟨0, _⟩ => ⟨S1024x384, .f32⟩
  | .hbm, ⟨1, _⟩ => ⟨S256x1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S256x256, .f32⟩
  | .hbm, ⟨6, _⟩ => ⟨S1024x384, .f32⟩
  | .hbm, ⟨7, _⟩ => ⟨S256x1024, .f32⟩
  | .hbm, ⟨8, _⟩ => ⟨S1024x1024, .f32⟩
  | .hbm, ⟨9, _⟩ => ⟨S1024x1024, .f32⟩
  | .hbm, ⟨10, _⟩ => ⟨S256x1024, .f32⟩
  | .hbm, ⟨11, _⟩ => ⟨S256x256, .f32⟩
  | .hbm, ⟨12, _⟩ => ⟨S1024x384, .f32⟩
  | .hbm, ⟨13, _⟩ => ⟨S256x1024, .f32⟩
  | .hbm, ⟨14, _⟩ => ⟨S1024x1024, .f32⟩
  | .hbm, ⟨15, _⟩ => ⟨S1024x1024, .f32⟩
  | .hbm, ⟨16, _⟩ => ⟨S256x1024, .f32⟩
  | .hbm, ⟨17, _⟩ => ⟨S256x256, .f32⟩
  | .hbm, ⟨18, _⟩ => ⟨S1024x384, .f32⟩
  | .hbm, ⟨19, _⟩ => ⟨S256x1024, .f32⟩
  | .hbm, ⟨20, _⟩ => ⟨S1024x1024, .f32⟩
  | .hbm, ⟨21, _⟩ => ⟨S1024x1024, .f32⟩
  | .hbm, ⟨22, _⟩ => ⟨S256x1024, .f32⟩
  | .hbm, ⟨23, _⟩ => ⟨S256x256, .f32⟩
  | .hbm, ⟨24, _⟩ => ⟨S1024x384, .f32⟩
  | .hbm, ⟨25, _⟩ => ⟨S256x1024, .f32⟩
  | .hbm, ⟨26, _⟩ => ⟨S1024x1024, .f32⟩
  | .hbm, ⟨27, _⟩ => ⟨S1024x1024, .f32⟩
  | .hbm, ⟨28, _⟩ => ⟨S256x1024, .f32⟩
  | .hbm, ⟨29, _⟩ => ⟨S256x256, .f32⟩
  | .hbm, ⟨30, _⟩ => ⟨S1024x384, .f32⟩
  | .hbm, ⟨31, _⟩ => ⟨S256x1024, .f32⟩
  | .hbm, ⟨32, _⟩ => ⟨S1024x1024, .f32⟩
  | .hbm, ⟨33, _⟩ => ⟨S1024x1024, .f32⟩
  | .hbm, ⟨34, _⟩ => ⟨S256x1024, .f32⟩
  | .hbm, ⟨35, _⟩ => ⟨S256x256, .f32⟩
  | .hbm, ⟨36, _⟩ => ⟨S1024x384, .f32⟩
  | .hbm, ⟨37, _⟩ => ⟨S256x1024, .f32⟩
  | .hbm, ⟨38, _⟩ => ⟨S1024x1024, .f32⟩
  | .hbm, ⟨39, _⟩ => ⟨S1024x1024, .f32⟩
  | .hbm, ⟨40, _⟩ => ⟨S256x1024, .f32⟩
  | .hbm, ⟨41, _⟩ => ⟨S256x256, .f32⟩
  | .hbm, ⟨42, _⟩ => ⟨S1024x384, .f32⟩
  | .hbm, ⟨43, _⟩ => ⟨S256x1024, .f32⟩
  | .hbm, ⟨44, _⟩ => ⟨S1024x1024, .f32⟩
  | .hbm, ⟨45, _⟩ => ⟨S1024x1024, .f32⟩
  | .hbm, ⟨46, _⟩ => ⟨S256x1024, .f32⟩
  | .hbm, ⟨47, _⟩ => ⟨S256x256, .f32⟩
  | .local _ .vmem, ⟨0, _⟩ => ⟨S128x384, .f32⟩
  | .local _ .vmem, ⟨1, _⟩ => ⟨S128x384, .f32⟩
  | .local _ .vmem, ⟨2, _⟩ => ⟨S32x1024, .f32⟩
  | .local _ .vmem, ⟨3, _⟩ => ⟨S32x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S32x1024, .f32⟩
  | .local _ .vmem, ⟨9, _⟩ => ⟨S32x1024, .f32⟩
  | .local _ .vmem, ⟨10, _⟩ => ⟨S32x256, .f32⟩
  | .local _ .vmem, ⟨11, _⟩ => ⟨S32x256, .f32⟩
  | .local _ .vmem, ⟨12, _⟩ => ⟨S128x384, .f32⟩
  | .local _ .vmem, ⟨13, _⟩ => ⟨S128x384, .f32⟩
  | .local _ .vmem, ⟨14, _⟩ => ⟨S32x1024, .f32⟩
  | .local _ .vmem, ⟨15, _⟩ => ⟨S32x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S32x1024, .f32⟩
  | .local _ .vmem, ⟨21, _⟩ => ⟨S32x1024, .f32⟩
  | .local _ .vmem, ⟨22, _⟩ => ⟨S32x256, .f32⟩
  | .local _ .vmem, ⟨23, _⟩ => ⟨S32x256, .f32⟩
  | .local _ .vmem, ⟨24, _⟩ => ⟨S128x384, .f32⟩
  | .local _ .vmem, ⟨25, _⟩ => ⟨S128x384, .f32⟩
  | .local _ .vmem, ⟨26, _⟩ => ⟨S32x1024, .f32⟩
  | .local _ .vmem, ⟨27, _⟩ => ⟨S32x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S32x1024, .f32⟩
  | .local _ .vmem, ⟨33, _⟩ => ⟨S32x1024, .f32⟩
  | .local _ .vmem, ⟨34, _⟩ => ⟨S32x256, .f32⟩
  | .local _ .vmem, ⟨35, _⟩ => ⟨S32x256, .f32⟩
  | .local _ .vmem, ⟨36, _⟩ => ⟨S128x384, .f32⟩
  | .local _ .vmem, ⟨37, _⟩ => ⟨S128x384, .f32⟩
  | .local _ .vmem, ⟨38, _⟩ => ⟨S32x1024, .f32⟩
  | .local _ .vmem, ⟨39, _⟩ => ⟨S32x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S32x1024, .f32⟩
  | .local _ .vmem, ⟨45, _⟩ => ⟨S32x1024, .f32⟩
  | .local _ .vmem, ⟨46, _⟩ => ⟨S32x256, .f32⟩
  | .local _ .vmem, ⟨47, _⟩ => ⟨S32x256, .f32⟩
  | .local _ .vmem, ⟨48, _⟩ => ⟨S128x384, .f32⟩
  | .local _ .vmem, ⟨49, _⟩ => ⟨S128x384, .f32⟩
  | .local _ .vmem, ⟨50, _⟩ => ⟨S32x1024, .f32⟩
  | .local _ .vmem, ⟨51, _⟩ => ⟨S32x1024, .f32⟩
  | .local _ .vmem, ⟨52, _⟩ => ⟨S128x1024, .f32⟩
  | .local _ .vmem, ⟨53, _⟩ => ⟨S128x1024, .f32⟩
  | .local _ .vmem, ⟨54, _⟩ => ⟨S128x1024, .f32⟩
  | .local _ .vmem, ⟨55, _⟩ => ⟨S128x1024, .f32⟩
  | .local _ .vmem, ⟨56, _⟩ => ⟨S32x1024, .f32⟩
  | .local _ .vmem, ⟨57, _⟩ => ⟨S32x1024, .f32⟩
  | .local _ .vmem, ⟨58, _⟩ => ⟨S32x256, .f32⟩
  | .local _ .vmem, ⟨59, _⟩ => ⟨S32x256, .f32⟩
  | .local _ .vmem, ⟨60, _⟩ => ⟨S128x384, .f32⟩
  | .local _ .vmem, ⟨61, _⟩ => ⟨S128x384, .f32⟩
  | .local _ .vmem, ⟨62, _⟩ => ⟨S32x1024, .f32⟩
  | .local _ .vmem, ⟨63, _⟩ => ⟨S32x1024, .f32⟩
  | .local _ .vmem, ⟨64, _⟩ => ⟨S128x1024, .f32⟩
  | .local _ .vmem, ⟨65, _⟩ => ⟨S128x1024, .f32⟩
  | .local _ .vmem, ⟨66, _⟩ => ⟨S128x1024, .f32⟩
  | .local _ .vmem, ⟨67, _⟩ => ⟨S128x1024, .f32⟩
  | .local _ .vmem, ⟨68, _⟩ => ⟨S32x1024, .f32⟩
  | .local _ .vmem, ⟨69, _⟩ => ⟨S32x1024, .f32⟩
  | .local _ .vmem, ⟨70, _⟩ => ⟨S32x256, .f32⟩
  | .local _ .vmem, ⟨71, _⟩ => ⟨S32x256, .f32⟩
  | .local _ .vmem, ⟨72, _⟩ => ⟨S128x384, .f32⟩
  | .local _ .vmem, ⟨73, _⟩ => ⟨S128x384, .f32⟩
  | .local _ .vmem, ⟨74, _⟩ => ⟨S32x1024, .f32⟩
  | .local _ .vmem, ⟨75, _⟩ => ⟨S32x1024, .f32⟩
  | .local _ .vmem, ⟨76, _⟩ => ⟨S128x1024, .f32⟩
  | .local _ .vmem, ⟨77, _⟩ => ⟨S128x1024, .f32⟩
  | .local _ .vmem, ⟨78, _⟩ => ⟨S128x1024, .f32⟩
  | .local _ .vmem, ⟨79, _⟩ => ⟨S128x1024, .f32⟩
  | .local _ .vmem, ⟨80, _⟩ => ⟨S32x1024, .f32⟩
  | .local _ .vmem, ⟨81, _⟩ => ⟨S32x1024, .f32⟩
  | .local _ .vmem, ⟨82, _⟩ => ⟨S32x256, .f32⟩
  | .local _ .vmem, ⟨83, _⟩ => ⟨S32x256, .f32⟩
  | .local _ .vmem, ⟨84, _⟩ => ⟨S128x384, .f32⟩
  | .local _ .vmem, ⟨85, _⟩ => ⟨S128x384, .f32⟩
  | .local _ .vmem, ⟨86, _⟩ => ⟨S32x1024, .f32⟩
  | .local _ .vmem, ⟨87, _⟩ => ⟨S32x1024, .f32⟩
  | .local _ .vmem, ⟨88, _⟩ => ⟨S128x1024, .f32⟩
  | .local _ .vmem, ⟨89, _⟩ => ⟨S128x1024, .f32⟩
  | .local _ .vmem, ⟨90, _⟩ => ⟨S128x1024, .f32⟩
  | .local _ .vmem, ⟨91, _⟩ => ⟨S128x1024, .f32⟩
  | .local _ .vmem, ⟨92, _⟩ => ⟨S32x1024, .f32⟩
  | .local _ .vmem, ⟨93, _⟩ => ⟨S32x1024, .f32⟩
  | .local _ .vmem, ⟨94, _⟩ => ⟨S32x256, .f32⟩
  | .local _ .vmem, ⟨95, _⟩ => ⟨S32x256, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v0_4 : Ref sig .tc := ⟨.hbm, 28, rfl⟩
abbrev main_v0_5 : Ref sig .tc := ⟨.hbm, 29, rfl⟩
abbrev main_v0_6 : Ref sig .tc := ⟨.hbm, 30, rfl⟩
abbrev main_v0_7 : Ref sig .tc := ⟨.hbm, 31, rfl⟩
abbrev main_v0_8 : Ref sig .tc := ⟨.hbm, 32, rfl⟩
abbrev main_v0_9 : Ref sig .tc := ⟨.hbm, 33, rfl⟩
abbrev main_v0_10 : Ref sig .tc := ⟨.hbm, 34, rfl⟩
abbrev main_v0_11 : Ref sig .tc := ⟨.hbm, 35, rfl⟩
abbrev main_v0_12 : Ref sig .tc := ⟨.hbm, 36, rfl⟩
abbrev main_v0_13 : Ref sig .tc := ⟨.hbm, 37, rfl⟩
abbrev main_v0_14 : Ref sig .tc := ⟨.hbm, 38, rfl⟩
abbrev main_v0_15 : Ref sig .tc := ⟨.hbm, 39, rfl⟩
abbrev main_v0_16 : Ref sig .tc := ⟨.hbm, 40, rfl⟩
abbrev main_v0_17 : Ref sig .tc := ⟨.hbm, 41, rfl⟩
abbrev main_v0_18 : Ref sig .tc := ⟨.hbm, 42, rfl⟩
abbrev main_v0_19 : Ref sig .tc := ⟨.hbm, 43, rfl⟩
abbrev main_v0_20 : Ref sig .tc := ⟨.hbm, 44, rfl⟩
abbrev main_v0_21 : Ref sig .tc := ⟨.hbm, 45, rfl⟩
abbrev main_v0_22 : Ref sig .tc := ⟨.hbm, 46, rfl⟩
abbrev main_v0_23 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_41 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_42 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_43 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_44 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_45 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_46 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_47 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S32x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S128x384 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S32x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S128x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S128x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S32x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S32x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S128x384 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S32x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S128x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S128x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S32x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S32x256 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S128x384 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S32x1024 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S128x1024 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S128x1024 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S32x1024 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S32x256 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S128x384 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S32x1024 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S128x1024 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S128x1024 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S32x1024 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S32x256 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]
-- ==== BigIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== BigRefIdeal.lean ====
abbrev S1024x384 : Shape := ⟨2, ![1024, 384]⟩
abbrev S256x1024 : Shape := ⟨2, ![256, 1024]⟩
abbrev S1024x1024 : Shape := ⟨2, ![1024, 1024]⟩
abbrev S256x256 : Shape := ⟨2, ![256, 256]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S1024x384, .f32⟩
  | 1 => ⟨S256x1024, .f32⟩
  | 2 => ⟨S1024x1024, .f32⟩
  | 3 => ⟨S1024x1024, .f32⟩
  | 4 => ⟨S256x1024, .f32⟩
  | 5 => ⟨S256x256, .f32⟩
  | 6 => ⟨S1024x384, .f32⟩
  | 7 => ⟨S256x1024, .f32⟩
  | 8 => ⟨S1024x1024, .f32⟩
  | 9 => ⟨S1024x1024, .f32⟩
  | 10 => ⟨S256x1024, .f32⟩
  | 11 => ⟨S256x256, .f32⟩
  | 12 => ⟨S1024x384, .f32⟩
  | 13 => ⟨S256x1024, .f32⟩
  | 14 => ⟨S1024x1024, .f32⟩
  | 15 => ⟨S1024x1024, .f32⟩
  | 16 => ⟨S256x1024, .f32⟩
  | 17 => ⟨S256x256, .f32⟩
  | 18 => ⟨S1024x384, .f32⟩
  | 19 => ⟨S256x1024, .f32⟩
  | 20 => ⟨S1024x1024, .f32⟩
  | 21 => ⟨S1024x1024, .f32⟩
  | 22 => ⟨S256x1024, .f32⟩
  | 23 => ⟨S256x256, .f32⟩
  | 24 => ⟨S_, .f32⟩
  | 25 => ⟨S1024x384, .f32⟩
  | 26 => ⟨S1024x384, .f32⟩
  | 27 => ⟨S_, .f32⟩
  | 28 => ⟨S1024x384, .f32⟩
  | 29 => ⟨S1024x384, .f32⟩
  | 30 => ⟨S1024x384, .f32⟩
  | 31 => ⟨S_, .f32⟩
  | 32 => ⟨S1024x384, .f32⟩
  | 33 => ⟨S1024x384, .f32⟩
  | 34 => ⟨S1024x384, .f32⟩
  | 35 => ⟨S_, .f32⟩
  | 36 => ⟨S1024x384, .f32⟩
  | 37 => ⟨S1024x384, .f32⟩
  | 38 => ⟨S1024x384, .f32⟩
  | 39 => ⟨S_, .f32⟩
  | 40 => ⟨S1024x384, .f32⟩
  | 41 => ⟨S1024x384, .f32⟩
  | 42 => ⟨S_, .f32⟩
  | 43 => ⟨S1024x384, .f32⟩
  | 44 => ⟨S1024x384, .f32⟩
  | 45 => ⟨S1024x384, .f32⟩
  | 46 => ⟨S_, .f32⟩
  | 47 => ⟨S1024x384, .f32⟩
  | 48 => ⟨S1024x384, .f32⟩
  | 49 => ⟨S1024x384, .f32⟩
  | 50 => ⟨S_, .f32⟩
  | 51 => ⟨S1024x384, .f32⟩
  | 52 => ⟨S1024x384, .f32⟩
  | 53 => ⟨S1024x384, .f32⟩
  | 54 => ⟨S_, .f32⟩
  | 55 => ⟨S1024x384, .f32⟩
  | 56 => ⟨S1024x384, .f32⟩
  | 57 => ⟨S_, .f32⟩
  | 58 => ⟨S256x1024, .f32⟩
  | 59 => ⟨S256x1024, .f32⟩
  | 60 => ⟨S_, .f32⟩
  | 61 => ⟨S256x1024, .f32⟩
  | 62 => ⟨S256x1024, .f32⟩
  | 63 => ⟨S256x1024, .f32⟩
  | 64 => ⟨S_, .f32⟩
  | 65 => ⟨S256x1024, .f32⟩
  | 66 => ⟨S256x1024, .f32⟩
  | 67 => ⟨S256x1024, .f32⟩
  | 68 => ⟨S_, .f32⟩
  | 69 => ⟨S256x1024, .f32⟩
  | 70 => ⟨S256x1024, .f32⟩
  | 71 => ⟨S256x1024, .f32⟩
  | 72 => ⟨S_, .f32⟩
  | 73 => ⟨S256x1024, .f32⟩
  | 74 => ⟨S256x1024, .f32⟩
  | 75 => ⟨S_, .f32⟩
  | 76 => ⟨S256x1024, .f32⟩
  | 77 => ⟨S256x1024, .f32⟩
  | 78 => ⟨S256x1024, .f32⟩
  | 79 => ⟨S_, .f32⟩
  | 80 => ⟨S256x1024, .f32⟩
  | 81 => ⟨S256x1024, .f32⟩
  | 82 => ⟨S256x1024, .f32⟩
  | 83 => ⟨S_, .f32⟩
  | 84 => ⟨S256x1024, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S_, .f32⟩
  | 91 => ⟨S1024x1024, .f32⟩
  | 92 => ⟨S1024x1024, .f32⟩
  | 93 => ⟨S_, .f32⟩
  | 94 => ⟨S1024x1024, .f32⟩
  | 95 => ⟨S1024x1024, .f32⟩
  | 96 => ⟨S1024x1024, .f32⟩
  | 97 => ⟨S_, .f32⟩
  | 98 => ⟨S1024x1024, .f32⟩
  | 99 => ⟨S1024x1024, .f32⟩
  | 100 => ⟨S1024x1024, .f32⟩
  | 101 => ⟨S_, .f32⟩
  | 102 => ⟨S1024x1024, .f32⟩
  | 103 => ⟨S1024x1024, .f32⟩
  | 104 => ⟨S1024x1024, .f32⟩
  | 105 => ⟨S_, .f32⟩
  | 106 => ⟨S1024x1024, .f32⟩
  | 107 => ⟨S1024x1024, .f32⟩
  | 108 => ⟨S_, .f32⟩
  | 109 => ⟨S1024x1024, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S1024x1024, .f32⟩
  | 116 => ⟨S_, .f32⟩
  | 117 => ⟨S1024x1024, .f32⟩
  | 118 => ⟨S1024x1024, .f32⟩
  | 119 => ⟨S1024x1024, .f32⟩
  | 120 => ⟨S_, .f32⟩
  | 121 => ⟨S1024x1024, .f32⟩
  | 122 => ⟨S1024x1024, .f32⟩
  | 123 => ⟨S_, .f32⟩
  | 124 => ⟨S1024x1024, .f32⟩
  | 125 => ⟨S1024x1024, .f32⟩
  | 126 => ⟨S_, .f32⟩
  | 127 => ⟨S1024x1024, .f32⟩
  | _ => ⟨S1024x384, .f32⟩

abbrev hbmTy0_1 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S1024x1024, .f32⟩
  | 6 => ⟨S_, .f32⟩
  | 7 => ⟨S1024x1024, .f32⟩
  | 8 => ⟨S1024x1024, .f32⟩
  | 9 => ⟨S1024x1024, .f32⟩
  | 10 => ⟨S_, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S_, .f32⟩
  | 22 => ⟨S1024x1024, .f32⟩
  | 23 => ⟨S1024x1024, .f32⟩
  | 24 => ⟨S1024x1024, .f32⟩
  | 25 => ⟨S_, .f32⟩
  | 26 => ⟨S1024x1024, .f32⟩
  | 27 => ⟨S1024x1024, .f32⟩
  | 28 => ⟨S_, .f32⟩
  | 29 => ⟨S256x1024, .f32⟩
  | 30 => ⟨S256x1024, .f32⟩
  | 31 => ⟨S_, .f32⟩
  | 32 => ⟨S256x1024, .f32⟩
  | 33 => ⟨S256x1024, .f32⟩
  | 34 => ⟨S256x1024, .f32⟩
  | 35 => ⟨S_, .f32⟩
  | 36 => ⟨S256x1024, .f32⟩
  | 37 => ⟨S256x1024, .f32⟩
  | 38 => ⟨S256x1024, .f32⟩
  | 39 => ⟨S_, .f32⟩
  | 40 => ⟨S256x1024, .f32⟩
  | 41 => ⟨S256x1024, .f32⟩
  | 42 => ⟨S256x1024, .f32⟩
  | 43 => ⟨S_, .f32⟩
  | 44 => ⟨S256x1024, .f32⟩
  | 45 => ⟨S256x1024, .f32⟩
  | 46 => ⟨S_, .f32⟩
  | 47 => ⟨S256x1024, .f32⟩
  | 48 => ⟨S256x1024, .f32⟩
  | 49 => ⟨S256x1024, .f32⟩
  | 50 => ⟨S_, .f32⟩
  | 51 => ⟨S256x1024, .f32⟩
  | 52 => ⟨S256x1024, .f32⟩
  | 53 => ⟨S256x1024, .f32⟩
  | 54 => ⟨S_, .f32⟩
  | 55 => ⟨S256x1024, .f32⟩
  | 56 => ⟨S256x1024, .f32⟩
  | 57 => ⟨S256x1024, .f32⟩
  | 58 => ⟨S_, .f32⟩
  | 59 => ⟨S256x1024, .f32⟩
  | 60 => ⟨S256x1024, .f32⟩
  | 61 => ⟨S_, .f32⟩
  | 62 => ⟨S256x256, .f32⟩
  | 63 => ⟨S256x256, .f32⟩
  | 64 => ⟨S_, .f32⟩
  | 65 => ⟨S256x256, .f32⟩
  | 66 => ⟨S256x256, .f32⟩
  | 67 => ⟨S256x256, .f32⟩
  | 68 => ⟨S_, .f32⟩
  | 69 => ⟨S256x256, .f32⟩
  | 70 => ⟨S256x256, .f32⟩
  | 71 => ⟨S256x256, .f32⟩
  | 72 => ⟨S_, .f32⟩
  | 73 => ⟨S256x256, .f32⟩
  | 74 => ⟨S256x256, .f32⟩
  | 75 => ⟨S256x256, .f32⟩
  | 76 => ⟨S_, .f32⟩
  | 77 => ⟨S256x256, .f32⟩
  | 78 => ⟨S256x256, .f32⟩
  | 79 => ⟨S_, .f32⟩
  | 80 => ⟨S256x256, .f32⟩
  | 81 => ⟨S256x256, .f32⟩
  | 82 => ⟨S256x256, .f32⟩
  | 83 => ⟨S_, .f32⟩
  | 84 => ⟨S256x256, .f32⟩
  | 85 => ⟨S256x256, .f32⟩
  | 86 => ⟨S256x256, .f32⟩
  | 87 => ⟨S_, .f32⟩
  | 88 => ⟨S256x256, .f32⟩
  | 89 => ⟨S256x256, .f32⟩
  | 90 => ⟨S256x256, .f32⟩
  | 91 => ⟨S_, .f32⟩
  | 92 => ⟨S256x256, .f32⟩
  | 93 => ⟨S256x256, .f32⟩
  | _ => ⟨S1024x384, .f32⟩

abbrev hbmTy (i : Nat) : BufTy := match i / 128 with
  | 0 => hbmTy0_0 i
  | 1 => hbmTy0_1 i
  | _ => ⟨S1024x384, .f32⟩

abbrev bufTy : (tb : Table) → Fin (tcTables nBuf tb) → BufTy
  | .hbm, ⟨i, _⟩ => hbmTy i
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Proof.MlpXPay.lean ====
module

public import proofs.«01_k».proof.Proof.Gen.MlpXIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.MlpXIdeal.Hand

open Cert.MlpXIdeal Cert.MlpXIdeal.Gen

/-- The literals of the call and of its reference, by their words: 2, the width 1024, and the norm's epsilon. -/
abbrev two : EReal := Ideal.ofBits FTy.f32 1073741824#32
abbrev width : EReal := Ideal.ofBits FTy.f32 1149239296#32
abbrev eps : EReal := Ideal.ofBits FTy.f32 897988541#32

/-- One column block of the hidden activation's gradient: `d · wᵀ` times twice the saved activation. -/
def dupS (d : FVec Ideal S512x1024 .f32) (w : FVec Ideal S1x1024x1024 .bf16) (r : FVec Ideal S512x1024 .bf16) : FVec Ideal S512x1024 .bf16 :=
  fun x => (∑ k : Fin 1024, d (ix2 (x 0) k) * w (ix3 (0 : Fin 1) (x 1) k)) * (two * r x)

theorem pay4_eq (d : Vec Ideal S512x1024 .f32) (w : Vec Ideal S1x1024x1024 .bf16) (r : Vec Ideal S512x1024 .bf16) :
    k0_pay4 (F := Ideal) d w r = dupS d w r := by
  funext x
  unfold dupS
  pointwise [k0_pay4, k0_pay3]
  first | done | rfl | blk_ext

theorem pay6_eq (d : Vec Ideal S512x1024 .f32) (w : Vec Ideal S1x1024x1024 .bf16) (r : Vec Ideal S512x1024 .bf16) :
    k0_pay6 (F := Ideal) d w r = dupS d w r := by
  funext x
  unfold dupS
  pointwise [k0_pay6, k0_pay3]
  first | done | rfl | blk_ext

theorem pay7_eq (d : Vec Ideal S512x1024 .f32) (w : Vec Ideal S1x1024x1024 .bf16) (r : Vec Ideal S512x1024 .bf16) :
    k0_pay7 (F := Ideal) (k0_pay3 (F := Ideal) d) w r = dupS d w r := by
  funext x
  unfold dupS
  pointwise [k0_pay7, k0_pay3]
  first | done | rfl | blk_ext

theorem pay9_eq (d : Vec Ideal S512x1024 .f32) (w : Vec Ideal S1x1024x1024 .bf16) (r : Vec Ideal S512x1024 .bf16) :
    k0_pay9 (F := Ideal) (k0_pay3 (F := Ideal) d) w r = dupS d w r := by
  funext x
  unfold dupS
  pointwise [k0_pay9, k0_pay3]
  first | done | rfl | blk_ext

/-- A block's gradient against the transpose of one block of the up weights. -/
def upS (u : FVec Ideal S512x1024 .bf16) (w : FVec Ideal S1x1024x1024 .bf16) (i : Fin 512) (b : Fin 1024) : EReal :=
  ∑ k : Fin 1024, u (ix2 i k) * w (ix3 (0 : Fin 1) b k)

theorem pay5_at (d : Vec Ideal S512x1024 .f32) (w : Vec Ideal S1x1024x1024 .bf16) (r : Vec Ideal S512x1024 .bf16) (w2 : Vec Ideal S1x1024x1024 .bf16) (x : S512x1024.Idx) :
    k0_pay5 (F := Ideal) d w r w2 x = upS (dupS d w r) w2 (x 0) (x 1) := by
  rw [← pay4_eq]
  unfold upS
  pointwise [k0_pay5]
  first | done | rfl | blk_ext

theorem pay8_at (d : Vec Ideal S512x1024 .f32) (a : FVec Ideal S512x1024 .f32) (u : FVec Ideal S512x1024 .bf16) (w w' : Vec Ideal S1x1024x1024 .bf16) (r : Vec Ideal S512x1024 .bf16)
    (w2 : Vec Ideal S1x1024x1024 .bf16) (x : S512x1024.Idx) :
    k0_pay8 (F := Ideal) (k0_pay3 (F := Ideal) d) a u w w' r w2 x = a x + upS u w (x 0) (x 1) + upS (dupS d w' r) w2 (x 0) (x 1) := by
  rw [← pay7_eq]
  unfold upS
  pointwise [k0_pay8]
  first | done | rfl | blk_ext

theorem pay10_at (a : FVec Ideal S512x1024 .f32) (u : FVec Ideal S512x1024 .bf16) (w : Vec Ideal S1x1024x1024 .bf16) (x : S512x1024.Idx) :
    k0_pay10 (F := Ideal) a u w x = a x + upS u w (x 0) (x 1) := by
  unfold upS
  pointwise [k0_pay10]
  first | done | rfl | blk_ext

/-- The reciprocal root of a row's mean square. -/
def rstd (h : FVec Ideal S512x1024 .f32) (i : Fin 512) : EReal :=
  Ideal.rsqrt (Ideal.div (∑ k : Fin 1024, h (ix2 i k) * h (ix2 i k)) width + eps)

theorem pay11_at (h : Vec Ideal S512x1024 .f32) (x : S512x1024.Idx) :
    k0_pay11 (F := Ideal) h x = h x * rstd h (x 0) := by
  unfold rstd
  pointwise [k0_pay11]
  first | done | rfl | blk_ext

theorem pay12_at (a : FVec Ideal S512x1024 .f32) (u : FVec Ideal S512x1024 .bf16) (w : Vec Ideal S1x1024x1024 .bf16) (h : Vec Ideal S512x1024 .f32) (x : S1x1024.Idx) :
    k0_pay12 (F := Ideal) a u w h x = ∑ i : Fin 512, k0_pay10 (F := Ideal) a u w (ix2 i (x 1)) * k0_pay11 (F := Ideal) h (ix2 i (x 1)) := by
  generalize hp : k0_pay10 (F := Ideal) a u w = p
  generalize hq : k0_pay11 (F := Ideal) h = q
  pointwise [k0_pay12, hp, hq]
  first | done | rfl | blk_ext

theorem pay13_at (d : Vec Ideal S512x1024 .f32) (a : FVec Ideal S512x1024 .f32) (u : FVec Ideal S512x1024 .bf16) (w : Vec Ideal S1x1024x1024 .bf16) (h : Vec Ideal S512x1024 .f32) (g : Vec Ideal S1x1024 .f32) (x : S512x1024.Idx) :
    k0_pay13 (F := Ideal) d a u w h g x = d x + rstd h (x 0) * (k0_pay10 (F := Ideal) a u w x * g (ix2 0 (x 1))
      - k0_pay11 (F := Ideal) h x * Ideal.div (∑ k : Fin 1024, k0_pay10 (F := Ideal) a u w (ix2 (x 0) k) * g (ix2 0 k) * k0_pay11 (F := Ideal) h (ix2 (x 0) k)) width) := by
  unfold rstd
  generalize hp : k0_pay10 (F := Ideal) a u w = p
  generalize hq : k0_pay11 (F := Ideal) h = q
  pointwise [k0_pay13, hp, hq]
  first | done | rfl | blk_ext

end Cert.MlpXIdeal.Hand

end
-- ==== Proof.MlpXStep.lean ====
module

public import proofs.«01_k».proof.Proof.MlpXPay
public import Idealize.ShloMosaic.Lib.WritesUnit

@[expose] public section

set_option maxRecDepth 16384

noncomputable section

open Idealize.ShloMosaic Idealize.ShloMosaic.TcCoe Idealize.SL.Sem

namespace Cert.MlpXIdeal.Hand

open Cert.MlpXIdeal Cert.MlpXIdeal.Gen

variable (m : (ℓ : Loc nD τ sig) → Buf (Elt Ideal) ℓ)

/-- Hidden column `a * 1024 + b`, and the block and the place in it of a hidden column. -/
abbrev hid (a : Fin 4) (b : Fin 1024) : Fin 4096 := ⟨a.val * 1024 + b.val, by omega⟩
abbrev hi (n : Fin 4096) : Fin 4 := ⟨n.val / 1024, by omega⟩
abbrev lo (n : Fin 4096) : Fin 1024 := ⟨n.val % 1024, by omega⟩

theorem hi_hid (a : Fin 4) (b : Fin 1024) : hi (hid a b) = a := Fin.ext (by show (a.val * 1024 + b.val) / 1024 = a.val; omega)
theorem lo_hid (a : Fin 4) (b : Fin 1024) : lo (hid a b) = b := Fin.ext (by show (a.val * 1024 + b.val) % 1024 = b.val; omega)

/-- The hidden activation's gradient on a row tile, all 4096 columns. -/
def dupB (d : FVec Ideal S512x1024 .f32) (w : FVec Ideal S4x1024x1024 .bf16) (r : FVec Ideal S512x4096 .bf16) : FVec Ideal S512x4096 .bf16 :=
  fun j => (∑ k : Fin 1024, d (ix2 (j 0) k) * w (ix3 (hi (j 1)) (lo (j 1)) k)) * (two * r j)

/-- The gradient of the normed activation on a row tile. -/
def accB (u : FVec Ideal S512x4096 .bf16) (w : FVec Ideal S4x1024x1024 .bf16) (i : Fin 512) (b : Fin 1024) : EReal :=
  ∑ n : Fin 4096, u (ix2 i n) * w (ix3 (hi n) b (lo n))

theorem slot0 (w : Vec Ideal S4x1024x1024 .bf16) (b k : Fin 1024) :
    View.ld w (Rect.unit ![0, 0, 0] ![1, 1024, 1024] inb_S4x1024x1024_S1x1024x1024_0_0_0) (ix3 (0 : Fin 1) b k) = w (ix3 0 b k) := by
  pointwise
  blk_ext
theorem slot1 (w : Vec Ideal S4x1024x1024 .bf16) (b k : Fin 1024) :
    View.ld w (Rect.unit ![1, 0, 0] ![1, 1024, 1024] inb_S4x1024x1024_S1x1024x1024_1_0_0) (ix3 (0 : Fin 1) b k) = w (ix3 1 b k) := by
  pointwise
  blk_ext
theorem slot2 (w : Vec Ideal S4x1024x1024 .bf16) (b k : Fin 1024) :
    View.ld w (Rect.unit ![2, 0, 0] ![1, 1024, 1024] inb_S4x1024x1024_S1x1024x1024_2_0_0) (ix3 (0 : Fin 1) b k) = w (ix3 2 b k) := by
  pointwise
  blk_ext
theorem slot3 (w : Vec Ideal S4x1024x1024 .bf16) (b k : Fin 1024) :
    View.ld w (Rect.unit ![3, 0, 0] ![1, 1024, 1024] inb_S4x1024x1024_S1x1024x1024_3_0_0) (ix3 (0 : Fin 1) b k) = w (ix3 3 b k) := by
  pointwise
  blk_ext

theorem cols0 (r : Vec Ideal S512x4096 .bf16) (x : S512x1024.Idx) :
    View.ld r (Rect.unit ![0, 0] ![512, 1024] inb_S512x4096_S512x1024_0_0) x = r (ix2 (x 0) (hid 0 (x 1))) := by
  pointwise
  blk_ext
theorem cols1 (r : Vec Ideal S512x4096 .bf16) (x : S512x1024.Idx) :
    View.ld r (Rect.unit ![0, 1024] ![512, 1024] inb_S512x4096_S512x1024_0_1024) x = r (ix2 (x 0) (hid 1 (x 1))) := by
  pointwise
  blk_ext
theorem cols2 (r : Vec Ideal S512x4096 .bf16) (x : S512x1024.Idx) :
    View.ld r (Rect.unit ![0, 2048] ![512, 1024] inb_S512x4096_S512x1024_0_2048) x = r (ix2 (x 0) (hid 2 (x 1))) := by
  pointwise
  blk_ext
theorem cols3 (r : Vec Ideal S512x4096 .bf16) (x : S512x1024.Idx) :
    View.ld r (Rect.unit ![0, 3072] ![512, 1024] inb_S512x4096_S512x1024_0_3072) x = r (ix2 (x 0) (hid 3 (x 1))) := by
  pointwise
  blk_ext

theorem emb0 (x : S512x1024.Idx) :
    (Rect.unit (s := S512x4096) ![0, 0] ![512, 1024] inb_S512x4096_S512x1024_0_0).emb x = ix2 (x 0) (hid 0 (x 1)) := by
  blk_ext
theorem emb1 (x : S512x1024.Idx) :
    (Rect.unit (s := S512x4096) ![0, 1024] ![512, 1024] inb_S512x4096_S512x1024_0_1024).emb x = ix2 (x 0) (hid 1 (x 1)) := by
  blk_ext
theorem emb2 (x : S512x1024.Idx) :
    (Rect.unit (s := S512x4096) ![0, 2048] ![512, 1024] inb_S512x4096_S512x1024_0_2048).emb x = ix2 (x 0) (hid 2 (x 1)) := by
  blk_ext
theorem emb3 (x : S512x1024.Idx) :
    (Rect.unit (s := S512x4096) ![0, 3072] ![512, 1024] inb_S512x4096_S512x1024_0_3072).emb x = ix2 (x 0) (hid 3 (x 1)) := by
  blk_ext

/-- A slot's block of the hidden gradient is the tile's hidden gradient at the slot's columns. -/
theorem dup_slot (a : Fin 4) (d : Vec Ideal S512x1024 .f32) (w : Vec Ideal S4x1024x1024 .bf16) (r : Vec Ideal S512x4096 .bf16)
    (w' : Vec Ideal S1x1024x1024 .bf16) (r' : Vec Ideal S512x1024 .bf16)
    (hw : ∀ b k : Fin 1024, w' (ix3 (0 : Fin 1) b k) = w (ix3 a b k)) (hr : ∀ x : S512x1024.Idx, r' x = r (ix2 (x 0) (hid a (x 1)))) (x : S512x1024.Idx) :
    dupS d w' r' x = dupB d w r (ix2 (x 0) (hid a (x 1))) := by
  refine congrArg₂ (· * ·) (Finset.sum_congr rfl fun k _ => congrArg₂ (· * ·) rfl ?_) (congrArg (two * ·) (hr x))
  exact (hw _ _).trans (congrArg₂ (fun (p : Fin 4) (q : Fin 1024) => w (ix3 p q k)) (hi_hid a (x 1)).symm (lo_hid a (x 1)).symm)

/-- One slot's product against the up weights, its block of the hidden gradient read out of the tile's. -/
theorem up_slot (a : Fin 4) (d : Vec Ideal S512x1024 .f32) (w wu : Vec Ideal S4x1024x1024 .bf16) (r : Vec Ideal S512x4096 .bf16)
    (w' wu' : Vec Ideal S1x1024x1024 .bf16) (r' : Vec Ideal S512x1024 .bf16)
    (hw : ∀ b k : Fin 1024, w' (ix3 (0 : Fin 1) b k) = w (ix3 a b k)) (hr : ∀ x : S512x1024.Idx, r' x = r (ix2 (x 0) (hid a (x 1))))
    (hu : ∀ b k : Fin 1024, wu' (ix3 (0 : Fin 1) b k) = wu (ix3 a b k)) (i : Fin 512) (b : Fin 1024) :
    upS (dupS d w' r') wu' i b = ∑ k : Fin 1024, dupB d w r (ix2 i (hid a k)) * wu (ix3 (hi (hid a k)) b (lo (hid a k))) := by
  refine Finset.sum_congr rfl fun k _ => congrArg₂ (· * ·) (dup_slot a d w r w' r' hw hr (ix2 i k)) ?_
  exact (hu _ _).trans (congrArg₂ (fun (p : Fin 4) (q : Fin 1024) => wu (ix3 p b q)) (hi_hid a k).symm (lo_hid a k).symm)

/-- The four slots' products add up to the sum over all hidden columns. -/
theorem accB_split (u : FVec Ideal S512x4096 .bf16) (w : FVec Ideal S4x1024x1024 .bf16) (i : Fin 512) (b : Fin 1024) :
    accB u w i b = (∑ k : Fin 1024, u (ix2 i (hid 0 k)) * w (ix3 (hi (hid 0 k)) b (lo (hid 0 k)))) + (∑ k : Fin 1024, u (ix2 i (hid 1 k)) * w (ix3 (hi (hid 1 k)) b (lo (hid 1 k))))
      + (∑ k : Fin 1024, u (ix2 i (hid 2 k)) * w (ix3 (hi (hid 2 k)) b (lo (hid 2 k)))) + (∑ k : Fin 1024, u (ix2 i (hid 3 k)) * w (ix3 (hi (hid 3 k)) b (lo (hid 3 k)))) := by
  refine Eq.trans ?_ (Fin.sum_univ_four (fun a : Fin 4 => ∑ k : Fin 1024, u (ix2 i (hid a k)) * w (ix3 (hi (hid a k)) b (lo (hid a k)))))
  unfold accB
  exact (Fin.sum_mul_add_congr (F := fun a k => u (ix2 i (hid a k)) * w (ix3 (hi (hid a k)) b (lo (hid a k)))) fun s k hl => rfl).symm

/-- The four stores of the hidden gradient's blocks leave the tile's hidden gradient. -/
theorem canon_dup (d : Vec Ideal S512x1024 .f32) (w : Vec Ideal S4x1024x1024 .bf16) (r : Vec Ideal S512x4096 .bf16) (j : S512x4096.Idx) :
    View.canon (Val := Elt Ideal) (e := .bf16)
      [⟨Rect.unit ![0, 3072] ![512, 1024] inb_S512x4096_S512x1024_0_3072,
          k0_pay9 (F := Ideal) (k0_pay3 (F := Ideal) d)
            (View.ld w (Rect.unit ![3, 0, 0] ![1, 1024, 1024] inb_S4x1024x1024_S1x1024x1024_3_0_0))
            (View.ld r (Rect.unit ![0, 3072] ![512, 1024] inb_S512x4096_S512x1024_0_3072))⟩,
        ⟨Rect.unit ![0, 2048] ![512, 1024] inb_S512x4096_S512x1024_0_2048,
          k0_pay7 (F := Ideal) (k0_pay3 (F := Ideal) d)
            (View.ld w (Rect.unit ![2, 0, 0] ![1, 1024, 1024] inb_S4x1024x1024_S1x1024x1024_2_0_0))
            (View.ld r (Rect.unit ![0, 2048] ![512, 1024] inb_S512x4096_S512x1024_0_2048))⟩,
        ⟨Rect.unit ![0, 1024] ![512, 1024] inb_S512x4096_S512x1024_0_1024,
          k0_pay6 (F := Ideal) d
            (View.ld w (Rect.unit ![1, 0, 0] ![1, 1024, 1024] inb_S4x1024x1024_S1x1024x1024_1_0_0))
            (View.ld r (Rect.unit ![0, 1024] ![512, 1024] inb_S512x4096_S512x1024_0_1024))⟩,
        ⟨Rect.unit ![0, 0] ![512, 1024] inb_S512x4096_S512x1024_0_0,
          k0_pay4 (F := Ideal) d
            (View.ld w (Rect.unit ![0, 0, 0] ![1, 1024, 1024] inb_S4x1024x1024_S1x1024x1024_0_0_0))
            (View.ld r (Rect.unit ![0, 0] ![512, 1024] inb_S512x4096_S512x1024_0_0))⟩] j = dupB d w r j := by
  rw [pay9_eq, pay7_eq, pay6_eq, pay4_eq]
  refine View.canon_append_of_piecesOf (Val := Elt Ideal) (e := .bf16) (dupB d w r) [] [_, _, _, _] ⟨fun x => ?_, fun x => ?_, fun x => ?_, fun x => ?_, trivial⟩ j ?_
  · exact (dup_slot 3 d w r _ _ (slot3 w) (cols3 r) x).trans (congrArg (dupB d w r) (emb3 x)).symm
  · exact (dup_slot 2 d w r _ _ (slot2 w) (cols2 r) x).trans (congrArg (dupB d w r) (emb2 x)).symm
  · exact (dup_slot 1 d w r _ _ (slot1 w) (cols1 r) x).trans (congrArg (dupB d w r) (emb1 x)).symm
  · exact (dup_slot 0 d w r _ _ (slot0 w) (cols0 r) x).trans (congrArg (dupB d w r) (emb0 x)).symm
  · exact View.cover_of_tiledL (s := S512x4096) _ S512x1024.size (by sl_kernel_rfl) j

/-- The last accumulation of a tile, over the slots' accumulations before it, is the tile's gradient of the normed activation. -/
theorem acc_at (d : Vec Ideal S512x1024 .f32) (w wu : Vec Ideal S4x1024x1024 .bf16) (r : Vec Ideal S512x4096 .bf16) (x : S512x1024.Idx) :
    k0_pay10 (F := Ideal) (k0_pay8 (F := Ideal) (k0_pay3 (F := Ideal) d)
        (k0_pay5 (F := Ideal) d
          (View.ld w (Rect.unit ![0, 0, 0] ![1, 1024, 1024] inb_S4x1024x1024_S1x1024x1024_0_0_0))
          (View.ld r (Rect.unit ![0, 0] ![512, 1024] inb_S512x4096_S512x1024_0_0))
          (View.ld wu (Rect.unit ![0, 0, 0] ![1, 1024, 1024] inb_S4x1024x1024_S1x1024x1024_0_0_0)))
        (k0_pay6 (F := Ideal) d
          (View.ld w (Rect.unit ![1, 0, 0] ![1, 1024, 1024] inb_S4x1024x1024_S1x1024x1024_1_0_0))
          (View.ld r (Rect.unit ![0, 1024] ![512, 1024] inb_S512x4096_S512x1024_0_1024)))
        (View.ld wu (Rect.unit ![1, 0, 0] ![1, 1024, 1024] inb_S4x1024x1024_S1x1024x1024_1_0_0))
        (View.ld w (Rect.unit ![2, 0, 0] ![1, 1024, 1024] inb_S4x1024x1024_S1x1024x1024_2_0_0))
        (View.ld r (Rect.unit ![0, 2048] ![512, 1024] inb_S512x4096_S512x1024_0_2048))
        (View.ld wu (Rect.unit ![2, 0, 0] ![1, 1024, 1024] inb_S4x1024x1024_S1x1024x1024_2_0_0)))
      (k0_pay9 (F := Ideal) (k0_pay3 (F := Ideal) d)
        (View.ld w (Rect.unit ![3, 0, 0] ![1, 1024, 1024] inb_S4x1024x1024_S1x1024x1024_3_0_0))
        (View.ld r (Rect.unit ![0, 3072] ![512, 1024] inb_S512x4096_S512x1024_0_3072)))
      (View.ld wu (Rect.unit ![3, 0, 0] ![1, 1024, 1024] inb_S4x1024x1024_S1x1024x1024_3_0_0)) x
    = accB (dupB d w r) wu (x 0) (x 1) := by
  rw [pay10_at, pay8_at, pay5_at, pay6_eq, pay9_eq]
  refine Eq.trans ?_ (accB_split _ _ _ _).symm
  exact congrArg₂ (· + ·) (congrArg₂ (· + ·) (congrArg₂ (· + ·)
    (up_slot 0 d w wu r _ _ _ (slot0 w) (cols0 r) (slot0 wu) (x 0) (x 1)) (up_slot 1 d w wu r _ _ _ (slot1 w) (cols1 r) (slot1 wu) (x 0) (x 1)))
    (up_slot 2 d w wu r _ _ _ (slot2 w) (cols2 r) (slot2 wu) (x 0) (x 1))) (up_slot 3 d w wu r _ _ _ (slot3 w) (cols3 r) (slot3 wu) (x 0) (x 1))

/-- The gradient at the input of the norm, on a row tile. -/
def dhB (d : FVec Ideal S512x1024 .f32) (q : Fin 512 → Fin 1024 → EReal) (h : FVec Ideal S512x1024 .f32) (g : FVec Ideal S1x1024 .f32) : FVec Ideal S512x1024 .f32 :=
  fun x => d x + rstd h (x 0) * (q (x 0) (x 1) * g (ix2 0 (x 1))
      - h x * rstd h (x 0) * Ideal.div (∑ k : Fin 1024, q (x 0) k * g (ix2 0 k) * (h (ix2 (x 0) k) * rstd h (x 0))) width)

/-- A row tile's contribution to the gradient of the norm's gain: row 0 of eight, the other rows nothing. -/
def gB (q : Fin 512 → Fin 1024 → EReal) (h : FVec Ideal S512x1024 .f32) : FVec Ideal S8x1024 .f32 :=
  fun j => if (j 0).val = 0 then ∑ i : Fin 512, q i (j 1) * (h (ix2 i (j 1)) * rstd h i) else 0

theorem dh_at (d : Vec Ideal S512x1024 .f32) (a : FVec Ideal S512x1024 .f32) (u : FVec Ideal S512x1024 .bf16) (w : Vec Ideal S1x1024x1024 .bf16) (h : Vec Ideal S512x1024 .f32) (g : Vec Ideal S1x1024 .f32)
    (q : Fin 512 → Fin 1024 → EReal) (hq : ∀ x : S512x1024.Idx, k0_pay10 (F := Ideal) a u w x = q (x 0) (x 1)) (x : S512x1024.Idx) :
    k0_pay13 (F := Ideal) d a u w h g x = dhB d q h g x := by
  rw [pay13_at]
  unfold dhB
  simp only [hq, pay11_at]
  rfl

theorem g_at (a : FVec Ideal S512x1024 .f32) (u : FVec Ideal S512x1024 .bf16) (w : Vec Ideal S1x1024x1024 .bf16) (h : Vec Ideal S512x1024 .f32)
    (q : Fin 512 → Fin 1024 → EReal) (hq : ∀ x : S512x1024.Idx, k0_pay10 (F := Ideal) a u w x = q (x 0) (x 1)) (x : S1x1024.Idx) :
    k0_pay12 (F := Ideal) a u w h x = ∑ i : Fin 512, q i (x 1) * (h (ix2 i (x 1)) * rstd h i) := by
  rw [pay12_at]
  simp only [hq, pay11_at]
  rfl

theorem pay1_at (v w : Vec Ideal S1x1024 .f32) (x : S1x1024.Idx) : k0_pay1 (F := Ideal) v w x = w x + v x := by
  pointwise [k0_pay1]

end Cert.MlpXIdeal.Hand

end
-- ==== Proof.MlpXOut.lean ====
module

public import proofs.«01_k».proof.Proof.MlpXStep
public import Idealize.ShloMosaic.Lib.WritesUnit

@[expose] public section

set_option maxRecDepth 16384

noncomputable section

open Idealize.ShloMosaic Idealize.ShloMosaic.TcCoe Idealize.SL.Sem

namespace Cert.MlpXIdeal.Hand

open Cert.MlpXIdeal Cert.MlpXIdeal.Gen

variable (m : (ℓ : Loc nD τ sig) → Buf (Elt Ideal) ℓ)

/-- The gradient of the normed activation on the row tile of a grid point. -/
abbrev qT (c : Dev nD) (t : Fin cfg0.N) : Fin 512 → Fin 1024 → EReal :=
  accB (dupB (iblk m c 0 t) (iblk m c 5 t) (iblk m c 1 t)) (iblk m c 4 t)

theorem o6 (c : Dev nD) (t : Fin cfg0.N) (j : S512x4096.Idx) :
    (outsAt0 m c t.val t.isLt).1 j = dupB (iblk m c 0 t) (iblk m c 5 t) (iblk m c 1 t) j := by
  by_cases h0 : t.val % 16 = 0
  · rw [outsAt0_A m c t h0 (by omega)]
    frame_out
    exact canon_dup _ _ _ j
  · by_cases h1 : t.val % 16 = 15
    · rw [outsAt0_C m c t h0 h1]
      frame_out
      exact canon_dup _ _ _ j
    · rw [outsAt0_B m c t h0 h1]
      frame_out
      exact canon_dup _ _ _ j

theorem o7 (c : Dev nD) (t : Fin cfg0.N) (j : S512x1024.Idx) :
    (outsAt0 m c t.val t.isLt).2.1 j = dhB (iblk m c 0 t) (qT m c t) (iblk m c 2 t) (iblk m c 3 t) j := by
  by_cases h0 : t.val % 16 = 0
  · rw [outsAt0_A m c t h0 (by omega)]
    frame_out
    exact dh_at _ _ _ _ _ _ _ (acc_at _ _ _ _) j
  · by_cases h1 : t.val % 16 = 15
    · rw [outsAt0_C m c t h0 h1]
      frame_out
      exact dh_at _ _ _ _ _ _ _ (acc_at _ _ _ _) j
    · rw [outsAt0_B m c t h0 h1]
      frame_out
      exact dh_at _ _ _ _ _ _ _ (acc_at _ _ _ _) j

/-- Reading back a store into row 0 of eight over what was there: the row's values, and the other rows as they were. -/
theorem row_store (v : View sig .tc .vmem S8x1024 .f32) (f : v.ty.Contents (Elt Ideal))
    (L : List (View.Piece (Elt Ideal) S8x1024 .f32)) (P : Vec Ideal S8x1024 .f32) (hP : v.read (Elt Ideal) (v.writes (Elt Ideal) f L) = P)
    (s : Vec Ideal S1x1024 .f32) (R : FVec Ideal S8x1024 .f32) (h0 : ∀ b : Fin 1024, s (ix2 0 b) = R (ix2 0 b)) (hR : ∀ j : S8x1024.Idx, (j 0).val ≠ 0 → R j = 0) (j : S8x1024.Idx) :
    v.read (Elt Ideal) (v.writes (Elt Ideal) f (⟨Rect.unit (s := S8x1024) ![0, 0] ![1, 1024] inb_S8x1024_S1x1024_0_0,
      k0_pay1 (F := Ideal) s (View.ld P (Rect.unit ![0, 0] ![1, 1024] inb_S8x1024_S1x1024_0_0))⟩ :: L)) j = P j + R j := by
  by_cases h : (j 0).val = 0
  · refine (View.read_writes_cons_rows_of_mem v f (o := 0) inb_S8x1024_S1x1024_0_0 _ L j (ix2 (0 : Fin 1) (j 1)) rfl (by rw [h]; rfl) rfl).trans ?_
    refine (pay1_at _ _ _).trans ?_
    have hj : j = ix2 (0 : Fin 8) (j 1) := by
      funext a
      refine Fin.ext ?_
      match a with
      | 0 => exact h
      | 1 => rfl
    refine congrArg₂ (· + ·) ?_ ((h0 (j 1)).trans (congrArg R hj.symm))
    refine Eq.trans ?_ (congrArg P hj.symm)
    pointwise
    blk_ext
  · rw [View.read_writes_cons_rows_of_not_mem v f (o := 0) (W := 1) inb_S8x1024_S1x1024_0_0 _ L j rfl rfl (by omega), hP, hR j h, add_zero]

theorem gB_zero (q : Fin 512 → Fin 1024 → EReal) (h : FVec Ideal S512x1024 .f32) (j : S8x1024.Idx) (hj : (j 0).val ≠ 0) : gB q h j = 0 := if_neg hj

theorem s_B (c : Dev nD) (t : Fin cfg0.N) (h0 : ¬t.val % 16 = 0) (j : S8x1024.Idx) :
    (outsAt0 m c t.val t.isLt).2.2.2 j = (outsAt0 m c (t.val - 1) (Nat.lt_of_le_of_lt (Nat.sub_le _ _) t.isLt)).2.2.2 j
      + gB (qT m c t) (iblk m c 2 t) j := by
  by_cases h1 : t.val % 16 = 15
  · rw [outsAt0_C m c t h0 h1]
    frame_out
    simp only [read_unread_whole]
    refine row_store (View.whole cc0_scratch0) _ [] _ ?_ _ _ (fun b => (g_at _ _ _ _ _ (acc_at _ _ _ _) (ix2 0 b)).trans (if_pos rfl).symm) (gB_zero _ _) j
    exact read_unread_whole _ _ _
  · rw [outsAt0_B m c t h0 h1]
    frame_out
    simp only [read_unread_whole]
    refine row_store (View.whole cc0_scratch0) _ [] _ ?_ _ _ (fun b => (g_at _ _ _ _ _ (acc_at _ _ _ _) (ix2 0 b)).trans (if_pos rfl).symm) (gB_zero _ _) j
    exact read_unread_whole _ _ _

theorem s_A (c : Dev nD) (t : Fin cfg0.N) (h0 : t.val % 16 = 0) (j : S8x1024.Idx) :
    (outsAt0 m c t.val t.isLt).2.2.2 j = 0 + gB (qT m c t) (iblk m c 2 t) j := by
  rw [outsAt0_A m c t h0 (by omega)]
  frame_open
  simp (disch := decide) only [↓ View.readCov_skip, ↓ View.readCov_cons_toLoadRect, ↓ View.readCov_fill]
  frame_out
  refine (congrFun (View.read_writes_junk_eq_canon (View.whole cc0_scratch0) _).symm j).trans ?_
  refine (row_store (View.whole cc0_scratch0) _ _ (k0_pay2 (F := Ideal)) ?_ _ _ (fun b => (g_at _ _ _ _ _ (acc_at _ _ _ _) (ix2 0 b)).trans (if_pos rfl).symm) (gB_zero _ _) j).trans ?_
  · funext y
    exact View.read_writes_cons_unit_of_mem (View.whole cc0_scratch0) _ inb_S8x1024_S8x1024_0_0 _ [] y y (off' := ![0, 0]) rfl fun a => by
      match a with
      | 0 => exact (Nat.zero_add _).symm
      | 1 => exact (Nat.zero_add _).symm
  · congr 1
    pointwise [k0_pay2]

theorem o8_C (c : Dev nD) (t : Fin cfg0.N) (h0 : ¬t.val % 16 = 0) (h1 : t.val % 16 = 15) (j : S8x1024.Idx) :
    (outsAt0 m c t.val t.isLt).2.2.1 j = (outsAt0 m c t.val t.isLt).2.2.2 j := by
  rw [outsAt0_C m c t h0 h1]
  frame_out

end Cert.MlpXIdeal.Hand

end
-- ==== Proof.MlpXSum.lean ====
module

public import proofs.«01_k».proof.Proof.MlpXOut

@[expose] public section

set_option maxRecDepth 16384

noncomputable section

open Idealize.ShloMosaic Idealize.ShloMosaic.TcCoe Idealize.SL.Sem

namespace Cert.MlpXIdeal.Hand

open Cert.MlpXIdeal Cert.MlpXIdeal.Gen

variable (m : (ℓ : Loc nD τ sig) → Buf (Elt Ideal) ℓ)

/-- Which block each window is at, at each of the 16 row tiles. -/
theorem idx : ∀ t : Fin cfg0.N, win0_0.index t = ![t.val, 0] ∧ win0_1.index t = ![t.val, 0] ∧ win0_2.index t = ![t.val, 0] ∧ win0_3.index t = ![0, 0]
    ∧ win0_4.index t = ![0, 0, 0] ∧ win0_5.index t = ![0, 0, 0] ∧ win0_6.index t = ![t.val, 0] ∧ win0_7.index t = ![t.val, 0] ∧ win0_8.index t = ![0, 0] :=
  (by decide +kernel : ∀ t : Fin grid0.N, _)

/-- The hidden activation's gradient, all rows. -/
def dupA (d : S8192x1024.Idx → EReal) (w : S4x1024x1024.Idx → EReal) (r : S8192x4096.Idx → EReal) : S8192x4096.Idx → EReal :=
  fun j => (∑ k : Fin 1024, d (ix2 (j 0) k) * w (ix3 (hi (j 1)) (lo (j 1)) k)) * (two * r j)

/-- The gradient of the normed activation, all rows. -/
def qA (u : S8192x4096.Idx → EReal) (w : S4x1024x1024.Idx → EReal) (i : Fin 8192) (b : Fin 1024) : EReal :=
  ∑ n : Fin 4096, u (ix2 i n) * w (ix3 (hi n) b (lo n))

/-- The reciprocal root of a row's mean square. -/
def rsA (h : S8192x1024.Idx → EReal) (i : Fin 8192) : EReal :=
  Ideal.rsqrt (Ideal.div (∑ k : Fin 1024, h (ix2 i k) * h (ix2 i k)) width + eps)

/-- The gradient at the input of the norm, all rows. -/
def dhA (d : S8192x1024.Idx → EReal) (q : Fin 8192 → Fin 1024 → EReal) (h : S8192x1024.Idx → EReal) (g : S1x1024.Idx → EReal) : S8192x1024.Idx → EReal :=
  fun x => d x + rsA h (x 0) * (q (x 0) (x 1) * g (ix2 0 (x 1))
      - h x * rsA h (x 0) * Ideal.div (∑ k : Fin 1024, q (x 0) k * g (ix2 0 k) * (h (ix2 (x 0) k) * rsA h (x 0))) width)

/-- One row's term of the gradient of the norm's gain. -/
def gT (q : Fin 8192 → Fin 1024 → EReal) (h : S8192x1024.Idx → EReal) (l : Fin 8192) (b : Fin 1024) : EReal := q l b * (h (ix2 l b) * rsA h l)

/-- The gradient of the norm's gain in row 0 of eight, the other rows zero. -/
def gA (q : Fin 8192 → Fin 1024 → EReal) (h : S8192x1024.Idx → EReal) : S8x1024.Idx → EReal :=
  fun j => if (j 0).val = 0 then ∑ l : Fin 8192, gT q h l (j 1) else 0

/-- Row `i` of the row tile of grid point `t`. -/
abbrev row (t : Fin cfg0.N) (i : Fin 512) : Fin 8192 := ⟨t.val * 512 + i.val, by have := t.isLt; have hN : cfg0.N = 16 := N_0; omega⟩

theorem b0 (c : Dev nD) (t : Fin cfg0.N) (i : Fin 512) (k : Fin 1024) : iblk m c 0 t (ix2 i k) = V m c main_arg0 (ix2 (row t i) k) := by
  blk_point [iblk, idx t]

theorem b1 (c : Dev nD) (t : Fin cfg0.N) (i : Fin 512) (k : Fin 4096) : iblk m c 1 t (ix2 i k) = V m c main_v15 (ix2 (row t i) k) := by
  blk_point [iblk, idx t]

theorem b2 (c : Dev nD) (t : Fin cfg0.N) (i : Fin 512) (k : Fin 1024) : iblk m c 2 t (ix2 i k) = V m c main_arg1 (ix2 (row t i) k) := by
  blk_point [iblk, idx t]

theorem b3 (c : Dev nD) (t : Fin cfg0.N) (k : Fin 1024) : iblk m c 3 t (ix2 0 k) = V m c main_v16 (ix2 0 k) := by
  blk_point [iblk, idx t]

theorem b4 (c : Dev nD) (t : Fin cfg0.N) (a : Fin 4) (b k : Fin 1024) : iblk m c 4 t (ix3 a b k) = V m c main_v19 (ix3 a b k) := by
  blk_point [iblk, idx t]

theorem b5 (c : Dev nD) (t : Fin cfg0.N) (a : Fin 4) (b k : Fin 1024) : iblk m c 5 t (ix3 a b k) = V m c main_v21 (ix3 a b k) := by
  blk_point [iblk, idx t]

theorem dup_row (c : Dev nD) (t : Fin cfg0.N) (i : Fin 512) (n : Fin 4096) :
    dupB (iblk m c 0 t) (iblk m c 5 t) (iblk m c 1 t) (ix2 i n) = dupA (V m c main_arg0) (V m c main_v21) (V m c main_v15) (ix2 (row t i) n) := by
  refine congrArg₂ (· * ·) (Finset.sum_congr rfl fun k _ => congrArg₂ (· * ·) (b0 m c t i k) (b5 m c t _ _ k)) (congrArg (two * ·) (b1 m c t i n))

/-- The hidden activation's gradient over the arrays the call reads. -/
abbrev dupV (c : Dev nD) : S8192x4096.Idx → EReal := dupA (V m c main_arg0) (V m c main_v21) (V m c main_v15)

/-- The gradient of the normed activation over the arrays the call reads. -/
abbrev qV (c : Dev nD) : Fin 8192 → Fin 1024 → EReal := qA (dupV m c) (V m c main_v19)

theorem q_row (c : Dev nD) (t : Fin cfg0.N) (i : Fin 512) (b : Fin 1024) : qT m c t i b = qV m c (row t i) b :=
  Finset.sum_congr rfl fun n _ => congrArg₂ (· * ·) (dup_row m c t i n) (b4 m c t _ b _)

theorem rs_row (c : Dev nD) (t : Fin cfg0.N) (i : Fin 512) : rstd (iblk m c 2 t) i = rsA (V m c main_arg1) (row t i) := by
  unfold rstd rsA
  simp only [b2]

theorem dh_row (c : Dev nD) (t : Fin cfg0.N) (i : Fin 512) (b : Fin 1024) :
    dhB (iblk m c 0 t) (qT m c t) (iblk m c 2 t) (iblk m c 3 t) (ix2 i b) = dhA (V m c main_arg0) (qV m c) (V m c main_arg1) (V m c main_v16) (ix2 (row t i) b) := by
  refine congrArg₂ (· + ·) (b0 m c t i b) (congrArg₂ (· * ·) (rs_row m c t i) (congrArg₂ (fun (p q : EReal) => p - q)
    (congrArg₂ (· * ·) (q_row m c t i b) (b3 m c t b)) (congrArg₂ (· * ·) (congrArg₂ (· * ·) (b2 m c t i b) (rs_row m c t i))
      (congrArg (Ideal.div · width) (Finset.sum_congr rfl fun k _ => ?_)))))
  exact congrArg₂ (· * ·) (congrArg₂ (· * ·) (q_row m c t i k) (b3 m c t k)) (congrArg₂ (· * ·) (b2 m c t i k) (rs_row m c t i))

theorem g_row (c : Dev nD) (t : Fin cfg0.N) (b : Fin 1024) :
    gB (qT m c t) (iblk m c 2 t) (ix2 0 b) = ∑ i : Fin 512, gT (qV m c) (V m c main_arg1) (row t i) b :=
  (if_pos rfl).trans (Finset.sum_congr rfl fun i _ => congrArg₂ (fun (p q : EReal) => p * q) (q_row m c t i b)
    (congrArg₂ (fun (p q : EReal) => p * q) (b2 m c t i b) (rs_row m c t i)))

theorem etaR (b : Fin 1024) (y : S8x1024.Idx) (h : (y 0).val = 0) (hb : y 1 = b) : y = ix2 (0 : Fin 8) b := by
  subst hb
  funext a
  refine Fin.ext ?_
  match a with
  | 0 => exact h
  | 1 => rfl
theorem etaW (y : S512x4096.Idx) : y = ix2 (y 0) (y 1) := by blk_ext
theorem etaN (y : S512x1024.Idx) : y = ix2 (y 0) (y 1) := by blk_ext

theorem arr6 (c : Dev nD) : (dats m 0 c).arrAt 6 cfg0.N = dupV m c := by
  refine (dats m 0 c).arrAt_eq_of_covers 6 _ (by decide +kernel) fun t hf y => ?_
  blk_simp
  rw [after0_6, o6]
  refine (congrArg (dupB _ _ _) (etaW y)).trans ((dup_row m c t (y 0) (y 1)).trans (congrArg (dupV m c) ?_))
  blk_ext [idx t]

theorem arr7 (c : Dev nD) : (dats m 0 c).arrAt 7 cfg0.N = dhA (V m c main_arg0) (qV m c) (V m c main_arg1) (V m c main_v16) := by
  refine (dats m 0 c).arrAt_eq_of_covers 7 _ (by decide +kernel) fun t hf y => ?_
  blk_simp
  rw [after0_7, o7]
  refine (congrArg (dhB _ _ _ _) (etaN y)).trans ((dh_row m c t (y 0) (y 1)).trans (congrArg (dhA _ (qV m c) _ _) ?_))
  blk_ext [idx t]

theorem arr8 (c : Dev nD) : (dats m 0 c).arrAt 8 cfg0.N = gA (qV m c) (V m c main_arg1) := by
  refine (dats m 0 c).arrAt_eq_of_covers 8 _ (by decide +kernel) fun t hf y => ?_
  blk_simp
  rw [after0_8]
  have h15 := (flush0_8 t).mp hf
  have hy : (win0_8.blk t).view.emb y = (y : S8x1024.Idx) := by blk_ext [idx t]
  rw [hy, o8_C m c t (by omega) (by omega), Pipeline.eq_sum_fin_of_reset_step_apply_of_flush (fun n h => (outsAt0 m c n h).2.2.2) 16 (fun _ => 0)
    (fun t => gB (qT m c t) (iblk m c 2 t)) (fun t h j => s_A m c t h j) (fun t h j => s_B m c t h j)
    t h15 _, zero_add]
  by_cases h : ((y : S8x1024.Idx) 0).val = 0
  · refine Eq.trans ?_ (if_pos h).symm
    refine Eq.trans (Finset.sum_congr (M := EReal) rfl fun s _ => (congrArg _ (etaR _ y h rfl)).trans (g_row m c _ (y 1))) ?_
    refine Fin.sum_mul_add_congr fun s k hl => congrArg (gT (qV m c) (V m c main_arg1) · (y 1)) (Fin.ext ?_)
    have hN : cfg0.N = 16 := N_0
    have := t.isLt
    show (16 * (t.val / 16) + s.val) * 512 + k.val = s.val * 512 + k.val
    omega
  · refine Eq.trans (Finset.sum_eq_zero (M := EReal) fun s _ => gB_zero _ _ _ h) (if_neg h).symm

end Cert.MlpXIdeal.Hand

end
-- ==== Proof.RmsGrad.lean ====
module

public import Idealize.ShloMosaic.Lib.ValueIdx
public import Idealize.ShloMosaic.Lib.IdealHost

@[expose] public section

noncomputable section

open Idealize.ShloMosaic

namespace Cert.RmsGrad

/-- The literals, by their words: the width 1024, the norm's epsilon, and minus one half. -/
abbrev width : EReal := Ideal.ofBits FTy.f32 1149239296#32
abbrev eps : EReal := Ideal.ofBits FTy.f32 897988541#32
abbrev mhalf : EReal := Ideal.ofBits FTy.f32 3204448256#32

theorem width_eq : width = ((1024 : ℝ) : EReal) := by
  simp [width, Ideal.ofBits, Ideal.ieee, -EReal.coe_mul]
  norm_num [zpow_neg]

theorem mhalf_eq : mhalf = ((-(1 / 2) : ℝ) : EReal) := by
  simp [mhalf, Ideal.ofBits, Ideal.ieee, -EReal.coe_mul]
  norm_num [zpow_neg]

theorem eps_pos : ∃ e : ℝ, 0 < e ∧ eps = (e : EReal) := by
  refine ⟨8796093 * (2 : ℝ) ^ (-43 : Int), by positivity, ?_⟩
  simp [eps, Ideal.ofBits, Ideal.ieee, -EReal.coe_mul]

/-- A real factor that is not negative goes through a sum of extended reals. -/
theorem coe_mul_sum {ι : Type} (s : Finset ι) (f : ι → EReal) (r : ℝ) (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

theorem sq_nonneg (x : EReal) : 0 ≤ x * x := by
  induction x with
  | bot => simp
  | top => simp
  | coe r => exact_mod_cast mul_self_nonneg r

/-- An extended real whose square is not `⊤` is a real. -/
theorem real_of_sq (x : EReal) (h : x * x ≠ ⊤) : ∃ r : ℝ, x = (r : EReal) := by
  induction x with
  | bot => exact absurd (by simp) h
  | top => exact absurd (by simp) h
  | coe r => exact ⟨r, rfl⟩

/-- The mean of the squares of a row. -/
def ms {n : ℕ} (x : Fin n → EReal) : EReal := Ideal.div (∑ k, x k * x k) width

/-- The norm's scale of a row. -/
def rs {n : ℕ} (x : Fin n → EReal) : EReal := Ideal.rsqrt (ms x + eps)

/-- THE GRADIENT OF THE NORM, in the kernel's grouping and in the reference's: `z` is what comes back to the normed row before
    its scale, `d` what is added. No entry need be finite: where the mean square is `⊤` the scale is 0 and both are `d`. -/
theorem grad {n : ℕ} (x z : Fin n → EReal) (d : EReal) (b : Fin n) :
    d + rs x * (z b - x b * rs x * Ideal.div (∑ k, z k * (x k * rs x)) width)
      = d + z b * rs x + x b * Ideal.div ((∑ k, x k * z k) * (mhalf * Ideal.div (rs x) (ms x + eps))) width
        + Ideal.div ((∑ k, x k * z k) * (mhalf * Ideal.div (rs x) (ms x + eps))) width * x b := by
  obtain ⟨e, he, hE⟩ := eps_pos
  have hw : ∀ y : EReal, Ideal.div y width = y * ((1 / 1024 : ℝ) : EReal) := fun y => by
    rw [width_eq]
    exact Ideal.div_coe (by norm_num) y
  have h0 : 0 ≤ ∑ k, x k * x k := Finset.sum_nonneg fun k _ => sq_nonneg (x k)
  by_cases hS : ∑ k, x k * x k = ⊤
  · have hm : ms x + eps = ⊤ := by
      unfold ms
      rw [hw, hS, hE, EReal.top_mul_coe_of_pos (by norm_num)]
      rfl
    have hr : rs x = 0 := by
      unfold rs
      rw [hm]
      rfl
    have hd : Ideal.div (0 : EReal) ⊤ = 0 := by simp [Ideal.div]
    rw [hm, hr, hd, hw, hw]
    simp
  · have hb : ∃ r : ℝ, ∑ k, x k * x k = (r : EReal) := by
      induction h : ∑ k, x k * x k with
      | bot => rw [h] at h0; exact absurd h0 (by simp)
      | top => exact absurd h hS
      | coe r => exact ⟨r, rfl⟩
    obtain ⟨q, hq⟩ := hb
    have hq0 : 0 ≤ q := by rw [hq] at h0; exact_mod_cast h0
    obtain ⟨σ, hσ⟩ : ∃ σ : ℝ, σ = q * (1 / 1024) + e := ⟨_, rfl⟩
    have hσ0 : 0 < σ := by rw [hσ]; positivity
    have hm : ms x + eps = (σ : EReal) := by
      unfold ms
      rw [hw, hq, hE, hσ]
      push_cast
      rfl
    obtain ⟨ρ, hρ⟩ : ∃ ρ : ℝ, ρ = (Real.sqrt σ)⁻¹ := ⟨_, rfl⟩
    have hρ0 : 0 < ρ := by rw [hρ]; exact inv_pos.mpr (Real.sqrt_pos.mpr hσ0)
    have hρσ : ρ * ρ = 1 / σ := by
      rw [hρ, ← mul_inv, Real.mul_self_sqrt hσ0.le, one_div]
    have hr : rs x = (ρ : EReal) := by
      unfold rs
      rw [hm, Ideal.rsqrt_coe, if_neg (not_lt.mpr hσ0.le), if_neg hσ0.ne', hρ]
    have hdv : Ideal.div (ρ : EReal) (σ : EReal) = ((ρ * (1 / σ) : ℝ) : EReal) := by
      rw [Ideal.div_coe hσ0.ne']
      push_cast
      rfl
    have hsum : ∑ k, z k * (x k * (ρ : EReal)) = (ρ : EReal) * ∑ k, x k * z k := by
      rw [coe_mul_sum _ _ _ hρ0.le]
      exact Finset.sum_congr rfl fun k _ => by rw [mul_comm (x k) (z k), mul_comm (ρ : EReal), mul_assoc]
    rw [hm, hr, hdv, hw, hw, hsum, mhalf_eq]
    generalize ∑ k, x k * z k = S
    have h2 : ∀ a : EReal, a + a = ((2 : ℝ) : EReal) * a := fun a => by
      have := EReal.right_distrib_of_nonneg (a := 1) (b := 1) (c := a) (by simp) (by simp)
      rw [one_mul] at this
      rw [← this]
      refine congrArg (· * a) ?_
      rw [← EReal.coe_one, ← EReal.coe_add, one_add_one_eq_two]
    rw [sub_eq_add_neg, EReal.left_distrib_of_nonneg_of_ne_top (EReal.coe_nonneg.mpr hρ0.le) (EReal.coe_ne_top ρ), ← add_assoc, add_assoc (d + z b * (ρ : EReal)),
      mul_comm (ρ : EReal) (z b), mul_comm _ (x b), h2]
    refine congrArg (d + z b * (ρ : EReal) + ·) ?_
    have e1 : (ρ : EReal) * -(x b * (ρ : EReal) * ((ρ : EReal) * S * ((1 / 1024 : ℝ) : EReal))) = (((-(ρ * (ρ * ρ) * (1 / 1024)) : ℝ)) : EReal) * (x b * S) := by
      rw [mul_neg, EReal.coe_neg, neg_mul]
      simp only [EReal.coe_mul]
      ac_rfl
    have e2 : ((2 : ℝ) : EReal) * (x b * (S * (((-(1 / 2) : ℝ) : EReal) * ((ρ * (1 / σ) : ℝ) : EReal)) * ((1 / 1024 : ℝ) : EReal)))
        = ((2 * (-(1 / 2)) * (ρ * (1 / σ)) * (1 / 1024) : ℝ) : EReal) * (x b * S) := by
      simp only [EReal.coe_mul]
      ac_rfl
    rw [e1, e2, ← hρσ]
    congr 2
    ring

end Cert.RmsGrad

end
-- ==== Proof.MlpXValue.lean ====
module

public import proofs.«01_k».proof.Proof.MlpXSum
public import proofs.«01_k».proof.Proof.RmsGrad
public import proofs.«01_k».proof.Proof.Gen.MlpXRefIdeal.Read
public import Idealize.ShloMosaic.Lib.Claim

@[expose] public section

set_option maxRecDepth 16384

noncomputable section

open Idealize.ShloMosaic Idealize.ShloMosaic.TcCoe Idealize.SL.Sem

namespace Cert.MlpXIdeal.Hand

open Cert.MlpXIdeal Cert.MlpXIdeal.Gen
open Cert.MlpXRefIdeal.Read

variable (m : (ℓ : Loc nD τ sig) → Buf (Elt Ideal) ℓ)

/-- The up projection's weights, laid out by blocks of hidden columns. -/
def upW (x3 : S1024x4096.Idx → EReal) : S4x1024x1024.Idx → EReal := fun j => x3 (ix2 (j 1) (hid (j 0) (j 2)))

/-- The down projection's weights, laid out by blocks of hidden rows. -/
def downW (x4 : S4096x1024.Idx → EReal) : S4x1024x1024.Idx → EReal := fun j => x4 (ix2 (hid (j 0) (j 1)) (j 2))

/-- The gain as one row. -/
def gainW (x2 : S1024.Idx → EReal) : S1x1024.Idx → EReal := fun j => x2 (ix1 (j 1))

theorem entry_d (c : Dev nD) : V m c main_arg0 = m ((c : Thread nD τ).loc main_arg0) := by
  entry_read
  rfl

theorem entry_h (c : Dev nD) : V m c main_arg1 = m ((c : Thread nD τ).loc main_arg1) := by
  entry_read
  rfl

theorem entry_r (c : Dev nD) : V m c main_v15 = val_main_v14 (F := Ideal) (m ((c : Thread nD τ).loc main_arg1)) (m ((c : Thread nD τ).loc main_arg2)) (m ((c : Thread nD τ).loc main_arg3)) := by
  entry_read
  rfl

theorem entry_g (c : Dev nD) : V m c main_v16 = gainW (m ((c : Thread nD τ).loc main_arg2)) := by
  refine Eq.trans (b := (shapeCast S1x1024 (show FVec Ideal S1024 .f32 from m ((c : Thread nD τ).loc main_arg2)) shapeCasts_S1024_S1x1024)) ?_ ?_
  · entry_read
    rfl
  · funext j
    pointwise
    first | done | rfl | (unfold gainW; blk_ext)

theorem entry_up (c : Dev nD) : V m c main_v19 = upW (m ((c : Thread nD τ).loc main_arg3)) := by
  refine Eq.trans (b := ((show FVec Ideal S4x1024x1024 .bf16 from truncf .bf16 (transpose S4x1024x1024 [1, 0, 2] (shapeCast S1024x4x1024 (show FVec Ideal S1024x4096 .f32 from m ((c : Thread nD τ).loc main_arg3)) shapeCasts_S1024x4096_S1024x4x1024) transposes_S1024x4x1024_S4x1024x1024_1_0_2) bitsLt_bf16_f32))) ?_ ?_
  · entry_read
    rfl
  · funext j
    pointwise
    first | done | rfl | (unfold upW; blk_ext)

theorem entry_down (c : Dev nD) : V m c main_v21 = downW (m ((c : Thread nD τ).loc main_arg4)) := by
  refine Eq.trans (b := ((show FVec Ideal S4x1024x1024 .bf16 from truncf .bf16 (shapeCast S4x1024x1024 (show FVec Ideal S4096x1024 .f32 from m ((c : Thread nD τ).loc main_arg4)) shapeCasts_S4096x1024_S4x1024x1024) bitsLt_bf16_f32))) ?_ ?_
  · entry_read
    rfl
  · funext j
    pointwise
    first | done | rfl | (unfold downW; blk_ext)

/-- Where a hidden value is not positive, twice its positive part is zero. -/
theorem relu_grad (u y : EReal) : Scalar.select (Ideal.cmp .ogt u (Ideal.ofBits .f32 0#32)) (y * (two * max u (Ideal.ofBits .f32 0#32))) (Ideal.ofBits .f32 0#32)
    = y * (two * max u (Ideal.ofBits .f32 0#32)) := by
  rw [Ideal.ofBits_zero_f32]
  unfold Scalar.select
  split_ifs with h
  · rfl
  · have hu : u ≤ 0 := by
      by_contra hn
      exact h (by simp [Ideal.cmp, not_le.mp hn])
    rw [max_eq_right hu, mul_zero, mul_zero]

theorem ref_dup (x0 x1 : S8192x1024.Idx → EReal) (x2 : S1024.Idx → EReal) (x3 : S1024x4096.Idx → EReal) (x4 : S4096x1024.Idx → EReal) :
    val_main_v25 (F := Ideal) x0 x1 x2 x3 x4 = dupA x0 (downW x4) (val_main_v14 (F := Ideal) x1 x2 x3) := by
  funext j
  rw [val_main_v25_apply, val_main_v16_apply, val_main_v23_apply, val_main_v22_apply, val_main_v20_apply, val_main_v14_apply, val_main_v15_apply, val_main_v24_apply, val_main_v19_apply]
  refine (relu_grad _ _).trans (congrArg₂ (· * ·) (Finset.sum_congr rfl fun k _ => congrArg₂ (· * ·) (congrArg x0 ?_) (congrArg x4 ?_)) rfl)
  · blk_ext
  · blk_ext [hid, hi, lo]

/-- The reference's hidden gradient, which it forms once more for the rows' part, is the same array. -/
theorem ref_dup' (x0 x1 : S8192x1024.Idx → EReal) (x2 : S1024.Idx → EReal) (x3 : S1024x4096.Idx → EReal) (x4 : S4096x1024.Idx → EReal) :
    val_main_v56 (F := Ideal) x0 x1 x2 x3 x4 = dupA x0 (downW x4) (val_main_v14 (F := Ideal) x1 x2 x3) := by
  refine Eq.trans ?_ (ref_dup x0 x1 x2 x3 x4)
  funext j
  rw [val_main_v56_apply, val_main_v54_apply, val_main_v53_apply, val_main_v25_apply, val_main_v23_apply, val_main_v22_apply]
  refine congrArg₂ (fun (p q : EReal) => Scalar.select _ (p * q) _) (Finset.sum_congr rfl fun k _ => congrArg₂ (· * ·) ?_ rfl) rfl
  rw [val_main_v52_apply]
  refine congrArg x0 ?_
  blk_ext

variable (x0 x1 : S8192x1024.Idx → EReal) (x2 : S1024.Idx → EReal) (x3 : S1024x4096.Idx → EReal) (x4 : S4096x1024.Idx → EReal)

/-- The normed activation's gradient in the reference's arrays. -/
abbrev qR : Fin 8192 → Fin 1024 → EReal := qA (dupA x0 (downW x4) (val_main_v14 (F := Ideal) x1 x2 x3)) (upW x3)

theorem ref_q (i : Fin 8192) (b : Fin 1024) : val_main_v57 (F := Ideal) x0 x1 x2 x3 x4 (ix2 i b) = qR x0 x1 x2 x3 x4 i b := by
  rw [val_main_v57_apply, ref_dup']
  refine Finset.sum_congr rfl fun n _ => congrArg₂ (· * ·) (congrArg _ ?_) (congrArg x3 ?_)
  · blk_ext
  · blk_ext [hid, hi, lo]

theorem ref_ms (i : Fin 8192) (j : Cert.MlpXRefIdeal.S8192x1.Idx) (h : (j 0).val = i.val) : val_main_v32 (F := Ideal) x1 j = RmsGrad.ms (fun k => x1 (ix2 i k)) + eps := by
  rw [val_main_v32_apply, val_main_v30_apply, val_main_v28_apply, val_main_v27_apply]
  refine congrArg₂ (fun (p q : EReal) => p + q) (congrArg₂ Ideal.div ((congrArg (· + _) Ideal.ofBits_zero_f32).trans ((zero_add _).trans (Finset.sum_congr rfl fun k _ => ?_))) ?_) ?_
  · rw [val_main_v26_apply]
    refine congrArg (fun i => x1 i * x1 i) ?_
    blk_ext [h]
  · rw [val_main_v29_apply]; rfl
  · rw [val_main_v31_apply]; rfl

theorem ref_rs (i : Fin 8192) (j : Cert.MlpXRefIdeal.S8192x1.Idx) (h : (j 0).val = i.val) : val_main_v33 (F := Ideal) x1 j = rsA x1 i := by
  rw [val_main_v33_apply, ref_ms x1 i j h]
  rfl

theorem ref_gain : val_main_v82 (F := Ideal) x0 x1 x2 x3 x4 = gA (qR x0 x1 x2 x3 x4) x1 := by
  funext j
  unfold val_main_v82
  pointwise
  unfold gA
  by_cases h : (j 0).val = 0
  · rw [dif_pos (by omega), if_pos h, val_main_v80_apply, val_main_v63_apply]
    refine (congrArg (· + _) Ideal.ofBits_zero_f32).trans ((zero_add _).trans ?_)
    rw [Fin.sum_univ_one, val_main_v60_apply, val_main_v59_apply]
    refine (congrArg (· + _) Ideal.ofBits_zero_f32).trans ((zero_add _).trans (Finset.sum_congr rfl fun l _ => ?_))
    rw [val_main_v58_apply, val_main_v38_apply, val_main_v37_apply, ref_rs x1 l _ rfl]
    refine (mul_comm _ _).trans (congrArg₂ (fun (p q : EReal) => p * q) (Eq.trans (congrArg _ ?_) (ref_q x0 x1 x2 x3 x4 l (j 1))) (congrArg (fun (p : EReal) => p * rsA x1 l) (congrArg x1 ?_)))
    · blk_ext
    · blk_ext
  · rw [dif_neg (by omega), if_neg h, val_main_v81_apply]
    exact Ideal.ofBits_zero_f32

/-- The gradient with respect to the normed row times the gain. -/
theorem ref_z (i : Fin 8192) (k : Fin 1024) : val_main_v62 (F := Ideal) x0 x1 x2 x3 x4 (ix2 i k) = qR x0 x1 x2 x3 x4 i k * gainW x2 (ix2 0 k) := by
  rw [val_main_v62_apply, ref_q, val_main_v61_apply, val_main_v39_apply]
  refine congrArg (fun (p : EReal) => qR x0 x1 x2 x3 x4 i k * p) (congrArg x2 ?_)
  blk_ext

/-- The reference's derivative through the reciprocal root, spread over a row. -/
theorem ref_mean (i : Fin 8192) (j : Cert.MlpXRefIdeal.S8192x1024.Idx) (h : (j 0).val = i.val) :
    val_main_v74 (F := Ideal) x0 x1 x2 x3 x4 j
      = Ideal.div ((∑ k, x1 (ix2 i k) * (qR x0 x1 x2 x3 x4 i k * gainW x2 (ix2 0 k)))
          * (RmsGrad.mhalf * Ideal.div (RmsGrad.rs fun k => x1 (ix2 i k)) (RmsGrad.ms (fun k => x1 (ix2 i k)) + eps))) width := by
  rw [val_main_v74_apply, val_main_v73_apply]
  refine (congrArg (· + _) Ideal.ofBits_zero_f32).trans ((zero_add _).trans ?_)
  rw [Fin.sum_univ_one, val_main_v72_apply, val_main_v70_apply, val_main_v66_apply, val_main_v65_apply, val_main_v71_apply, val_main_v36_apply, val_main_v34_apply,
    val_main_v35_apply, ref_ms x1 i _ h, ref_rs x1 i _ h]
  refine congrArg (fun (p : EReal) => Ideal.div (p * _) width) ((congrArg (· + _) Ideal.ofBits_zero_f32).trans ((zero_add _).trans (Finset.sum_congr rfl fun k _ => ?_)))
  rw [val_main_v64_apply]
  refine congrArg₂ (fun (p q : EReal) => p * q) (congrArg x1 ?_) ((congrArg _ ?_).trans (ref_z x0 x1 x2 x3 x4 i k))
  · blk_ext [h]
  · blk_ext [h]

/-- The reference's gradient at the norm's input is the kernel's. -/
theorem ref_dh_at (i : Fin 8192) (b : Fin 1024) :
    val_main_v78 (F := Ideal) x0 x1 x2 x3 x4 (ix2 i b) = dhA x0 (qR x0 x1 x2 x3 x4) x1 (gainW x2) (ix2 i b) := by
  rw [val_main_v78_apply, val_main_v76_apply, val_main_v77_apply, val_main_v75_apply, val_main_v69_apply, val_main_v68_apply, val_main_v67_apply,
    ref_mean x0 x1 x2 x3 x4 i _ rfl, ref_z, ref_rs x1 i _ rfl]
  exact (RmsGrad.grad (fun k => x1 (ix2 i k)) (fun k => qR x0 x1 x2 x3 x4 i k * gainW x2 (ix2 0 k)) (x0 (ix2 i b)) b).symm

theorem ref_dh : val_main_v78 (F := Ideal) x0 x1 x2 x3 x4 = dhA x0 (qR x0 x1 x2 x3 x4) x1 (gainW x2) := by
  funext j
  have hj : j = ix2 (j 0) (j 1) := by blk_ext
  exact (congrArg _ hj).trans ((ref_dh_at x0 x1 x2 x3 x4 (j 0) (j 1)).trans (congrArg _ hj.symm))

end Cert.MlpXIdeal.Hand

end
-- ==== Proof.MlpXClaim.lean ====
module

public import proofs.«01_k».proof.Defs
public import proofs.«01_k».proof.Proof.MlpXValue
public import proofs.«01_k».proof.Proof.Gen.MlpXRefIdeal.Run
public import Idealize.ShloMosaic.Lib.Quiescent

@[expose] public section

set_option maxRecDepth 16384

noncomputable section

namespace Cert.MlpXIdeal.Hand

open Idealize.ShloMosaic Idealize.ShloMosaic.TcCoe Idealize.SL.Sem

open Cert.MlpXRefIdeal.Read

/-- The kernel of the MLP's row gradients and the reference compute the same three arrays. -/
theorem algebraic : Cert.algebraic_MlpXIdeal_MlpXRefIdeal := by
  intro m g m' g' _ hagree
  refine ⟨fun c => Cert.MlpXIdeal.Value.G6 m c, fun c => Cert.MlpXIdeal.Value.G7 m c, fun c => Cert.MlpXIdeal.Value.G8 m c, Cert.MlpXIdeal.Value.run m g,
    (θ_run Cert.MlpXRefIdeal.defs _ _).mono (fun r h c => ⟨(h c).1.trans ?_, (h c).2.1.trans ?_, (h c).2.2.1.trans ?_, (h c).2.2.2⟩) (Cert.MlpXRefIdeal.Value.run m' g')⟩
  · obtain ⟨a0, a1, a2, a3, a4⟩ := hagree c
    refine (val_main_v79_eq _ _ _ _ _).trans ?_
    show _ = Cert.MlpXIdeal.Value.G6 m c
    rw [← Cert.MlpXIdeal.Value.final6 m c, arr6, dupV, entry_d, entry_r, entry_down, a0, a1, a2, a3, a4]
    exact ref_dup _ _ _ _ _
  · obtain ⟨a0, a1, a2, a3, a4⟩ := hagree c
    refine (val_main_v78_eq _ _).trans ?_
    show _ = Cert.MlpXIdeal.Value.G7 m c
    rw [← Cert.MlpXIdeal.Value.final7 m c, arr7, qV, dupV, entry_d, entry_h, entry_r, entry_g, entry_up, entry_down, a0, a1, a2, a3, a4]
    exact ref_dh _ _ _ _ _
  · obtain ⟨a0, a1, a2, a3, a4⟩ := hagree c
    refine (val_main_v82_eq _ _ _ _ _).trans ?_
    show _ = Cert.MlpXIdeal.Value.G8 m c
    rw [← Cert.MlpXIdeal.Value.final8 m c, arr8, qV, dupV, entry_d, entry_h, entry_r, entry_up, entry_down, a0, a1, a2, a3, a4]
    exact ref_gain _ _ _ _ _

/-- The reference terminates, leaves its arguments as they were, and declares no semaphore. -/
theorem frameRef : Cert.quiescent_MlpXRefIdeal := fun m g _ =>
  (θ_run Cert.MlpXRefIdeal.defs _ _).mono (fun r h => ⟨fun c => (h c).2.2.2, sem_eq_zero_of_no_sems (by decide) r.2⟩)
    (Cert.MlpXRefIdeal.Value.run m g)

end Cert.MlpXIdeal.Hand

end
-- ==== Proof.MlpWStep.lean ====
module

public import proofs.«01_k».proof.Proof.Gen.MlpWIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.MlpWIdeal.Hand

open Cert.MlpWIdeal Cert.MlpWIdeal.Gen

variable (m : (ℓ : Loc nD τ sig) → Buf (Elt Ideal) ℓ)

/-- The column of a block pair's 2048 columns that slot `a` holds at `b`. -/
abbrev col (a : Fin 2) (b : Fin 1024) : Fin 2048 := ⟨a.val * 1024 + b.val, by omega⟩

/-- One row tile's contribution to a slot: the product of two blocks over the tile's 512 rows. -/
def part (z : FVec Ideal S512x1024 .bf16) (d : FVec Ideal S512x2048 .bf16) : FVec Ideal S2x1024x1024 .f32 :=
  fun j => ∑ k : Fin 512, z (ix2 k (j 1)) * d (ix2 k (col (j 0) (j 2)))

/-- The same with the squares of the first factor's columns: slot `a`'s rows against a 1024 column block. -/
def part2 (r : FVec Ideal S512x2048 .bf16) (d : FVec Ideal S512x1024 .bf16) : FVec Ideal S2x1024x1024 .f32 :=
  fun j => ∑ k : Fin 512, r (ix2 k (col (j 0) (j 1))) * r (ix2 k (col (j 0) (j 1))) * d (ix2 k (j 2))

theorem pay1_at (v : Vec Ideal S1x1024x1024 .f32) (z d : Vec Ideal S512x1024 .bf16) (x : S1x1024x1024.Idx) :
    k0_pay1 (F := Ideal) v z d x = v x + ∑ k : Fin 512, z (ix2 k (x 1)) * d (ix2 k (x 2)) := by
  pointwise [k0_pay1]
  blk_ext

theorem pay7_at (v : Vec Ideal S1x1024x1024 .f32) (z d : Vec Ideal S512x1024 .bf16) (x : S1x1024x1024.Idx) :
    k0_pay7 (F := Ideal) v z d x = v x + ∑ k : Fin 512, z (ix2 k (x 1)) * d (ix2 k (x 2)) := by
  pointwise [k0_pay7]
  blk_ext

theorem pay2_at (v : Vec Ideal S1x1024x1024 .f32) (z d : Vec Ideal S512x1024 .bf16) (x : S1x1024x1024.Idx) :
    k0_pay2 (F := Ideal) z v d x = v x + ∑ k : Fin 512, z (ix2 k (x 1)) * z (ix2 k (x 1)) * d (ix2 k (x 2)) := by
  pointwise [k0_pay2]
  blk_ext

theorem pay8_at (v : Vec Ideal S1x1024x1024 .f32) (z d : Vec Ideal S512x1024 .bf16) (x : S1x1024x1024.Idx) :
    k0_pay8 (F := Ideal) z v d x = v x + ∑ k : Fin 512, z (ix2 k (x 1)) * z (ix2 k (x 1)) * d (ix2 k (x 2)) := by
  pointwise [k0_pay8]
  blk_ext

theorem emb1 (x : S1x1024x1024.Idx) :
    (Rect.unit (s := S2x1024x1024) ![1, 0, 0] ![1, 1024, 1024] inb_S2x1024x1024_S1x1024x1024_1_0_0).emb x = ix3 (1 : Fin 2) (x 1) (x 2) := by
  blk_ext

theorem emb0 (x : S1x1024x1024.Idx) :
    (Rect.unit (s := S2x1024x1024) ![0, 0, 0] ![1, 1024, 1024] inb_S2x1024x1024_S1x1024x1024_0_0_0).emb x = ix3 (0 : Fin 2) (x 1) (x 2) := by
  blk_ext

theorem cols1 (d : Vec Ideal S512x2048 .bf16) (k : Fin 512) (b : Fin 1024) :
    View.ld d (Rect.unit ![0, 1024] ![512, 1024] inb_S512x2048_S512x1024_0_1024) (ix2 k b) = d (ix2 k (col 1 b)) := by
  pointwise
  blk_ext

theorem cols0 (d : Vec Ideal S512x2048 .bf16) (k : Fin 512) (b : Fin 1024) :
    View.ld d (Rect.unit ![0, 0] ![512, 1024] inb_S512x2048_S512x1024_0_0) (ix2 k b) = d (ix2 k (col 0 b)) := by
  pointwise
  blk_ext

/-- Two slot stores over anything leave what was there plus the tile's contribution. -/
theorem canon_part (P : Vec Ideal S2x1024x1024 .f32) (z : Vec Ideal S512x1024 .bf16) (d : Vec Ideal S512x2048 .bf16)
    (L : List (View.Piece (Elt Ideal) S2x1024x1024 .f32)) (j : S2x1024x1024.Idx) :
    View.canon (⟨Rect.unit ![1, 0, 0] ![1, 1024, 1024] inb_S2x1024x1024_S1x1024x1024_1_0_0,
          k0_pay1 (F := Ideal) (View.ld P (Rect.unit ![1, 0, 0] ![1, 1024, 1024] inb_S2x1024x1024_S1x1024x1024_1_0_0)) z
            (View.ld d (Rect.unit ![0, 1024] ![512, 1024] inb_S512x2048_S512x1024_0_1024))⟩ ::
        ⟨Rect.unit ![0, 0, 0] ![1, 1024, 1024] inb_S2x1024x1024_S1x1024x1024_0_0_0,
          k0_pay7 (F := Ideal) (View.ld P (Rect.unit ![0, 0, 0] ![1, 1024, 1024] inb_S2x1024x1024_S1x1024x1024_0_0_0)) z
            (View.ld d (Rect.unit ![0, 0] ![512, 1024] inb_S512x2048_S512x1024_0_0))⟩ :: L) j = P j + part z d j := by
  refine View.canon_append_of_piecesOf (fun j => (P j + part z d j : EReal)) L [_, _] ⟨fun x => ?_, fun x => ?_, trivial⟩ j ?_
  · refine (pay1_at _ _ _ x).trans (congrArg₂ (· + ·) rfl ?_)
    refine Eq.trans ?_ (congrArg (part z d) (emb1 x)).symm
    refine Finset.sum_congr rfl fun k _ => congrArg₂ (· * ·) rfl ?_
    exact cols1 d k (x 2)
  · refine (pay7_at _ _ _ x).trans (congrArg₂ (· + ·) rfl ?_)
    refine Eq.trans ?_ (congrArg (part z d) (emb0 x)).symm
    refine Finset.sum_congr rfl fun k _ => congrArg₂ (· * ·) rfl ?_
    exact cols0 d k (x 2)
  · exact View.cover_of_tiledL (s := S2x1024x1024) _ S1x1024x1024.size (by sl_kernel_rfl) j

/-- The same of the second scratch. -/
theorem canon_part2 (P : Vec Ideal S2x1024x1024 .f32) (r : Vec Ideal S512x2048 .bf16) (d : Vec Ideal S512x1024 .bf16)
    (L : List (View.Piece (Elt Ideal) S2x1024x1024 .f32)) (j : S2x1024x1024.Idx) :
    View.canon (⟨Rect.unit ![1, 0, 0] ![1, 1024, 1024] inb_S2x1024x1024_S1x1024x1024_1_0_0,
          k0_pay2 (F := Ideal) (k0_pay9 (F := Ideal) (View.ld r (Rect.unit ![0, 1024] ![512, 1024] inb_S512x2048_S512x1024_0_1024)))
            (View.ld P (Rect.unit ![1, 0, 0] ![1, 1024, 1024] inb_S2x1024x1024_S1x1024x1024_1_0_0)) d⟩ ::
        ⟨Rect.unit ![0, 0, 0] ![1, 1024, 1024] inb_S2x1024x1024_S1x1024x1024_0_0_0,
          k0_pay8 (F := Ideal) (View.ld r (Rect.unit ![0, 0] ![512, 1024] inb_S512x2048_S512x1024_0_0))
            (View.ld P (Rect.unit ![0, 0, 0] ![1, 1024, 1024] inb_S2x1024x1024_S1x1024x1024_0_0_0)) d⟩ :: L) j = P j + part2 r d j := by
  refine View.canon_append_of_piecesOf (fun j => (P j + part2 r d j : EReal)) L [_, _] ⟨fun x => ?_, fun x => ?_, trivial⟩ j ?_
  · refine (pay2_at _ _ _ x).trans (congrArg₂ (· + ·) rfl ?_)
    refine Eq.trans ?_ (congrArg (part2 r d) (emb1 x)).symm
    have e : ∀ k : Fin 512, k0_pay9 (F := Ideal) (View.ld r (Rect.unit ![0, 1024] ![512, 1024] inb_S512x2048_S512x1024_0_1024)) (ix2 k (x 1))
        = r (ix2 k (col 1 (x 1))) := fun k => by
      refine Eq.trans ?_ (cols1 r k (x 1))
      unfold k0_pay9
      pointwise
    exact Finset.sum_congr rfl fun k _ => congrArg₂ (· * ·) (congrArg₂ (· * ·) (e k) (e k)) rfl
  · refine (pay8_at _ _ _ x).trans (congrArg₂ (· + ·) rfl ?_)
    refine Eq.trans ?_ (congrArg (part2 r d) (emb0 x)).symm
    have e : ∀ k : Fin 512, View.ld r (Rect.unit ![0, 0] ![512, 1024] inb_S512x2048_S512x1024_0_0) (ix2 k (x 1))
        = r (ix2 k (col 0 (x 1))) := fun k => cols0 r k (x 1)
    exact Finset.sum_congr rfl fun k _ => congrArg₂ (· * ·) (congrArg₂ (· * ·) (e k) (e k)) rfl
  · exact View.cover_of_tiledL (s := S2x1024x1024) _ S1x1024x1024.size (by sl_kernel_rfl) j

theorem s0_B (c : Dev nD) (t : Fin cfg0.N) (h0 : ¬t.val % 16 = 0) (j : S2x1024x1024.Idx) :
    (outsAt0 m c t.val t.isLt).2.2.1 j = (outsAt0 m c (t.val - 1) (Nat.lt_of_le_of_lt (Nat.sub_le _ _) t.isLt)).2.2.1 j
      + part (iblk m c 0 t) (iblk m c 1 t) j := by
  by_cases h1 : t.val % 16 = 15
  · rw [outsAt0_C m c t h0 h1]
    frame_out
    simp only [read_unread_whole]
    exact canon_part _ _ _ [] j
  · rw [outsAt0_B m c t h0 h1]
    frame_out
    simp only [read_unread_whole]
    exact canon_part _ _ _ [] j

theorem s1_B (c : Dev nD) (t : Fin cfg0.N) (h0 : ¬t.val % 16 = 0) (j : S2x1024x1024.Idx) :
    (outsAt0 m c t.val t.isLt).2.2.2 j = (outsAt0 m c (t.val - 1) (Nat.lt_of_le_of_lt (Nat.sub_le _ _) t.isLt)).2.2.2 j
      + part2 (iblk m c 2 t) (iblk m c 3 t) j := by
  by_cases h1 : t.val % 16 = 15
  · rw [outsAt0_C m c t h0 h1]
    frame_out
    simp only [read_unread_whole]
    exact canon_part2 _ _ _ [] j
  · rw [outsAt0_B m c t h0 h1]
    frame_out
    simp only [read_unread_whole]
    exact canon_part2 _ _ _ [] j

theorem s0_A (c : Dev nD) (t : Fin cfg0.N) (h0 : t.val % 16 = 0) (j : S2x1024x1024.Idx) :
    (outsAt0 m c t.val t.isLt).2.2.1 j = 0 + part (iblk m c 0 t) (iblk m c 1 t) j := by
  rw [outsAt0_A m c t h0 (by omega)]
  frame_open
  simp (disch := decide) only [↓ View.readCov_skip, ↓ View.readCov_cons_toLoadRect, ↓ View.readCov_fill]
  frame_out
  refine (canon_part (k0_pay5 (F := Ideal)) _ _ _ j).trans ?_
  congr 1
  pointwise [k0_pay5]

theorem s1_A (c : Dev nD) (t : Fin cfg0.N) (h0 : t.val % 16 = 0) (j : S2x1024x1024.Idx) :
    (outsAt0 m c t.val t.isLt).2.2.2 j = 0 + part2 (iblk m c 2 t) (iblk m c 3 t) j := by
  rw [outsAt0_A m c t h0 (by omega)]
  frame_open
  simp (disch := decide) only [↓ View.readCov_skip, ↓ View.readCov_cons_toLoadRect, ↓ View.readCov_fill]
  frame_out
  refine (canon_part2 (k0_pay6 (F := Ideal)) _ _ _ j).trans ?_
  congr 1
  pointwise [k0_pay6]

/-- A load of the whole scratch after the stores reads what they left. -/
theorem readCov_all (v : View sig .tc .vmem S2x1024x1024 .f32) (L : List (View.Piece (Elt Ideal) S2x1024x1024 .f32)) :
    v.readCov L (Rect.unit (s := S2x1024x1024) ![0, 0, 0] S2x1024x1024.size inb_S2x1024x1024_S2x1024x1024_0_0_0).toLoadRect = View.canon L := by
  rw [View.readCov_eq_canon']
  exact View.ld_unit_lit inb_S2x1024x1024_S2x1024x1024_0_0_0 (View.canon L) (by decide)

theorem o_C (c : Dev nD) (t : Fin cfg0.N) (h0 : ¬t.val % 16 = 0) (h1 : t.val % 16 = 15) (j : S2x1024x1024.Idx) :
    (outsAt0 m c t.val t.isLt).1 j = (outsAt0 m c t.val t.isLt).2.2.1 j := by
  rw [outsAt0_C m c t h0 h1]
  frame_out
  simp only [read_unread_whole]
  pointwise [k0_pay3]
  exact congrFun (readCov_all _ _) j

theorem o2_C (c : Dev nD) (t : Fin cfg0.N) (h0 : ¬t.val % 16 = 0) (h1 : t.val % 16 = 15) (j : S2x1024x1024.Idx) :
    (outsAt0 m c t.val t.isLt).2.1 j = (outsAt0 m c t.val t.isLt).2.2.2 j := by
  rw [outsAt0_C m c t h0 h1]
  frame_out
  simp only [read_unread_whole]
  pointwise [k0_pay4]
  exact congrFun (readCov_all _ _) j

end Cert.MlpWIdeal.Hand

end
-- ==== Proof.MlpWSum.lean ====
module

public import proofs.«01_k».proof.Proof.MlpWStep

@[expose] public section

set_option maxRecDepth 16384

noncomputable section

open Idealize.ShloMosaic Idealize.ShloMosaic.TcCoe Idealize.SL.Sem

namespace Cert.MlpWIdeal.Hand

open Cert.MlpWIdeal Cert.MlpWIdeal.Gen

variable (m : (ℓ : Loc nD τ sig) → Buf (Elt Ideal) ℓ)

/-- Which block each window is at, at each of the 32 grid points: half `t / 16` of the hidden columns, row tile `t % 16`. -/
theorem idx : ∀ t : Fin cfg0.N, win0_0.index t = ![t.val % 16, 0] ∧ win0_1.index t = ![t.val % 16, t.val / 16]
    ∧ win0_2.index t = ![t.val % 16, t.val / 16] ∧ win0_3.index t = ![t.val % 16, 0]
    ∧ win0_4.index t = ![t.val / 16, 0, 0] ∧ win0_5.index t = ![t.val / 16, 0, 0] :=
  (by decide +kernel : ∀ t : Fin grid0.N, _)

/-- Column `a * 1024 + b` of the 4096 hidden columns. -/
abbrev hid (a : Fin 4) (b : Fin 1024) : Fin 4096 := ⟨a.val * 1024 + b.val, by omega⟩

/-- The gradient of the up projection, blocked by 1024 columns: each entry sums over all 8192 rows. -/
def upSum (z : S8192x1024.Idx → EReal) (d : S8192x4096.Idx → EReal) : S4x1024x1024.Idx → EReal :=
  fun j => ∑ l : Fin 8192, z (ix2 l (j 1)) * d (ix2 l (hid (j 0) (j 2)))

/-- The gradient of the down projection, blocked by 1024 rows. -/
def downSum (r : S8192x4096.Idx → EReal) (d : S8192x1024.Idx → EReal) : S4x1024x1024.Idx → EReal :=
  fun j => ∑ l : Fin 8192, r (ix2 l (hid (j 0) (j 1))) * r (ix2 l (hid (j 0) (j 1))) * d (ix2 l (j 2))

theorem arr4 (c : Dev nD) : (dats m 0 c).arrAt 4 cfg0.N = upSum (V m c main_v28) (V m c main_v29) := by
  refine (dats m 0 c).arrAt_eq_of_covers 4 _ (by decide +kernel) fun t hf y => ?_
  blk_simp
  rw [after0_4]
  have h15 := (flush0_4 t).mp hf
  rw [o_C m c t (by omega) (by omega), Pipeline.eq_sum_fin_of_reset_step_apply_of_flush (fun n h => (outsAt0 m c n h).2.2.1) 16 (fun _ => 0)
    (fun t => part (iblk m c 0 t) (iblk m c 1 t)) (fun t h j => s0_A m c t h j) (fun t h j => s0_B m c t h j)
    t h15 _, zero_add]
  unfold part upSum
  refine Fin.sum_mul_add_congr fun s k hl => ?_
  blk_point [iblk, idx t, idx ⟨_, Pipeline.run_point_lt_of_flush t h15 s⟩]
  blk_simp [idx t]
  omega

theorem arr5 (c : Dev nD) : (dats m 0 c).arrAt 5 cfg0.N = downSum (V m c main_v15) (V m c main_v30) := by
  refine (dats m 0 c).arrAt_eq_of_covers 5 _ (by decide +kernel) fun t hf y => ?_
  blk_simp
  rw [after0_5]
  have h15 := (flush0_5 t).mp hf
  rw [o2_C m c t (by omega) (by omega), Pipeline.eq_sum_fin_of_reset_step_apply_of_flush (fun n h => (outsAt0 m c n h).2.2.2) 16 (fun _ => 0)
    (fun t => part2 (iblk m c 2 t) (iblk m c 3 t)) (fun t h j => s1_A m c t h j) (fun t h j => s1_B m c t h j)
    t h15 _, zero_add]
  unfold part2 downSum
  refine Fin.sum_mul_add_congr fun s k hl => ?_
  blk_point [iblk, idx t, idx ⟨_, Pipeline.run_point_lt_of_flush t h15 s⟩]
  blk_simp [idx t]
  omega

end Cert.MlpWIdeal.Hand

end
-- ==== Proof.MlpWValue.lean ====
module

public import proofs.«01_k».proof.Proof.MlpWSum
public import proofs.«01_k».proof.Proof.Gen.MlpWRefIdeal.Read
public import Idealize.ShloMosaic.Lib.Claim

@[expose] public section

set_option maxRecDepth 16384

noncomputable section

open Idealize.ShloMosaic Idealize.ShloMosaic.TcCoe Idealize.SL.Sem

namespace Cert.MlpWIdeal.Hand

open Cert.MlpWIdeal Cert.MlpWIdeal.Gen
open Cert.MlpWRefIdeal.Read

variable (m : (ℓ : Loc nD τ sig) → Buf (Elt Ideal) ℓ)

theorem entry_z (c : Dev nD) : V m c main_v28 = val_main_v12 (F := Ideal) (m ((c : Thread nD τ).loc main_arg1)) (m ((c : Thread nD τ).loc main_arg2)) := by
  entry_read
  rfl

theorem entry_d (c : Dev nD) : V m c main_v30 = (m ((c : Thread nD τ).loc main_arg0)) := by
  entry_read
  rfl

theorem entry_r (c : Dev nD) : V m c main_v15 = val_main_v14 (F := Ideal) (m ((c : Thread nD τ).loc main_arg1)) (m ((c : Thread nD τ).loc main_arg2)) (m ((c : Thread nD τ).loc main_arg3)) := by
  entry_read
  rfl

theorem entry_u (c : Dev nD) : V m c main_v29 = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  entry_read
  rfl

/-- The reference's blocked gradient of the up projection is the sum over the rows. -/
theorem ref_up (x0 x1 : S8192x1024.Idx → EReal) (x2 : S1024.Idx → EReal) (x3 : S1024x4096.Idx → EReal) (x4 : S4096x1024.Idx → EReal) :
    val_main_v33 (F := Ideal) x0 x1 x2 x3 x4 = upSum (val_main_v12 (F := Ideal) x1 x2) (val_main_v28 (F := Ideal) x0 x1 x2 x3 x4) := by
  funext j
  rw [val_main_v33_apply, val_main_v32_apply, val_main_v31_apply, val_main_v30_apply, Ideal.truncf_def, val_main_v29_apply]
  unfold upSum
  refine Finset.sum_congr rfl fun k _ => ?_
  rw [mul_comm]
  refine congrArg₂ (· * ·) (congrArg _ ?_) (congrArg _ ?_)
  · blk_ext
  · blk_ext

/-- The reference's blocked gradient of the down projection is the sum over the rows. -/
theorem ref_down (x0 x1 : S8192x1024.Idx → EReal) (x2 : S1024.Idx → EReal) (x3 : S1024x4096.Idx → EReal) :
    val_main_v35 (F := Ideal) x0 x1 x2 x3 = downSum (val_main_v14 (F := Ideal) x1 x2 x3) x0 := by
  funext j
  rw [val_main_v35_apply, val_main_v34_apply, val_main_v24_apply, Ideal.truncf_def, val_main_v23_apply]
  unfold downSum
  refine Finset.sum_congr rfl fun k _ => ?_
  rw [mul_comm, val_main_v18_apply]
  refine congrArg₂ (· * ·) (congrArg₂ (· * ·) (congrArg _ ?_) (congrArg _ ?_)) (congrArg _ ?_)
  · blk_ext
  · blk_ext
  · blk_ext

end Cert.MlpWIdeal.Hand

end
-- ==== Proof.MlpWClaim.lean ====
module

public import proofs.«01_k».proof.Defs
public import proofs.«01_k».proof.Proof.MlpWValue
public import proofs.«01_k».proof.Proof.Gen.MlpWRefIdeal.Run
public import Idealize.ShloMosaic.Lib.Quiescent

@[expose] public section

set_option maxRecDepth 16384

noncomputable section

namespace Cert.MlpWIdeal.Hand

open Idealize.ShloMosaic Idealize.ShloMosaic.TcCoe Idealize.SL.Sem

open Cert.MlpWRefIdeal.Read

/-- The weight gradients' kernel and the reference compute the same arrays. -/
theorem algebraic : Cert.algebraic_MlpWIdeal_MlpWRefIdeal := by
  intro m g m' g' _ hagree
  refine ⟨fun c => Cert.MlpWIdeal.Value.G4 m c, fun c => Cert.MlpWIdeal.Value.G5 m c, Cert.MlpWIdeal.Value.run m g,
    (θ_run Cert.MlpWRefIdeal.defs _ _).mono (fun r h c => ⟨(h c).1.trans ?_, (h c).2.1.trans ?_, (h c).2.2⟩) (Cert.MlpWRefIdeal.Value.run m' g')⟩
  · obtain ⟨a0, a1, a2, a3, a4⟩ := hagree c
    refine (val_main_v33_eq _ _ _ _ _).trans ?_
    show _ = Cert.MlpWIdeal.Value.G4 m c
    rw [← Cert.MlpWIdeal.Value.final4 m c, arr4, entry_z, entry_u, a0, a1, a2, a3, a4]
    exact ref_up _ _ _ _ _
  · obtain ⟨a0, a1, a2, a3, a4⟩ := hagree c
    refine (val_main_v35_eq _ _ _ _).trans ?_
    show _ = Cert.MlpWIdeal.Value.G5 m c
    rw [← Cert.MlpWIdeal.Value.final5 m c, arr5, entry_r, entry_d, a0, a1, a2, a3]
    exact ref_down _ _ _ _

/-- The reference terminates, leaves its arguments as they were, and declares no semaphore. -/
theorem frameRef : Cert.quiescent_MlpWRefIdeal := fun m g _ =>
  (θ_run Cert.MlpWRefIdeal.defs _ _).mono (fun r h => ⟨fun c => (h c).2.2, sem_eq_zero_of_no_sems (by decide) r.2⟩)
    (Cert.MlpWRefIdeal.Value.run m g)

end Cert.MlpWIdeal.Hand

end
-- ==== Proof.InPay.lean ====
module

public import proofs.«01_k».proof.Proof.Gen.InIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.InIdeal.Hand

open Cert.InIdeal Cert.InIdeal.Gen

/-- The literals of the call and of its reference, by their words: the width 1024 and the norm's epsilon. -/
abbrev width : EReal := Ideal.ofBits FTy.f32 1149239296#32
abbrev eps : EReal := Ideal.ofBits FTy.f32 897988541#32

/-- Projected column `a * 384 + b`, and the block and the place in it of a column. -/
abbrev col (a : Fin 4) (b : Fin 384) : Fin 1536 := ⟨a.val * 384 + b.val, by omega⟩
abbrev hi (n : Fin 1536) : Fin 4 := ⟨n.val / 384, by omega⟩
abbrev lo (n : Fin 1536) : Fin 384 := ⟨n.val % 384, by omega⟩

theorem hi_col (a : Fin 4) (b : Fin 384) : hi (col a b) = a := Fin.ext (by show (a.val * 384 + b.val) / 384 = a.val; omega)
theorem lo_col (a : Fin 4) (b : Fin 384) : lo (col a b) = b := Fin.ext (by show (a.val * 384 + b.val) % 384 = b.val; omega)

/-- The reciprocal root of a row's mean square. -/
def rstd (h : FVec Ideal S512x1024 .f32) (i : Fin 512) : EReal :=
  Ideal.rsqrt (Ideal.div (∑ k : Fin 1024, h (ix2 i k) * h (ix2 i k)) width + eps)

/-- The normed row times the gain. -/
def zB (h : FVec Ideal S512x1024 .f32) (g : FVec Ideal S1x1024 .f32) (i : Fin 512) (b : Fin 1024) : EReal := h (ix2 i b) * rstd h i * g (ix2 0 b)

theorem pay7_at (h : Vec Ideal S512x1024 .f32) (g : Vec Ideal S1x1024 .f32) (i : Fin 512) (b : Fin 1024) :
    k0_pay7 (F := Ideal) h g (ix2 i b) = zB h g i b := by
  unfold zB rstd
  pointwise [k0_pay7]
  first | done | rfl | blk_ext

theorem pay8_at (p : Vec Ideal S512x1536 .bf16) (i : Fin 512) (b : Fin 384) : k0_pay8 (F := Ideal) p (ix2 i b) = p (ix2 i (col 0 b)) := by
  pointwise [k0_pay8, k0_pay6]
  first | done | rfl | blk_ext

theorem pay6_eq (p : Vec Ideal S512x1536 .bf16) : k0_pay6 (F := Ideal) p = p := by
  funext x
  pointwise [k0_pay6]

theorem pay11_at (p : Vec Ideal S512x1536 .bf16) (i : Fin 512) (b : Fin 384) : k0_pay11 (F := Ideal) p (ix2 i b) = p (ix2 i (col 1 b)) := by
  pointwise [k0_pay11]
  first | done | rfl | blk_ext

theorem pay13_at (p : Vec Ideal S512x1536 .bf16) (i : Fin 512) (b : Fin 384) : k0_pay13 (F := Ideal) p (ix2 i b) = p (ix2 i (col 2 b)) := by
  pointwise [k0_pay13]
  first | done | rfl | blk_ext

theorem pay15_at (p : Vec Ideal S512x1536 .bf16) (i : Fin 512) (b : Fin 384) : k0_pay15 (F := Ideal) p (ix2 i b) = p (ix2 i (col 3 b)) := by
  pointwise [k0_pay15]
  first | done | rfl | blk_ext

/-- One block of columns against the transpose of its block of the weights. -/
def dzS (p : FVec Ideal S512x1536 .bf16) (w : FVec Ideal S1x1024x384 .bf16) (a : Fin 4) (i : Fin 512) (b : Fin 1024) : EReal :=
  ∑ k : Fin 384, p (ix2 i (col a k)) * w (ix3 (0 : Fin 1) b k)

theorem pay9_at (p : Vec Ideal S512x1536 .bf16) (w : Vec Ideal S1x1024x384 .bf16) (i : Fin 512) (b : Fin 1024) :
    k0_pay9 (F := Ideal) p w (ix2 i b) = dzS p w 0 i b := by
  unfold dzS
  simp only [← pay8_at]
  generalize hq : k0_pay8 (F := Ideal) p = q
  pointwise [k0_pay9, hq]
  first | done | rfl | blk_ext

theorem pay16_at (p : Vec Ideal S512x1536 .bf16) (s : FVec Ideal S512x1024 .f32) (w1 w2 w3 : Vec Ideal S1x1024x384 .bf16) (i : Fin 512) (b : Fin 1024) :
    k0_pay16 (F := Ideal) p s w1 w2 w3 (ix2 i b) = s (ix2 i b) + dzS p w1 1 i b + dzS p w2 2 i b + dzS p w3 3 i b := by
  unfold dzS
  simp only [← pay11_at, ← pay13_at, ← pay15_at]
  generalize hq : k0_pay11 (F := Ideal) p = q
  generalize hq' : k0_pay13 (F := Ideal) p = q'
  generalize hq'' : k0_pay15 (F := Ideal) p = q''
  pointwise [k0_pay16, hq, hq', hq'']
  first | done | rfl | blk_ext

/-- The product of the normed rows' transpose and one block of columns. -/
def dwS (z : Fin 512 → Fin 1024 → EReal) (p : FVec Ideal S512x1536 .bf16) (a : Fin 4) (b : Fin 1024) (n : Fin 384) : EReal :=
  ∑ k : Fin 512, z k b * p (ix2 k (col a n))

theorem pay10_at (p : Vec Ideal S512x1536 .bf16) (h : Vec Ideal S512x1024 .f32) (g : Vec Ideal S1x1024 .f32) (v : Vec Ideal S1x1024x384 .f32) (b : Fin 1024) (n : Fin 384) :
    k0_pay10 (F := Ideal) p h g v (ix3 0 b n) = v (ix3 0 b n) + dwS (zB h g) p 0 b n := by
  unfold dwS
  simp only [← pay8_at, ← pay7_at]
  generalize hq : k0_pay8 (F := Ideal) p = q
  generalize hz : k0_pay7 (F := Ideal) h g = z
  pointwise [k0_pay10, hq, hz]
  first | done | rfl | blk_ext

theorem pay12_at (p : Vec Ideal S512x1536 .bf16) (h : Vec Ideal S512x1024 .f32) (g : Vec Ideal S1x1024 .f32) (v : Vec Ideal S1x1024x384 .f32) (b : Fin 1024) (n : Fin 384) :
    k0_pay12 (F := Ideal) p (k0_pay7 (F := Ideal) h g) v (ix3 0 b n) = v (ix3 0 b n) + dwS (zB h g) p 1 b n := by
  unfold dwS
  simp only [← pay11_at, ← pay7_at]
  generalize hq : k0_pay11 (F := Ideal) p = q
  generalize hz : k0_pay7 (F := Ideal) h g = z
  pointwise [k0_pay12, hq, hz]
  first | done | rfl | blk_ext

theorem pay14_at (p : Vec Ideal S512x1536 .bf16) (h : Vec Ideal S512x1024 .f32) (g : Vec Ideal S1x1024 .f32) (v : Vec Ideal S1x1024x384 .f32) (b : Fin 1024) (n : Fin 384) :
    k0_pay14 (F := Ideal) p (k0_pay7 (F := Ideal) h g) v (ix3 0 b n) = v (ix3 0 b n) + dwS (zB h g) p 2 b n := by
  unfold dwS
  simp only [← pay13_at, ← pay7_at]
  generalize hq : k0_pay13 (F := Ideal) p = q
  generalize hz : k0_pay7 (F := Ideal) h g = z
  pointwise [k0_pay14, hq, hz]
  first | done | rfl | blk_ext

theorem pay17_at (p : Vec Ideal S512x1536 .bf16) (h : Vec Ideal S512x1024 .f32) (g : Vec Ideal S1x1024 .f32) (v : Vec Ideal S1x1024x384 .f32) (b : Fin 1024) (n : Fin 384) :
    k0_pay17 (F := Ideal) (k0_pay7 (F := Ideal) h g) (k0_pay15 (F := Ideal) p) v (ix3 0 b n) = v (ix3 0 b n) + dwS (zB h g) p 3 b n := by
  unfold dwS
  simp only [← pay15_at, ← pay7_at]
  generalize hq : k0_pay15 (F := Ideal) p = q
  generalize hz : k0_pay7 (F := Ideal) h g = z
  pointwise [k0_pay17, hq, hz]
  first | done | rfl | blk_ext

theorem pay18_at (h : Vec Ideal S512x1024 .f32) (x : S512x1024.Idx) : k0_pay18 (F := Ideal) h x = h x * rstd h (x 0) := by
  unfold rstd
  pointwise [k0_pay18]
  first | done | rfl | blk_ext

theorem pay20_at (h : Vec Ideal S512x1024 .f32) (q : FVec Ideal S512x1024 .f32) (x : S1x1024.Idx) :
    k0_pay20 (F := Ideal) h q x = ∑ i : Fin 512, q (ix2 i (x 1)) * k0_pay18 (F := Ideal) h (ix2 i (x 1)) := by
  generalize hp : k0_pay18 (F := Ideal) h = p
  pointwise [k0_pay20, hp]
  first | done | rfl | blk_ext

theorem pay19_at (h : Vec Ideal S512x1024 .f32) (q : FVec Ideal S512x1024 .f32) (g : Vec Ideal S1x1024 .f32) (x : S512x1024.Idx) :
    k0_pay19 (F := Ideal) h q g x = rstd h (x 0) * (q x * g (ix2 0 (x 1))
      - k0_pay18 (F := Ideal) h x * Ideal.div (∑ k : Fin 1024, q (ix2 (x 0) k) * g (ix2 0 k) * k0_pay18 (F := Ideal) h (ix2 (x 0) k)) width) := by
  unfold rstd
  generalize hp : k0_pay18 (F := Ideal) h = p
  pointwise [k0_pay19, hp]
  first | done | rfl | blk_ext

theorem pay1_at (d e : Vec Ideal S512x1024 .f32) (x : S512x1024.Idx) : k0_pay1 (F := Ideal) d e x = e x + d x := by
  pointwise [k0_pay1]

theorem pay2_at (v w : Vec Ideal S1x1024 .f32) (x : S1x1024.Idx) : k0_pay2 (F := Ideal) v w x = w x + v x := by
  pointwise [k0_pay2]

end Cert.InIdeal.Hand

end
-- ==== Proof.InStep.lean ====
module

public import proofs.«01_k».proof.Proof.InPay
public import Idealize.ShloMosaic.Lib.WritesUnit

@[expose] public section

set_option maxRecDepth 16384

noncomputable section

open Idealize.ShloMosaic Idealize.ShloMosaic.TcCoe Idealize.SL.Sem

namespace Cert.InIdeal.Hand

open Cert.InIdeal Cert.InIdeal.Gen

variable (m : (ℓ : Loc nD τ sig) → Buf (Elt Ideal) ℓ)

theorem slot0 (w : Vec Ideal S4x1024x384 .bf16) (b : Fin 1024) (k : Fin 384) :
    View.ld w (Rect.unit ![0, 0, 0] ![1, 1024, 384] inb_S4x1024x384_S1x1024x384_0_0_0) (ix3 (0 : Fin 1) b k) = w (ix3 0 b k) := by
  pointwise
  blk_ext
theorem acc0 (w : Vec Ideal S4x1024x384 .f32) (b : Fin 1024) (k : Fin 384) :
    View.ld w (Rect.unit ![0, 0, 0] ![1, 1024, 384] inb_S4x1024x384_S1x1024x384_0_0_0) (ix3 (0 : Fin 1) b k) = w (ix3 0 b k) := by
  pointwise
  blk_ext
theorem slot1 (w : Vec Ideal S4x1024x384 .bf16) (b : Fin 1024) (k : Fin 384) :
    View.ld w (Rect.unit ![1, 0, 0] ![1, 1024, 384] inb_S4x1024x384_S1x1024x384_1_0_0) (ix3 (0 : Fin 1) b k) = w (ix3 1 b k) := by
  pointwise
  blk_ext
theorem acc1 (w : Vec Ideal S4x1024x384 .f32) (b : Fin 1024) (k : Fin 384) :
    View.ld w (Rect.unit ![1, 0, 0] ![1, 1024, 384] inb_S4x1024x384_S1x1024x384_1_0_0) (ix3 (0 : Fin 1) b k) = w (ix3 1 b k) := by
  pointwise
  blk_ext
theorem slot2 (w : Vec Ideal S4x1024x384 .bf16) (b : Fin 1024) (k : Fin 384) :
    View.ld w (Rect.unit ![2, 0, 0] ![1, 1024, 384] inb_S4x1024x384_S1x1024x384_2_0_0) (ix3 (0 : Fin 1) b k) = w (ix3 2 b k) := by
  pointwise
  blk_ext
theorem acc2 (w : Vec Ideal S4x1024x384 .f32) (b : Fin 1024) (k : Fin 384) :
    View.ld w (Rect.unit ![2, 0, 0] ![1, 1024, 384] inb_S4x1024x384_S1x1024x384_2_0_0) (ix3 (0 : Fin 1) b k) = w (ix3 2 b k) := by
  pointwise
  blk_ext
theorem slot3 (w : Vec Ideal S4x1024x384 .bf16) (b : Fin 1024) (k : Fin 384) :
    View.ld w (Rect.unit ![3, 0, 0] ![1, 1024, 384] inb_S4x1024x384_S1x1024x384_3_0_0) (ix3 (0 : Fin 1) b k) = w (ix3 3 b k) := by
  pointwise
  blk_ext
theorem acc3 (w : Vec Ideal S4x1024x384 .f32) (b : Fin 1024) (k : Fin 384) :
    View.ld w (Rect.unit ![3, 0, 0] ![1, 1024, 384] inb_S4x1024x384_S1x1024x384_3_0_0) (ix3 (0 : Fin 1) b k) = w (ix3 3 b k) := by
  pointwise
  blk_ext
theorem emb0 (x : S1x1024x384.Idx) :
    (Rect.unit (s := S4x1024x384) ![0, 0, 0] ![1, 1024, 384] inb_S4x1024x384_S1x1024x384_0_0_0).emb x = ix3 (0 : Fin 4) (x 1) (x 2) := by
  blk_ext
theorem emb1 (x : S1x1024x384.Idx) :
    (Rect.unit (s := S4x1024x384) ![1, 0, 0] ![1, 1024, 384] inb_S4x1024x384_S1x1024x384_1_0_0).emb x = ix3 (1 : Fin 4) (x 1) (x 2) := by
  blk_ext
theorem emb2 (x : S1x1024x384.Idx) :
    (Rect.unit (s := S4x1024x384) ![2, 0, 0] ![1, 1024, 384] inb_S4x1024x384_S1x1024x384_2_0_0).emb x = ix3 (2 : Fin 4) (x 1) (x 2) := by
  blk_ext
theorem emb3 (x : S1x1024x384.Idx) :
    (Rect.unit (s := S4x1024x384) ![3, 0, 0] ![1, 1024, 384] inb_S4x1024x384_S1x1024x384_3_0_0).emb x = ix3 (3 : Fin 4) (x 1) (x 2) := by
  blk_ext

theorem eta1 (x : S1x1024x384.Idx) : x = ix3 (0 : Fin 1) (x 1) (x 2) := by blk_ext
theorem etaN (y : S512x1024.Idx) : y = ix2 (y 0) (y 1) := by blk_ext

/-- The gradient of the normed row: the tile's projected gradient against the transpose of the weights, all 1536 columns. -/
def qB (p : FVec Ideal S512x1536 .bf16) (w : FVec Ideal S4x1024x384 .bf16) (i : Fin 512) (b : Fin 1024) : EReal :=
  ∑ n : Fin 1536, p (ix2 i n) * w (ix3 (hi n) b (lo n))

/-- The product of the normed rows' transpose and the projected gradient, in the blocks of the weights. -/
def dwB (z : Fin 512 → Fin 1024 → EReal) (p : FVec Ideal S512x1536 .bf16) : FVec Ideal S4x1024x384 .f32 :=
  fun j => ∑ k : Fin 512, z k (j 1) * p (ix2 k (col (j 0) (j 2)))

theorem dz_slot (a : Fin 4) (p : Vec Ideal S512x1536 .bf16) (w : Vec Ideal S4x1024x384 .bf16) (w' : Vec Ideal S1x1024x384 .bf16)
    (hw : ∀ (b : Fin 1024) (k : Fin 384), w' (ix3 (0 : Fin 1) b k) = w (ix3 a b k)) (i : Fin 512) (b : Fin 1024) :
    dzS p w' a i b = ∑ k : Fin 384, p (ix2 i (col a k)) * w (ix3 (hi (col a k)) b (lo (col a k))) := by
  refine Finset.sum_congr rfl fun k _ => congrArg₂ (· * ·) rfl ?_
  exact (hw _ _).trans (congrArg₂ (fun (p : Fin 4) (q : Fin 384) => w (ix3 p b q)) (hi_col a k).symm (lo_col a k).symm)

/-- The four blocks' products add up to the sum over all columns. -/
theorem qB_split (p : FVec Ideal S512x1536 .bf16) (w : FVec Ideal S4x1024x384 .bf16) (i : Fin 512) (b : Fin 1024) :
    qB p w i b = (∑ k : Fin 384, p (ix2 i (col 0 k)) * w (ix3 (hi (col 0 k)) b (lo (col 0 k)))) + (∑ k : Fin 384, p (ix2 i (col 1 k)) * w (ix3 (hi (col 1 k)) b (lo (col 1 k))))
      + (∑ k : Fin 384, p (ix2 i (col 2 k)) * w (ix3 (hi (col 2 k)) b (lo (col 2 k)))) + (∑ k : Fin 384, p (ix2 i (col 3 k)) * w (ix3 (hi (col 3 k)) b (lo (col 3 k)))) := by
  refine Eq.trans ?_ (Fin.sum_univ_four (fun a : Fin 4 => ∑ k : Fin 384, p (ix2 i (col a k)) * w (ix3 (hi (col a k)) b (lo (col a k)))))
  unfold qB
  exact (Fin.sum_mul_add_congr (F := fun a k => p (ix2 i (col a k)) * w (ix3 (hi (col a k)) b (lo (col a k)))) fun s k hl => rfl).symm

/-- What the tile accumulates over the four blocks is the gradient of its normed rows. -/
theorem q_at (p : Vec Ideal S512x1536 .bf16) (w : Vec Ideal S4x1024x384 .bf16) (x : S512x1024.Idx) :
    k0_pay16 (F := Ideal) (k0_pay6 (F := Ideal) p)
      (k0_pay9 (F := Ideal) p (View.ld w (Rect.unit ![0, 0, 0] ![1, 1024, 384] inb_S4x1024x384_S1x1024x384_0_0_0))) (View.ld w (Rect.unit ![1, 0, 0] ![1, 1024, 384] inb_S4x1024x384_S1x1024x384_1_0_0)) (View.ld w (Rect.unit ![2, 0, 0] ![1, 1024, 384] inb_S4x1024x384_S1x1024x384_2_0_0)) (View.ld w (Rect.unit ![3, 0, 0] ![1, 1024, 384] inb_S4x1024x384_S1x1024x384_3_0_0)) x = qB p w (x 0) (x 1) := by
  rw [pay6_eq]
  refine (congrArg _ (etaN x)).trans ?_
  refine (pay16_at _ _ _ _ _ _ _).trans ?_
  refine Eq.trans ?_ (qB_split _ _ _ _).symm
  exact congrArg₂ (· + ·) (congrArg₂ (· + ·) (congrArg₂ (· + ·)
    ((pay9_at _ _ _ _).trans (dz_slot 0 p w _ (slot0 w) (x 0) (x 1))) (dz_slot 1 p w _ (slot1 w) (x 0) (x 1)))
    (dz_slot 2 p w _ (slot2 w) (x 0) (x 1))) (dz_slot 3 p w _ (slot3 w) (x 0) (x 1))

/-- Four block stores over anything leave what was there plus the tile's contribution. -/
theorem canon_part (P : Vec Ideal S4x1024x384 .f32) (p : Vec Ideal S512x1536 .bf16) (h : Vec Ideal S512x1024 .f32) (g : Vec Ideal S1x1024 .f32)
    (L : List (View.Piece (Elt Ideal) S4x1024x384 .f32)) (j : S4x1024x384.Idx) :
    View.canon (⟨(Rect.unit ![3, 0, 0] ![1, 1024, 384] inb_S4x1024x384_S1x1024x384_3_0_0), k0_pay17 (F := Ideal) (k0_pay7 (F := Ideal) h g) (k0_pay15 (F := Ideal) (k0_pay6 (F := Ideal) p)) (View.ld P (Rect.unit ![3, 0, 0] ![1, 1024, 384] inb_S4x1024x384_S1x1024x384_3_0_0))⟩ ::
        ⟨(Rect.unit ![2, 0, 0] ![1, 1024, 384] inb_S4x1024x384_S1x1024x384_2_0_0), k0_pay14 (F := Ideal) (k0_pay6 (F := Ideal) p) (k0_pay7 (F := Ideal) h g) (View.ld P (Rect.unit ![2, 0, 0] ![1, 1024, 384] inb_S4x1024x384_S1x1024x384_2_0_0))⟩ ::
        ⟨(Rect.unit ![1, 0, 0] ![1, 1024, 384] inb_S4x1024x384_S1x1024x384_1_0_0), k0_pay12 (F := Ideal) (k0_pay6 (F := Ideal) p) (k0_pay7 (F := Ideal) h g) (View.ld P (Rect.unit ![1, 0, 0] ![1, 1024, 384] inb_S4x1024x384_S1x1024x384_1_0_0))⟩ ::
        ⟨(Rect.unit ![0, 0, 0] ![1, 1024, 384] inb_S4x1024x384_S1x1024x384_0_0_0), k0_pay10 (F := Ideal) p h g (View.ld P (Rect.unit ![0, 0, 0] ![1, 1024, 384] inb_S4x1024x384_S1x1024x384_0_0_0))⟩ :: L) j = P j + dwB (zB h g) p j := by
  rw [pay6_eq]
  refine View.canon_append_of_piecesOf (Val := Elt Ideal) (e := .f32) (fun j => (P j + dwB (zB h g) p j : EReal)) L [_, _, _, _] ⟨fun x => ?_, fun x => ?_, fun x => ?_, fun x => ?_, trivial⟩ j ?_
  · refine (congrArg _ (eta1 x)).trans ((pay17_at _ _ _ _ (x 1) (x 2)).trans (congrArg₂ (· + ·) ?_ ?_))
    · exact (acc3 P (x 1) (x 2)).trans (congrArg P (emb3 x)).symm
    · exact (congrArg (dwB (zB h g) p) (emb3 x)).symm
  · refine (congrArg _ (eta1 x)).trans ((pay14_at _ _ _ _ (x 1) (x 2)).trans (congrArg₂ (· + ·) ?_ ?_))
    · exact (acc2 P (x 1) (x 2)).trans (congrArg P (emb2 x)).symm
    · exact (congrArg (dwB (zB h g) p) (emb2 x)).symm
  · refine (congrArg _ (eta1 x)).trans ((pay12_at _ _ _ _ (x 1) (x 2)).trans (congrArg₂ (· + ·) ?_ ?_))
    · exact (acc1 P (x 1) (x 2)).trans (congrArg P (emb1 x)).symm
    · exact (congrArg (dwB (zB h g) p) (emb1 x)).symm
  · refine (congrArg _ (eta1 x)).trans ((pay10_at _ _ _ _ (x 1) (x 2)).trans (congrArg₂ (· + ·) ?_ ?_))
    · exact (acc0 P (x 1) (x 2)).trans (congrArg P (emb0 x)).symm
    · exact (congrArg (dwB (zB h g) p) (emb0 x)).symm
  · exact View.cover_of_tiledL (s := S4x1024x384) _ S1x1024x384.size (by sl_kernel_rfl) j

/-- The gradient at the input of the norm, on a row tile. -/
def dxB (d : FVec Ideal S512x1024 .f32) (q : Fin 512 → Fin 1024 → EReal) (h : FVec Ideal S512x1024 .f32) (g : FVec Ideal S1x1024 .f32) : FVec Ideal S512x1024 .f32 :=
  fun x => d x + rstd h (x 0) * (q (x 0) (x 1) * g (ix2 0 (x 1))
      - h x * rstd h (x 0) * Ideal.div (∑ k : Fin 1024, q (x 0) k * g (ix2 0 k) * (h (ix2 (x 0) k) * rstd h (x 0))) width)

/-- A row tile's contribution to the gradient of the norm's gain: row 0 of eight, the other rows nothing. -/
def gB (q : Fin 512 → Fin 1024 → EReal) (h : FVec Ideal S512x1024 .f32) : FVec Ideal S8x1024 .f32 :=
  fun j => if (j 0).val = 0 then ∑ i : Fin 512, q i (j 1) * (h (ix2 i (j 1)) * rstd h i) else 0

theorem dx_at (d : Vec Ideal S512x1024 .f32) (a : FVec Ideal S512x1024 .f32) (h : Vec Ideal S512x1024 .f32) (g : Vec Ideal S1x1024 .f32)
    (q : Fin 512 → Fin 1024 → EReal) (hq : ∀ x : S512x1024.Idx, a x = q (x 0) (x 1)) (x : S512x1024.Idx) :
    k0_pay1 (F := Ideal) (k0_pay19 (F := Ideal) h a g) d x = dxB d q h g x := by
  rw [pay1_at, pay19_at]
  unfold dxB
  simp only [hq, pay18_at]
  rfl

theorem g_at (a : FVec Ideal S512x1024 .f32) (h : Vec Ideal S512x1024 .f32)
    (q : Fin 512 → Fin 1024 → EReal) (hq : ∀ x : S512x1024.Idx, a x = q (x 0) (x 1)) (x : S1x1024.Idx) :
    k0_pay20 (F := Ideal) h a x = ∑ i : Fin 512, q i (x 1) * (h (ix2 i (x 1)) * rstd h i) := by
  rw [pay20_at]
  simp only [hq, pay18_at]
  rfl

end Cert.InIdeal.Hand

end
-- ==== Proof.InOut.lean ====
module

public import proofs.«01_k».proof.Proof.InStep
public import Idealize.ShloMosaic.Lib.WritesUnit

@[expose] public section

set_option maxRecDepth 16384

noncomputable section

open Idealize.ShloMosaic Idealize.ShloMosaic.TcCoe Idealize.SL.Sem

namespace Cert.InIdeal.Hand

open Cert.InIdeal Cert.InIdeal.Gen

variable (m : (ℓ : Loc nD τ sig) → Buf (Elt Ideal) ℓ)

/-- The gradient of the normed rows on the row tile of a grid point. -/
abbrev qT (c : Dev nD) (t : Fin cfg0.N) : Fin 512 → Fin 1024 → EReal := qB (iblk m c 0 t) (iblk m c 4 t)

theorem o5 (c : Dev nD) (t : Fin cfg0.N) (j : S512x1024.Idx) :
    (outsAt0 m c t.val t.isLt).1 j = dxB (iblk m c 2 t) (qT m c t) (iblk m c 1 t) (iblk m c 3 t) j := by
  by_cases h0 : t.val % 16 = 0
  · rw [outsAt0_A m c t h0 (by omega)]
    frame_out
    exact dx_at _ _ _ _ _ (q_at _ _) j
  · by_cases h1 : t.val % 16 = 15
    · rw [outsAt0_C m c t h0 h1]
      frame_out
      exact dx_at _ _ _ _ _ (q_at _ _) j
    · rw [outsAt0_B m c t h0 h1]
      frame_out
      exact dx_at _ _ _ _ _ (q_at _ _) j

theorem w_B (c : Dev nD) (t : Fin cfg0.N) (h0 : ¬t.val % 16 = 0) (j : S4x1024x384.Idx) :
    (outsAt0 m c t.val t.isLt).2.2.2.1 j = (outsAt0 m c (t.val - 1) (Nat.lt_of_le_of_lt (Nat.sub_le _ _) t.isLt)).2.2.2.1 j
      + dwB (zB (iblk m c 1 t) (iblk m c 3 t)) (iblk m c 0 t) j := by
  by_cases h1 : t.val % 16 = 15
  · rw [outsAt0_C m c t h0 h1]
    frame_out
    simp only [read_unread_whole]
    exact canon_part _ _ _ _ [] j
  · rw [outsAt0_B m c t h0 h1]
    frame_out
    simp only [read_unread_whole]
    exact canon_part _ _ _ _ [] j

theorem w_A (c : Dev nD) (t : Fin cfg0.N) (h0 : t.val % 16 = 0) (j : S4x1024x384.Idx) :
    (outsAt0 m c t.val t.isLt).2.2.2.1 j = 0 + dwB (zB (iblk m c 1 t) (iblk m c 3 t)) (iblk m c 0 t) j := by
  rw [outsAt0_A m c t h0 (by omega)]
  frame_open
  simp (disch := decide) only [↓ View.readCov_skip, ↓ View.readCov_cons_toLoadRect, ↓ View.readCov_fill]
  frame_out
  refine (canon_part (k0_pay4 (F := Ideal)) _ _ _ _ j).trans ?_
  congr 1
  pointwise [k0_pay4]

/-- A load of the whole scratch after the stores reads what they left. -/
theorem readCov_all (v : View sig .tc .vmem S4x1024x384 .f32) (L : List (View.Piece (Elt Ideal) S4x1024x384 .f32)) :
    v.readCov L (Rect.unit (s := S4x1024x384) ![0, 0, 0] S4x1024x384.size inb_S4x1024x384_S4x1024x384_0_0_0).toLoadRect = View.canon L := by
  rw [View.readCov_eq_canon']
  exact View.ld_unit_lit inb_S4x1024x384_S4x1024x384_0_0_0 (View.canon L) (by decide)

theorem o6_C (c : Dev nD) (t : Fin cfg0.N) (h0 : ¬t.val % 16 = 0) (h1 : t.val % 16 = 15) (j : S4x1024x384.Idx) :
    (outsAt0 m c t.val t.isLt).2.1 j = (outsAt0 m c t.val t.isLt).2.2.2.1 j := by
  rw [outsAt0_C m c t h0 h1]
  frame_out
  simp only [read_unread_whole]
  pointwise [k0_pay3]
  exact congrFun (readCov_all _ _) j

/-- Reading back a store into row 0 of eight over what was there: the row's values, and the other rows as they were. -/
theorem row_store (v : View sig .tc .vmem S8x1024 .f32) (f : v.ty.Contents (Elt Ideal))
    (L : List (View.Piece (Elt Ideal) S8x1024 .f32)) (P : Vec Ideal S8x1024 .f32) (hP : v.read (Elt Ideal) (v.writes (Elt Ideal) f L) = P)
    (s : Vec Ideal S1x1024 .f32) (R : FVec Ideal S8x1024 .f32) (h0 : ∀ b : Fin 1024, s (ix2 0 b) = R (ix2 0 b)) (hR : ∀ j : S8x1024.Idx, (j 0).val ≠ 0 → R j = 0) (j : S8x1024.Idx) :
    v.read (Elt Ideal) (v.writes (Elt Ideal) f (⟨Rect.unit (s := S8x1024) ![0, 0] ![1, 1024] inb_S8x1024_S1x1024_0_0,
      k0_pay2 (F := Ideal) s (View.ld P (Rect.unit ![0, 0] ![1, 1024] inb_S8x1024_S1x1024_0_0))⟩ :: L)) j = P j + R j := by
  by_cases h : (j 0).val = 0
  · refine (View.read_writes_cons_rows_of_mem v f (o := 0) inb_S8x1024_S1x1024_0_0 _ L j (ix2 (0 : Fin 1) (j 1)) rfl (by rw [h]; rfl) rfl).trans ?_
    refine (pay2_at _ _ _).trans ?_
    have hj : j = ix2 (0 : Fin 8) (j 1) := by
      funext a
      refine Fin.ext ?_
      match a with
      | 0 => exact h
      | 1 => rfl
    refine congrArg₂ (· + ·) ?_ ((h0 (j 1)).trans (congrArg R hj.symm))
    refine Eq.trans ?_ (congrArg P hj.symm)
    pointwise
    blk_ext
  · rw [View.read_writes_cons_rows_of_not_mem v f (o := 0) (W := 1) inb_S8x1024_S1x1024_0_0 _ L j rfl rfl (by omega), hP, hR j h, add_zero]

theorem gB_zero (q : Fin 512 → Fin 1024 → EReal) (h : FVec Ideal S512x1024 .f32) (j : S8x1024.Idx) (hj : (j 0).val ≠ 0) : gB q h j = 0 := if_neg hj

theorem g_B (c : Dev nD) (t : Fin cfg0.N) (h0 : ¬t.val % 16 = 0) (j : S8x1024.Idx) :
    (outsAt0 m c t.val t.isLt).2.2.2.2 j = (outsAt0 m c (t.val - 1) (Nat.lt_of_le_of_lt (Nat.sub_le _ _) t.isLt)).2.2.2.2 j
      + gB (qT m c t) (iblk m c 1 t) j := by
  by_cases h1 : t.val % 16 = 15
  · rw [outsAt0_C m c t h0 h1]
    frame_out
    simp only [read_unread_whole]
    refine row_store (View.whole cc0_scratch1) _ [] _ ?_ _ _ (fun b => (g_at _ _ _ (q_at _ _) (ix2 0 b)).trans (if_pos rfl).symm) (gB_zero _ _) j
    exact read_unread_whole _ _ _
  · rw [outsAt0_B m c t h0 h1]
    frame_out
    simp only [read_unread_whole]
    refine row_store (View.whole cc0_scratch1) _ [] _ ?_ _ _ (fun b => (g_at _ _ _ (q_at _ _) (ix2 0 b)).trans (if_pos rfl).symm) (gB_zero _ _) j
    exact read_unread_whole _ _ _

theorem g_A (c : Dev nD) (t : Fin cfg0.N) (h0 : t.val % 16 = 0) (j : S8x1024.Idx) :
    (outsAt0 m c t.val t.isLt).2.2.2.2 j = 0 + gB (qT m c t) (iblk m c 1 t) j := by
  rw [outsAt0_A m c t h0 (by omega)]
  frame_open
  simp (disch := decide) only [↓ View.readCov_skip, ↓ View.readCov_cons_toLoadRect, ↓ View.readCov_fill]
  frame_out
  refine (congrFun (View.read_writes_junk_eq_canon (View.whole cc0_scratch1) _).symm j).trans ?_
  refine (row_store (View.whole cc0_scratch1) _ _ (k0_pay5 (F := Ideal)) ?_ _ _ (fun b => (g_at _ _ _ (q_at _ _) (ix2 0 b)).trans (if_pos rfl).symm) (gB_zero _ _) j).trans ?_
  · funext y
    exact View.read_writes_cons_unit_of_mem (View.whole cc0_scratch1) _ inb_S8x1024_S8x1024_0_0 _ [] y y (off' := ![0, 0]) rfl fun a => by
      match a with
      | 0 => exact (Nat.zero_add _).symm
      | 1 => exact (Nat.zero_add _).symm
  · congr 1
    pointwise [k0_pay5]

theorem o7_C (c : Dev nD) (t : Fin cfg0.N) (h0 : ¬t.val % 16 = 0) (h1 : t.val % 16 = 15) (j : S8x1024.Idx) :
    (outsAt0 m c t.val t.isLt).2.2.1 j = (outsAt0 m c t.val t.isLt).2.2.2.2 j := by
  rw [outsAt0_C m c t h0 h1]
  frame_out

end Cert.InIdeal.Hand

end
-- ==== Proof.InSum.lean ====
module

public import proofs.«01_k».proof.Proof.InOut

@[expose] public section

set_option maxRecDepth 16384

noncomputable section

open Idealize.ShloMosaic Idealize.ShloMosaic.TcCoe Idealize.SL.Sem

namespace Cert.InIdeal.Hand

open Cert.InIdeal Cert.InIdeal.Gen

variable (m : (ℓ : Loc nD τ sig) → Buf (Elt Ideal) ℓ)

/-- Which block each window is at, at each of the 16 row tiles. -/
theorem idx : ∀ t : Fin cfg0.N, win0_0.index t = ![t.val, 0] ∧ win0_1.index t = ![t.val, 0] ∧ win0_2.index t = ![t.val, 0] ∧ win0_3.index t = ![0, 0]
    ∧ win0_4.index t = ![0, 0, 0] ∧ win0_5.index t = ![t.val, 0] ∧ win0_6.index t = ![0, 0, 0] ∧ win0_7.index t = ![0, 0] :=
  (by decide +kernel : ∀ t : Fin grid0.N, _)

/-- The gradient of the normed rows, all rows. -/
def qA (u : S8192x1536.Idx → EReal) (w : S4x1024x384.Idx → EReal) (i : Fin 8192) (b : Fin 1024) : EReal :=
  ∑ n : Fin 1536, u (ix2 i n) * w (ix3 (hi n) b (lo n))

/-- The reciprocal root of a row's mean square. -/
def rsA (h : S8192x1024.Idx → EReal) (i : Fin 8192) : EReal :=
  Ideal.rsqrt (Ideal.div (∑ k : Fin 1024, h (ix2 i k) * h (ix2 i k)) width + eps)

/-- The normed rows times the gain, all rows. -/
def zA (h : S8192x1024.Idx → EReal) (g : S1x1024.Idx → EReal) (i : Fin 8192) (b : Fin 1024) : EReal := h (ix2 i b) * rsA h i * g (ix2 0 b)

/-- The gradient at the input of the norm, all rows. -/
def dxA (d : S8192x1024.Idx → EReal) (q : Fin 8192 → Fin 1024 → EReal) (h : S8192x1024.Idx → EReal) (g : S1x1024.Idx → EReal) : S8192x1024.Idx → EReal :=
  fun x => d x + rsA h (x 0) * (q (x 0) (x 1) * g (ix2 0 (x 1))
      - h x * rsA h (x 0) * Ideal.div (∑ k : Fin 1024, q (x 0) k * g (ix2 0 k) * (h (ix2 (x 0) k) * rsA h (x 0))) width)

/-- One row's term of the gradient of the projection's weights. -/
def wT (z : Fin 8192 → Fin 1024 → EReal) (u : S8192x1536.Idx → EReal) (l : Fin 8192) (j : S4x1024x384.Idx) : EReal := z l (j 1) * u (ix2 l (col (j 0) (j 2)))

/-- The gradient of the projection's weights in their blocks, summed over all rows. -/
def dwA (z : Fin 8192 → Fin 1024 → EReal) (u : S8192x1536.Idx → EReal) : S4x1024x384.Idx → EReal := fun j => ∑ l : Fin 8192, wT z u l j

/-- One row's term of the gradient of the norm's gain. -/
def gT (q : Fin 8192 → Fin 1024 → EReal) (h : S8192x1024.Idx → EReal) (l : Fin 8192) (b : Fin 1024) : EReal := q l b * (h (ix2 l b) * rsA h l)

/-- The gradient of the norm's gain in row 0 of eight, the other rows zero. -/
def gA (q : Fin 8192 → Fin 1024 → EReal) (h : S8192x1024.Idx → EReal) : S8x1024.Idx → EReal :=
  fun j => if (j 0).val = 0 then ∑ l : Fin 8192, gT q h l (j 1) else 0

/-- Row `i` of the row tile of grid point `t`. -/
abbrev row (t : Fin cfg0.N) (i : Fin 512) : Fin 8192 := ⟨t.val * 512 + i.val, by have := t.isLt; have hN : cfg0.N = 16 := N_0; omega⟩

theorem b0 (c : Dev nD) (t : Fin cfg0.N) (i : Fin 512) (k : Fin 1536) : iblk m c 0 t (ix2 i k) = V m c main_v0 (ix2 (row t i) k) := by
  blk_point [iblk, idx t]

theorem b1 (c : Dev nD) (t : Fin cfg0.N) (i : Fin 512) (k : Fin 1024) : iblk m c 1 t (ix2 i k) = V m c main_arg1 (ix2 (row t i) k) := by
  blk_point [iblk, idx t]

theorem b2 (c : Dev nD) (t : Fin cfg0.N) (i : Fin 512) (k : Fin 1024) : iblk m c 2 t (ix2 i k) = V m c main_arg2 (ix2 (row t i) k) := by
  blk_point [iblk, idx t]

theorem b3 (c : Dev nD) (t : Fin cfg0.N) (k : Fin 1024) : iblk m c 3 t (ix2 0 k) = V m c main_v1 (ix2 0 k) := by
  blk_point [iblk, idx t]

theorem b4 (c : Dev nD) (t : Fin cfg0.N) (a : Fin 4) (b : Fin 1024) (k : Fin 384) : iblk m c 4 t (ix3 a b k) = V m c main_v4 (ix3 a b k) := by
  blk_point [iblk, idx t]

/-- The gradient of the normed rows over the arrays the call reads. -/
abbrev qV (c : Dev nD) : Fin 8192 → Fin 1024 → EReal := qA (V m c main_v0) (V m c main_v4)

/-- The normed rows times the gain over the arrays the call reads. -/
abbrev zV (c : Dev nD) : Fin 8192 → Fin 1024 → EReal := zA (V m c main_arg1) (V m c main_v1)

theorem q_row (c : Dev nD) (t : Fin cfg0.N) (i : Fin 512) (b : Fin 1024) : qT m c t i b = qV m c (row t i) b :=
  Finset.sum_congr rfl fun n _ => congrArg₂ (fun (p q : EReal) => p * q) (b0 m c t i n) (b4 m c t _ b _)

theorem rs_row (c : Dev nD) (t : Fin cfg0.N) (i : Fin 512) : rstd (iblk m c 1 t) i = rsA (V m c main_arg1) (row t i) := by
  unfold rstd rsA
  simp only [b1]

theorem z_row (c : Dev nD) (t : Fin cfg0.N) (i : Fin 512) (b : Fin 1024) : zB (iblk m c 1 t) (iblk m c 3 t) i b = zV m c (row t i) b :=
  congrArg₂ (fun (p q : EReal) => p * q) (congrArg₂ (fun (p q : EReal) => p * q) (b1 m c t i b) (rs_row m c t i)) (b3 m c t b)

theorem dx_row (c : Dev nD) (t : Fin cfg0.N) (i : Fin 512) (b : Fin 1024) :
    dxB (iblk m c 2 t) (qT m c t) (iblk m c 1 t) (iblk m c 3 t) (ix2 i b) = dxA (V m c main_arg2) (qV m c) (V m c main_arg1) (V m c main_v1) (ix2 (row t i) b) := by
  refine congrArg₂ (· + ·) (b2 m c t i b) (congrArg₂ (· * ·) (rs_row m c t i) (congrArg₂ (fun (p q : EReal) => p - q)
    (congrArg₂ (· * ·) (q_row m c t i b) (b3 m c t b)) (congrArg₂ (· * ·) (congrArg₂ (· * ·) (b1 m c t i b) (rs_row m c t i))
      (congrArg (Ideal.div · width) (Finset.sum_congr rfl fun k _ => ?_)))))
  exact congrArg₂ (· * ·) (congrArg₂ (· * ·) (q_row m c t i k) (b3 m c t k)) (congrArg₂ (· * ·) (b1 m c t i k) (rs_row m c t i))

theorem w_row (c : Dev nD) (t : Fin cfg0.N) (j : S4x1024x384.Idx) :
    dwB (zB (iblk m c 1 t) (iblk m c 3 t)) (iblk m c 0 t) j = ∑ i : Fin 512, wT (zV m c) (V m c main_v0) (row t i) j :=
  Finset.sum_congr rfl fun i _ => congrArg₂ (fun (p q : EReal) => p * q) (z_row m c t i (j 1)) (b0 m c t i _)

theorem g_row (c : Dev nD) (t : Fin cfg0.N) (b : Fin 1024) :
    gB (qT m c t) (iblk m c 1 t) (ix2 0 b) = ∑ i : Fin 512, gT (qV m c) (V m c main_arg1) (row t i) b :=
  (if_pos rfl).trans (Finset.sum_congr rfl fun i _ => congrArg₂ (fun (p q : EReal) => p * q) (q_row m c t i b)
    (congrArg₂ (fun (p q : EReal) => p * q) (b1 m c t i b) (rs_row m c t i)))

theorem etaR (b : Fin 1024) (y : S8x1024.Idx) (h : (y 0).val = 0) (hb : y 1 = b) : y = ix2 (0 : Fin 8) b := by
  subst hb
  funext a
  refine Fin.ext ?_
  match a with
  | 0 => exact h
  | 1 => rfl

theorem arr5 (c : Dev nD) : (dats m 0 c).arrAt 5 cfg0.N = dxA (V m c main_arg2) (qV m c) (V m c main_arg1) (V m c main_v1) := by
  refine (dats m 0 c).arrAt_eq_of_covers 5 _ (by decide +kernel) fun t hf y => ?_
  blk_simp
  rw [after0_5, o5]
  refine (congrArg (dxB _ _ _ _) (etaN y)).trans ((dx_row m c t (y 0) (y 1)).trans (congrArg (dxA _ (qV m c) _ _) ?_))
  blk_ext [idx t]

theorem arr6 (c : Dev nD) : (dats m 0 c).arrAt 6 cfg0.N = dwA (zV m c) (V m c main_v0) := by
  refine (dats m 0 c).arrAt_eq_of_covers 6 _ (by decide +kernel) fun t hf y => ?_
  blk_simp
  rw [after0_6]
  have h15 := (flush0_6 t).mp hf
  have hy : (win0_6.blk t).view.emb y = (y : S4x1024x384.Idx) := by blk_ext [idx t]
  rw [hy, o6_C m c t (by omega) (by omega), Pipeline.eq_sum_fin_of_reset_step_apply_of_flush (fun n h => (outsAt0 m c n h).2.2.2.1) 16 (fun _ => 0)
    (fun t => dwB (zB (iblk m c 1 t) (iblk m c 3 t)) (iblk m c 0 t)) (fun t h j => w_A m c t h j) (fun t h j => w_B m c t h j)
    t h15 _, zero_add]
  refine Eq.trans (Finset.sum_congr (M := EReal) rfl fun s _ => w_row m c _ y) ?_
  refine Fin.sum_mul_add_congr fun s k hl => congrArg (wT (zV m c) (V m c main_v0) · y) (Fin.ext ?_)
  have hN : cfg0.N = 16 := N_0
  have := t.isLt
  show (16 * (t.val / 16) + s.val) * 512 + k.val = s.val * 512 + k.val
  omega

theorem arr7 (c : Dev nD) : (dats m 0 c).arrAt 7 cfg0.N = gA (qV m c) (V m c main_arg1) := by
  refine (dats m 0 c).arrAt_eq_of_covers 7 _ (by decide +kernel) fun t hf y => ?_
  blk_simp
  rw [after0_7]
  have h15 := (flush0_7 t).mp hf
  have hy : (win0_7.blk t).view.emb y = (y : S8x1024.Idx) := by blk_ext [idx t]
  rw [hy, o7_C m c t (by omega) (by omega), Pipeline.eq_sum_fin_of_reset_step_apply_of_flush (fun n h => (outsAt0 m c n h).2.2.2.2) 16 (fun _ => 0)
    (fun t => gB (qT m c t) (iblk m c 1 t)) (fun t h j => g_A m c t h j) (fun t h j => g_B m c t h j)
    t h15 _, zero_add]
  by_cases h : ((y : S8x1024.Idx) 0).val = 0
  · refine Eq.trans ?_ (if_pos h).symm
    refine Eq.trans (Finset.sum_congr (M := EReal) rfl fun s _ => (congrArg _ (etaR _ y h rfl)).trans (g_row m c _ (y 1))) ?_
    refine Fin.sum_mul_add_congr fun s k hl => congrArg (gT (qV m c) (V m c main_arg1) · (y 1)) (Fin.ext ?_)
    have hN : cfg0.N = 16 := N_0
    have := t.isLt
    show (16 * (t.val / 16) + s.val) * 512 + k.val = s.val * 512 + k.val
    omega
  · refine Eq.trans (Finset.sum_eq_zero (M := EReal) fun s _ => gB_zero _ _ _ h) (if_neg h).symm

end Cert.InIdeal.Hand

end
-- ==== Proof.InValue.lean ====
module

public import proofs.«01_k».proof.Proof.InSum
public import proofs.«01_k».proof.Proof.RmsGrad
public import proofs.«01_k».proof.Proof.Gen.InRefIdeal.Read
public import Idealize.ShloMosaic.Lib.Claim

@[expose] public section

set_option maxRecDepth 16384

noncomputable section

open Idealize.ShloMosaic Idealize.ShloMosaic.TcCoe Idealize.SL.Sem

namespace Cert.InIdeal.Hand

open Cert.InIdeal Cert.InIdeal.Gen
open Cert.InRefIdeal.Read

variable (m : (ℓ : Loc nD τ sig) → Buf (Elt Ideal) ℓ)

/-- The projection's weights, laid out by blocks of columns. -/
def inW (x4 : S1024x1536.Idx → EReal) : S4x1024x384.Idx → EReal := fun j => x4 (ix2 (j 1) (col (j 0) (j 2)))

/-- The gain as one row. -/
def gainW (x3 : S1024.Idx → EReal) : S1x1024.Idx → EReal := fun j => x3 (ix1 (j 1))

theorem entry_p (c : Dev nD) : V m c main_v0 = m ((c : Thread nD τ).loc main_arg0) := by
  entry_read
  rfl

theorem entry_x (c : Dev nD) : V m c main_arg1 = m ((c : Thread nD τ).loc main_arg1) := by
  entry_read
  rfl

theorem entry_d (c : Dev nD) : V m c main_arg2 = m ((c : Thread nD τ).loc main_arg2) := by
  entry_read
  rfl

theorem entry_g (c : Dev nD) : V m c main_v1 = gainW (m ((c : Thread nD τ).loc main_arg3)) := by
  refine Eq.trans (b := (shapeCast S1x1024 (show FVec Ideal S1024 .f32 from m ((c : Thread nD τ).loc main_arg3)) shapeCasts_S1024_S1x1024)) ?_ ?_
  · entry_read
    rfl
  · funext j
    pointwise
    first | done | rfl | (unfold gainW; blk_ext)

theorem entry_w (c : Dev nD) : V m c main_v4 = inW (m ((c : Thread nD τ).loc main_arg4)) := by
  refine Eq.trans (b := ((show FVec Ideal S4x1024x384 .bf16 from truncf .bf16 (transpose S4x1024x384 [1, 0, 2] (shapeCast S1024x4x384 (show FVec Ideal S1024x1536 .f32 from m ((c : Thread nD τ).loc main_arg4)) shapeCasts_S1024x1536_S1024x4x384) transposes_S1024x4x384_S4x1024x384_1_0_2) bitsLt_bf16_f32))) ?_ ?_
  · entry_read
    rfl
  · funext j
    pointwise
    first | done | rfl | (unfold inW; blk_ext)

variable (x0 : S8192x1536.Idx → EReal) (x1 x2 : S8192x1024.Idx → EReal) (x3 : S1024.Idx → EReal) (x4 : S1024x1536.Idx → EReal)

/-- The gradient of the normed rows in the reference's arrays. -/
abbrev qR : Fin 8192 → Fin 1024 → EReal := qA x0 (inW x4)

theorem ref_q (i : Fin 8192) (b : Fin 1024) : val_main_v19 (F := Ideal) x0 x4 (ix2 i b) = qR x0 x4 i b := by
  rw [val_main_v19_apply]
  refine Finset.sum_congr rfl fun n _ => congrArg₂ (fun (p q : EReal) => p * q) (congrArg x0 ?_) (congrArg x4 ?_)
  · blk_ext
  · blk_ext [col, hi, lo]

theorem ref_ms (i : Fin 8192) (j : Cert.InRefIdeal.S8192x1.Idx) (h : (j 0).val = i.val) : val_main_v6 (F := Ideal) x1 j = RmsGrad.ms (fun k => x1 (ix2 i k)) + eps := by
  rw [val_main_v6_apply, val_main_v4_apply, val_main_v2_apply, val_main_v1_apply]
  refine congrArg₂ (fun (p q : EReal) => p + q) (congrArg₂ Ideal.div ((congrArg (· + _) Ideal.ofBits_zero_f32).trans ((zero_add _).trans (Finset.sum_congr rfl fun k _ => ?_))) ?_) ?_
  · rw [val_main_v0_apply]
    refine congrArg (fun i => x1 i * x1 i) ?_
    blk_ext [h]
  · rw [val_main_v3_apply]; rfl
  · rw [val_main_v5_apply]; rfl

theorem ref_rs (i : Fin 8192) (j : Cert.InRefIdeal.S8192x1.Idx) (h : (j 0).val = i.val) : val_main_v7 (F := Ideal) x1 j = rsA x1 i := by
  rw [val_main_v7_apply, ref_ms x1 i j h]
  rfl

theorem ref_zn (i : Fin 8192) (b : Fin 1024) : val_main_v15 (F := Ideal) x1 x3 (ix2 i b) = zA x1 (gainW x3) i b := by
  rw [val_main_v15_apply, val_main_v12_apply, val_main_v11_apply, ref_rs x1 i _ rfl, val_main_v14_apply, val_main_v13_apply]
  refine congrArg (fun (p : EReal) => x1 (ix2 i b) * rsA x1 i * p) (congrArg x3 ?_)
  blk_ext

theorem ref_dw : val_main_v43 (F := Ideal) x0 x1 x3 = dwA (zA x1 (gainW x3)) x0 := by
  funext j
  rw [val_main_v43_apply, Ideal.truncf_def, val_main_v42_apply, val_main_v41_apply, val_main_v18_apply, val_main_v17_apply]
  refine Finset.sum_congr rfl fun l _ => (mul_comm _ _).trans (congrArg₂ (fun (p q : EReal) => p * q) ((congrArg _ ?_).trans (ref_zn x1 x3 l (j 1))) (congrArg x0 ?_))
  · blk_ext
  · blk_ext [col]

theorem ref_gain : val_main_v46 (F := Ideal) x0 x1 x4 = gA (qR x0 x4) x1 := by
  funext j
  unfold val_main_v46
  pointwise
  unfold gA
  by_cases h : (j 0).val = 0
  · rw [dif_pos (by omega), if_pos h, val_main_v44_apply, val_main_v25_apply]
    refine (congrArg (· + _) Ideal.ofBits_zero_f32).trans ((zero_add _).trans ?_)
    rw [Fin.sum_univ_one, val_main_v22_apply, val_main_v21_apply]
    refine (congrArg (· + _) Ideal.ofBits_zero_f32).trans ((zero_add _).trans (Finset.sum_congr rfl fun l _ => ?_))
    rw [val_main_v20_apply, val_main_v12_apply, val_main_v11_apply, ref_rs x1 l _ rfl]
    refine (mul_comm _ _).trans (congrArg₂ (fun (p q : EReal) => p * q) (Eq.trans (congrArg _ ?_) (ref_q x0 x4 l (j 1))) (congrArg (fun (p : EReal) => p * rsA x1 l) (congrArg x1 ?_)))
    · blk_ext
    · blk_ext
  · rw [dif_neg (by omega), if_neg h, val_main_v45_apply]
    exact Ideal.ofBits_zero_f32

/-- The gradient with respect to the normed row times the gain. -/
theorem ref_z (i : Fin 8192) (k : Fin 1024) : val_main_v24 (F := Ideal) x0 x3 x4 (ix2 i k) = qR x0 x4 i k * gainW x3 (ix2 0 k) := by
  rw [val_main_v24_apply, ref_q, val_main_v23_apply, val_main_v13_apply]
  refine congrArg (fun (p : EReal) => qR x0 x4 i k * p) (congrArg x3 ?_)
  blk_ext

/-- The reference's derivative through the reciprocal root, spread over a row. -/
theorem ref_mean (i : Fin 8192) (j : Cert.InRefIdeal.S8192x1024.Idx) (h : (j 0).val = i.val) :
    val_main_v36 (F := Ideal) x0 x1 x3 x4 j
      = Ideal.div ((∑ k, x1 (ix2 i k) * (qR x0 x4 i k * gainW x3 (ix2 0 k)))
          * (RmsGrad.mhalf * Ideal.div (RmsGrad.rs fun k => x1 (ix2 i k)) (RmsGrad.ms (fun k => x1 (ix2 i k)) + eps))) width := by
  rw [val_main_v36_apply, val_main_v35_apply]
  refine (congrArg (· + _) Ideal.ofBits_zero_f32).trans ((zero_add _).trans ?_)
  rw [Fin.sum_univ_one, val_main_v34_apply, val_main_v32_apply, val_main_v28_apply, val_main_v27_apply, val_main_v33_apply, val_main_v10_apply, val_main_v8_apply,
    val_main_v9_apply, ref_ms x1 i _ h, ref_rs x1 i _ h]
  refine congrArg (fun (p : EReal) => Ideal.div (p * _) width) ((congrArg (· + _) Ideal.ofBits_zero_f32).trans ((zero_add _).trans (Finset.sum_congr rfl fun k _ => ?_)))
  rw [val_main_v26_apply]
  refine congrArg₂ (fun (p q : EReal) => p * q) (congrArg x1 ?_) ((congrArg _ ?_).trans (ref_z x0 x3 x4 i k))
  · blk_ext [h]
  · blk_ext [h]

/-- The reference's gradient at the norm's input is the kernel's. -/
theorem ref_dx_at (i : Fin 8192) (b : Fin 1024) :
    val_main_v40 (F := Ideal) x0 x1 x2 x3 x4 (ix2 i b) = dxA x2 (qR x0 x4) x1 (gainW x3) (ix2 i b) := by
  rw [val_main_v40_apply, val_main_v38_apply, val_main_v39_apply, val_main_v37_apply, val_main_v31_apply, val_main_v30_apply, val_main_v29_apply,
    ref_mean x0 x1 x3 x4 i _ rfl, ref_z, ref_rs x1 i _ rfl]
  exact (RmsGrad.grad (fun k => x1 (ix2 i k)) (fun k => qR x0 x4 i k * gainW x3 (ix2 0 k)) (x2 (ix2 i b)) b).symm

theorem ref_dx : val_main_v40 (F := Ideal) x0 x1 x2 x3 x4 = dxA x2 (qR x0 x4) x1 (gainW x3) := by
  funext j
  have hj : j = ix2 (j 0) (j 1) := by blk_ext
  exact (congrArg _ hj).trans ((ref_dx_at x0 x1 x2 x3 x4 (j 0) (j 1)).trans (congrArg _ hj.symm))

end Cert.InIdeal.Hand

end
-- ==== Proof.InClaim.lean ====
module

public import proofs.«01_k».proof.Defs
public import proofs.«01_k».proof.Proof.InValue
public import proofs.«01_k».proof.Proof.Gen.InRefIdeal.Run
public import Idealize.ShloMosaic.Lib.Quiescent

@[expose] public section

set_option maxRecDepth 16384

noncomputable section

namespace Cert.InIdeal.Hand

open Idealize.ShloMosaic Idealize.ShloMosaic.TcCoe Idealize.SL.Sem

open Cert.InRefIdeal.Read

/-- The kernel of the input projection's backward pass and the reference compute the same three arrays. -/
theorem algebraic : Cert.algebraic_InIdeal_InRefIdeal := by
  intro m g m' g' _ hagree
  refine ⟨fun c => Cert.InIdeal.Value.G5 m c, fun c => Cert.InIdeal.Value.G6 m c, fun c => Cert.InIdeal.Value.G7 m c, Cert.InIdeal.Value.run m g,
    (θ_run Cert.InRefIdeal.defs _ _).mono (fun r h c => ⟨(h c).1.trans ?_, (h c).2.1.trans ?_, (h c).2.2.1.trans ?_, (h c).2.2.2⟩) (Cert.InRefIdeal.Value.run m' g')⟩
  · obtain ⟨a0, a1, a2, a3, a4⟩ := hagree c
    refine (val_main_v40_eq _ _).trans ?_
    show _ = Cert.InIdeal.Value.G5 m c
    rw [← Cert.InIdeal.Value.final5 m c, arr5, qV, entry_p, entry_x, entry_d, entry_g, entry_w, a0, a1, a2, a3, a4]
    exact ref_dx _ _ _ _ _
  · obtain ⟨a0, a1, a2, a3, a4⟩ := hagree c
    refine (val_main_v43_eq _ _ _).trans ?_
    show _ = Cert.InIdeal.Value.G6 m c
    rw [← Cert.InIdeal.Value.final6 m c, arr6, zV, entry_p, entry_x, entry_g, a0, a1, a3]
    exact ref_dw _ _ _
  · obtain ⟨a0, a1, a2, a3, a4⟩ := hagree c
    refine (val_main_v46_eq _ _ _).trans ?_
    show _ = Cert.InIdeal.Value.G7 m c
    rw [← Cert.InIdeal.Value.final7 m c, arr7, qV, entry_p, entry_x, entry_w, a0, a1, a4]
    exact ref_gain _ _ _

/-- The reference terminates, leaves its arguments as they were, and declares no semaphore. -/
theorem frameRef : Cert.quiescent_InRefIdeal := fun m g _ =>
  (θ_run Cert.InRefIdeal.defs _ _).mono (fun r h => ⟨fun c => (h c).2.2.2, sem_eq_zero_of_no_sems (by decide) r.2⟩)
    (Cert.InRefIdeal.Value.run m g)

end Cert.InIdeal.Hand

end
-- ==== Proof.HeadRow.lean ====
module

public import proofs.«01_k».proof.Proof.RmsGrad

@[expose] public section

noncomputable section

open Idealize.ShloMosaic

namespace Cert.HeadRow

open Cert.RmsGrad

/-- The other literals, by their words: one half, one, two, and the reciprocal of the width. -/
abbrev half : EReal := Ideal.ofBits FTy.f32 1056964608#32
abbrev one : EReal := Ideal.ofBits FTy.f32 1065353216#32
abbrev two : EReal := Ideal.ofBits FTy.f32 1073741824#32
abbrev iwidth : EReal := Ideal.ofBits FTy.f32 981467136#32

theorem half_eq : half = ((1 / 2 : ℝ) : EReal) := by
  simp [half, Ideal.ofBits, Ideal.ieee, -EReal.coe_mul]
  norm_num [zpow_neg]

theorem one_eq : one = ((1 : ℝ) : EReal) := by
  simp [one, Ideal.ofBits, Ideal.ieee, -EReal.coe_mul]
  norm_num [zpow_neg]

theorem two_eq : two = ((2 : ℝ) : EReal) := by
  simp [two, Ideal.ofBits, Ideal.ieee, -EReal.coe_mul]
  norm_num [zpow_neg]

theorem iwidth_eq : iwidth = ((1 / 1024 : ℝ) : EReal) := by
  simp [iwidth, Ideal.ofBits, Ideal.ieee, -EReal.coe_mul]
  norm_num [zpow_neg]

/-- The head's parameters: the gain of its norm, the gate's weights and bias, the projection's weights, the last norm's gain. -/
structure Par where
  g3 : Fin 1024 → EReal
  wg : Fin 1024 → Fin 1024 → EReal
  bg : Fin 1024 → EReal
  wp : Fin 256 → Fin 1024 → EReal
  g4 : Fin 1024 → EReal

variable (P : Par) (h : Fin 1024 → EReal) (p : Fin 256 → EReal) (t : Fin 1024 → EReal)

/-- The normed row times the gain. -/
def z (b : Fin 1024) : EReal := h b * rs h * P.g3 b

/-- The gate: the logistic of the product and the bias. -/
def gate (b : Fin 1024) : EReal := Ideal.div one (one + Ideal.exp (-(∑ k, z P h k * P.wg k b + P.bg b)))

/-- The projected embedding of the row. -/
def pp (b : Fin 1024) : EReal := ∑ k, p k * P.wp k b

/-- The row the last norm takes. -/
def h3 (b : Fin 1024) : EReal := h b + gate P h b * pp P p b

/-- The difference of the normed row and the target. -/
def diff (b : Fin 1024) : EReal := h3 P h p b * rs (h3 P h p) * P.g4 b - t b

/-- The mean square of the row's difference. -/
def err : EReal := Ideal.div (∑ k, diff P h p t k * diff P h p t k) width

/-- The gradient at the row's difference. -/
def dy (b : Fin 1024) : EReal := diff P h p t b * iwidth

/-- The gradient at the input of the last norm. -/
def dh3 (b : Fin 1024) : EReal :=
  rs (h3 P h p) * (dy P h p t b * P.g4 b - h3 P h p b * rs (h3 P h p)
    * Ideal.div (∑ k, dy P h p t k * P.g4 k * (h3 P h p k * rs (h3 P h p))) width)

/-- The gradient at the projected embedding. -/
def dpp (b : Fin 1024) : EReal := dh3 P h p t b * gate P h b

/-- The gradient before the gate's logistic. -/
def dpre (b : Fin 1024) : EReal := dh3 P h p t b * pp P p b * gate P h b * (one - gate P h b)

/-- The gradient at the normed row. -/
def dz (b : Fin 1024) : EReal := ∑ k, dpre P h p t k * P.wg b k

/-- The gradient at the row. -/
def dh2 (b : Fin 1024) : EReal :=
  dh3 P h p t b + rs h * (dz P h p t b * P.g3 b - h b * rs h * Ideal.div (∑ k, dz P h p t k * P.g3 k * (h k * rs h)) width)

/-- The row's terms of the gradients of the gate's weights, the projection's weights, the two gains and the bias. -/
def wgT (b n : Fin 1024) : EReal := z P h b * dpre P h p t n
def wpT (k : Fin 256) (n : Fin 1024) : EReal := p k * dpp P h p t n
def g3T (b : Fin 1024) : EReal := dz P h p t b * (h b * rs h)
def g4T (b : Fin 1024) : EReal := dy P h p t b * (h3 P h p b * rs (h3 P h p))

/-- The reference's two factors of the gradient at the difference are the reciprocal of the width. -/
theorem dy_ref (x : EReal) : Ideal.div (half * one) width * (two * x) = x * iwidth := by
  have hw : ∀ y : EReal, Ideal.div y width = y * ((1 / 1024 : ℝ) : EReal) := fun y => by
    rw [width_eq]
    exact Ideal.div_coe (by norm_num) y
  rw [hw, half_eq, one_eq, two_eq, iwidth_eq, mul_comm x, ← mul_assoc, ← EReal.coe_mul, ← EReal.coe_mul, ← EReal.coe_mul]
  congr 2
  norm_num

/-- One half goes through a sum. -/
theorem half_sum {ι : Type} [Fintype ι] (f : ι → EReal) : half * ∑ k, f k = ∑ k, half * f k := by
  rw [half_eq]
  exact coe_mul_sum _ _ _ (by norm_num)

end Cert.HeadRow

end
-- ==== Proof.HeadPay.lean ====
module

public import proofs.«01_k».proof.Proof.Gen.HeadIdeal.Skeleton
public import proofs.«01_k».proof.Proof.HeadRow
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.HeadIdeal.Hand

open Cert.HeadIdeal Cert.HeadIdeal.Gen
open Cert.HeadRow

/-- The parameters as the blocks hold them. -/
def parB (g3 : FVec Ideal S1x1024 .f32) (wg : FVec Ideal S1024x1024 .bf16) (bg : FVec Ideal S1x1024 .f32) (wp : FVec Ideal S256x1024 .bf16)
    (g4 : FVec Ideal S1x1024 .f32) : Par :=
  ⟨fun k => g3 (ix2 0 k), fun k b => wg (ix2 k b), fun k => bg (ix2 0 k), fun k b => wp (ix2 k b), fun k => g4 (ix2 0 k)⟩

/-- Row `i` of a tile, and of a tile of the embeddings. -/
def rowB (h : FVec Ideal S512x1024 .f32) (i : Fin 512) : Fin 1024 → EReal := fun k => h (ix2 i k)
def rowP (p : FVec Ideal S512x256 .f32) (i : Fin 512) : Fin 256 → EReal := fun k => p (ix2 i k)

theorem pay15_at (h : Vec Ideal S512x1024 .f32) (g3 : Vec Ideal S1x1024 .f32) (i : Fin 512) (b : Fin 1024) :
    k0_pay15 (F := Ideal) h g3 (ix2 i b) = h (ix2 i b) * RmsGrad.rs (rowB h i) * g3 (ix2 0 b) := by
  unfold RmsGrad.rs RmsGrad.ms rowB
  pointwise [k0_pay15, k0_pay13]
  first | done | rfl | blk_ext

theorem pay16_at (h : Vec Ideal S512x1024 .f32) (g3 : Vec Ideal S1x1024 .f32) (wg : Vec Ideal S1024x1024 .bf16) (bg : Vec Ideal S1x1024 .f32)
    (wp : Vec Ideal S256x1024 .bf16) (g4 : Vec Ideal S1x1024 .f32) (i : Fin 512) (b : Fin 1024) :
    k0_pay16 (F := Ideal) h g3 wg bg (ix2 i b) = gate (parB g3 wg bg wp g4) (rowB h i) b := by
  refine Eq.trans (b := Ideal.div one (one + Ideal.exp (-((∑ k : Fin 1024, k0_pay15 (F := Ideal) h g3 (ix2 i k) * wg (ix2 k b)) + bg (ix2 0 b))))) ?_ ?_
  · generalize hz : k0_pay15 (F := Ideal) h g3 = z
    rw [← zero_sub, ← Ideal.ofBits_zero_f32]
    pointwise [k0_pay16, hz]
    first | done | rfl | blk_ext
  · simp only [pay15_at]
    rfl

theorem pay17_eq (p : Vec Ideal S512x256 .f32) (i : Fin 512) (k : Fin 256) : k0_pay17 (F := Ideal) p (ix2 i k) = rowP p i k := by
  unfold rowP
  pointwise [k0_pay17]

theorem pay18_at (p : Vec Ideal S512x256 .f32) (g3 : Vec Ideal S1x1024 .f32) (wg : Vec Ideal S1024x1024 .bf16) (bg : Vec Ideal S1x1024 .f32)
    (wp : Vec Ideal S256x1024 .bf16) (g4 : Vec Ideal S1x1024 .f32) (i : Fin 512) (b : Fin 1024) :
    k0_pay18 (F := Ideal) (k0_pay17 (F := Ideal) p) wp (ix2 i b) = pp (parB g3 wg bg wp g4) (rowP p i) b := by
  unfold pp parB rowP
  pointwise [k0_pay18, k0_pay17]
  first | done | rfl | blk_ext

theorem pay19_at' (h : Vec Ideal S512x1024 .f32) (G : FVec Ideal S512x1024 .f32) (q : FVec Ideal S512x256 .bf16) (wp : Vec Ideal S256x1024 .bf16) (i : Fin 512) (b : Fin 1024) :
    k0_pay19 (F := Ideal) h G q wp (ix2 i b) = h (ix2 i b) + G (ix2 i b) * k0_pay18 (F := Ideal) q wp (ix2 i b) := by
  generalize hz : k0_pay18 (F := Ideal) q wp = z
  pointwise [k0_pay19, hz]

theorem pay20_at' (h : Vec Ideal S512x1024 .f32) (g4 : FVec Ideal S1x1024 .f32) (G : FVec Ideal S512x1024 .f32) (q : FVec Ideal S512x256 .bf16) (wp : Vec Ideal S256x1024 .bf16)
    (t : Vec Ideal S512x1024 .f32) (i : Fin 512) (b : Fin 1024) :
    k0_pay20 (F := Ideal) h g4 G q wp t (ix2 i b)
      = k0_pay19 (F := Ideal) h G q wp (ix2 i b) * RmsGrad.rs (rowB (k0_pay19 (F := Ideal) h G q wp) i) * g4 (ix2 0 b) - t (ix2 i b) := by
  unfold RmsGrad.rs RmsGrad.ms rowB
  generalize hz : k0_pay19 (F := Ideal) h G q wp = z
  pointwise [k0_pay20, hz]
  first | done | rfl | blk_ext

theorem pay21_at' (h : Vec Ideal S512x1024 .f32) (g4 : FVec Ideal S1x1024 .f32) (G : FVec Ideal S512x1024 .f32) (q : FVec Ideal S512x256 .bf16) (wp : Vec Ideal S256x1024 .bf16)
    (t : Vec Ideal S512x1024 .f32) (j : S1x1.Idx) :
    k0_pay21 (F := Ideal) h g4 G q wp t j
      = half * ∑ i : Fin 512, Ideal.div (∑ k : Fin 1024, k0_pay20 (F := Ideal) h g4 G q wp t (ix2 i k) * k0_pay20 (F := Ideal) h g4 G q wp t (ix2 i k)) RmsGrad.width := by
  generalize hz : k0_pay20 (F := Ideal) h g4 G q wp t = z
  pointwise [k0_pay21, hz]
  first | done | rfl | blk_ext

theorem pay22_at' (h : Vec Ideal S512x1024 .f32) (g4 : FVec Ideal S1x1024 .f32) (G : FVec Ideal S512x1024 .f32) (q : FVec Ideal S512x256 .bf16) (wp : Vec Ideal S256x1024 .bf16)
    (t : Vec Ideal S512x1024 .f32) (i : Fin 512) (b : Fin 1024) :
    k0_pay22 (F := Ideal) h g4 G q wp t (ix2 i b) = k0_pay20 (F := Ideal) h g4 G q wp t (ix2 i b) * iwidth := by
  generalize hz : k0_pay20 (F := Ideal) h g4 G q wp t = z
  pointwise [k0_pay22, hz]

theorem pay23_at' (h : Vec Ideal S512x1024 .f32) (G : FVec Ideal S512x1024 .f32) (q : FVec Ideal S512x256 .bf16) (wp : Vec Ideal S256x1024 .bf16) (i : Fin 512) (b : Fin 1024) :
    k0_pay23 (F := Ideal) h G q wp (ix2 i b) = k0_pay19 (F := Ideal) h G q wp (ix2 i b) * RmsGrad.rs (rowB (k0_pay19 (F := Ideal) h G q wp) i) := by
  unfold RmsGrad.rs RmsGrad.ms rowB
  generalize hz : k0_pay19 (F := Ideal) h G q wp = z
  pointwise [k0_pay23, hz]
  first | done | rfl | blk_ext

theorem pay24_at' (h : Vec Ideal S512x1024 .f32) (G : FVec Ideal S512x1024 .f32) (q : FVec Ideal S512x256 .bf16) (wp : Vec Ideal S256x1024 .bf16) (j : S512x1.Idx) :
    k0_pay24 (F := Ideal) h G q wp j = ∑ k : Fin 1024, rowB (k0_pay19 (F := Ideal) h G q wp) (j 0) k * rowB (k0_pay19 (F := Ideal) h G q wp) (j 0) k := by
  unfold rowB
  generalize hz : k0_pay19 (F := Ideal) h G q wp = z
  pointwise [k0_pay24, hz]
  first | done | rfl | blk_ext

theorem pay25_at' (g4 : FVec Ideal S1x1024 .f32) (y x : FVec Ideal S512x1024 .f32) (s : FVec Ideal S512x1 .f32) (i : Fin 512) (b : Fin 1024) :
    k0_pay25 (F := Ideal) g4 y x s (ix2 i b) = Ideal.rsqrt (Ideal.div (s (ix2 i 0)) RmsGrad.width + RmsGrad.eps) * (y (ix2 i b) * g4 (ix2 0 b)
      - x (ix2 i b) * Ideal.div (∑ k : Fin 1024, y (ix2 i k) * g4 (ix2 0 k) * x (ix2 i k)) RmsGrad.width) := by
  pointwise [k0_pay25]
  first | done | rfl | blk_ext

theorem pay26_at' (y x : FVec Ideal S512x1024 .f32) (b : Fin 1024) :
    k0_pay26 (F := Ideal) y x (ix2 0 b) = ∑ i : Fin 512, y (ix2 i b) * x (ix2 i b) := by
  pointwise [k0_pay26]
  first | done | rfl | blk_ext

theorem pay27_at' (g4 : FVec Ideal S1x1024 .f32) (G y x : FVec Ideal S512x1024 .f32) (s : FVec Ideal S512x1 .f32) (i : Fin 512) (b : Fin 1024) :
    k0_pay27 (F := Ideal) g4 G y x s (ix2 i b) = k0_pay25 (F := Ideal) g4 y x s (ix2 i b) * G (ix2 i b) := by
  generalize hz : k0_pay25 (F := Ideal) g4 y x s = z
  pointwise [k0_pay27, hz]

theorem pay28_at' (g4 : FVec Ideal S1x1024 .f32) (G D y x : FVec Ideal S512x1024 .f32) (s : FVec Ideal S512x1 .f32) (i : Fin 512) (b : Fin 1024) :
    k0_pay28 (F := Ideal) g4 G D y x s (ix2 i b) = k0_pay25 (F := Ideal) g4 y x s (ix2 i b) * D (ix2 i b) * G (ix2 i b) * (one - G (ix2 i b)) := by
  generalize hz : k0_pay25 (F := Ideal) g4 y x s = z
  pointwise [k0_pay28, hz]

theorem pay29_at' (g4 : FVec Ideal S1x1024 .f32) (G D y x : FVec Ideal S512x1024 .f32) (s : FVec Ideal S512x1 .f32) (i : Fin 512) (b : Fin 1024) :
    k0_pay29 (F := Ideal) g4 G D y x s (ix2 i b) = k0_pay28 (F := Ideal) g4 G D y x s (ix2 i b) := by
  generalize hz : k0_pay28 (F := Ideal) g4 G D y x s = z
  pointwise [k0_pay29, hz]

theorem pay30_at' (g4 : FVec Ideal S1x1024 .f32) (G D y x : FVec Ideal S512x1024 .f32) (s : FVec Ideal S512x1 .f32) (wg : Vec Ideal S1024x1024 .bf16) (i : Fin 512) (b : Fin 1024) :
    k0_pay30 (F := Ideal) g4 G D y x s wg (ix2 i b) = ∑ k : Fin 1024, k0_pay28 (F := Ideal) g4 G D y x s (ix2 i k) * wg (ix2 b k) := by
  simp only [← pay29_at']
  generalize hz : k0_pay29 (F := Ideal) g4 G D y x s = z
  pointwise [k0_pay30, hz]
  first | done | rfl | blk_ext

theorem pay31_at (h : Vec Ideal S512x1024 .f32) (i : Fin 512) (b : Fin 1024) : k0_pay31 (F := Ideal) h (ix2 i b) = h (ix2 i b) * RmsGrad.rs (rowB h i) := by
  unfold RmsGrad.rs RmsGrad.ms rowB
  pointwise [k0_pay31]
  first | done | rfl | blk_ext

theorem pay32_at (h : Vec Ideal S512x1024 .f32) (i : Fin 512) : k0_pay32 (F := Ideal) h (ix2 i 0) = RmsGrad.ms (rowB h i) := by
  unfold RmsGrad.ms rowB
  pointwise [k0_pay32]
  first | done | rfl | blk_ext

theorem pay33_at' (g3 : FVec Ideal S1x1024 .f32) (d q x : FVec Ideal S512x1024 .f32) (s : FVec Ideal S512x1 .f32) (i : Fin 512) (b : Fin 1024) :
    k0_pay33 (F := Ideal) g3 d q x s (ix2 i b) = d (ix2 i b) + Ideal.rsqrt (s (ix2 i 0) + RmsGrad.eps) * (q (ix2 i b) * g3 (ix2 0 b)
      - x (ix2 i b) * Ideal.div (∑ k : Fin 1024, q (ix2 i k) * g3 (ix2 0 k) * x (ix2 i k)) RmsGrad.width) := by
  pointwise [k0_pay33]
  first | done | rfl | blk_ext

theorem pay34_at' (g3 : FVec Ideal S1x1024 .f32) (d q x : FVec Ideal S512x1024 .f32) (s : FVec Ideal S512x1 .f32) (i : Fin 512) (b : Fin 1024) :
    k0_pay34 (F := Ideal) g3 d q x s (ix2 i b) = k0_pay33 (F := Ideal) g3 d q x s (ix2 i b) := by
  generalize hz : k0_pay33 (F := Ideal) g3 d q x s = z
  pointwise [k0_pay34, hz]

theorem pay35_at' (z d : FVec Ideal S512x1024 .bf16) (v : Vec Ideal S1024x1024 .f32) (j : S1024x1024.Idx) :
    k0_pay35 (F := Ideal) z d v j = v j + ∑ i : Fin 512, z (ix2 i (j 0)) * d (ix2 i (j 1)) := by
  pointwise [k0_pay35]
  first | done | rfl | blk_ext

theorem pay36_at' (p : FVec Ideal S512x256 .bf16) (d : FVec Ideal S512x1024 .bf16) (v : Vec Ideal S256x1024 .f32) (j : S256x1024.Idx) :
    k0_pay36 (F := Ideal) p d v j = v j + ∑ i : Fin 512, p (ix2 i (j 0)) * d (ix2 i (j 1)) := by
  pointwise [k0_pay36]
  first | done | rfl | blk_ext

theorem pay37_at' (q x : FVec Ideal S512x1024 .f32) (v : Vec Ideal S1x1024 .f32) (b : Fin 1024) :
    k0_pay1 (F := Ideal) (k0_pay37 (F := Ideal) q x v) (ix2 0 b) = v (ix2 0 b) + ∑ i : Fin 512, q (ix2 i b) * x (ix2 i b) := by
  pointwise [k0_pay1, k0_pay37]
  first | done | rfl | blk_ext

theorem pay2_at (s v : Vec Ideal S1x1024 .f32) (b : Fin 1024) : k0_pay2 (F := Ideal) s v (ix2 0 b) = v (ix2 0 b) + s (ix2 0 b) := by
  pointwise [k0_pay2]

theorem pay3_at (d : FVec Ideal S512x1024 .f32) (v : Vec Ideal S1x1024 .f32) (b : Fin 1024) :
    k0_pay3 (F := Ideal) d v (ix2 0 b) = v (ix2 0 b) + ∑ i : Fin 512, d (ix2 i b) := by
  pointwise [k0_pay3]
  first | done | rfl | blk_ext

theorem pay4_at (l : FVec Ideal S1x1 .f32) (v : Vec Ideal S1x1024 .f32) (b : Fin 1024) :
    k0_pay4 (F := Ideal) l v (ix2 0 b) = v (ix2 0 b) + l (ix2 0 0) := by
  pointwise [k0_pay4]
  first | done | rfl | blk_ext

end Cert.HeadIdeal.Hand

end
-- ==== Proof.HeadTile.lean ====
module

public import proofs.«01_k».proof.Proof.HeadPay

@[expose] public section

set_option maxRecDepth 16384

noncomputable section

open Idealize.ShloMosaic Idealize.ShloMosaic.TcCoe Idealize.SL.Sem

namespace Cert.HeadIdeal.Hand

open Cert.HeadIdeal Cert.HeadIdeal.Gen
open Cert.HeadRow

variable (h : Vec Ideal S512x1024 .f32) (p : Vec Ideal S512x256 .f32) (t : Vec Ideal S512x1024 .f32) (g3 : Vec Ideal S1x1024 .f32)
  (wg : Vec Ideal S1024x1024 .bf16) (bg : Vec Ideal S1x1024 .f32) (wp : Vec Ideal S256x1024 .bf16) (g4 : Vec Ideal S1x1024 .f32)

theorem pay13_eq (g : Vec Ideal S1x1024 .f32) : k0_pay13 (F := Ideal) g = g := by
  funext x
  pointwise [k0_pay13]

theorem pay14_eq (g : Vec Ideal S1x1024 .f32) : k0_pay14 (F := Ideal) g = g := by
  funext x
  pointwise [k0_pay14]

/-- The tile's gate, embeddings, gradient at the difference, normed last row, its sum of squares, and projected embeddings. -/
abbrev tG : FVec Ideal S512x1024 .f32 := k0_pay16 (F := Ideal) h g3 wg bg
abbrev tQ : FVec Ideal S512x256 .bf16 := k0_pay17 (F := Ideal) p
abbrev tY : FVec Ideal S512x1024 .f32 := k0_pay22 (F := Ideal) h (k0_pay14 (F := Ideal) g4) (tG h g3 wg bg) (tQ p) wp t
abbrev tX : FVec Ideal S512x1024 .f32 := k0_pay23 (F := Ideal) h (tG h g3 wg bg) (tQ p) wp
abbrev tS : FVec Ideal S512x1 .f32 := k0_pay24 (F := Ideal) h (tG h g3 wg bg) (tQ p) wp
abbrev tD : FVec Ideal S512x1024 .f32 := k0_pay18 (F := Ideal) (tQ p) wp
abbrev tQz : FVec Ideal S512x1024 .f32 :=
  k0_pay30 (F := Ideal) (k0_pay14 (F := Ideal) g4) (tG h g3 wg bg) (tD p wp) (tY h p t g3 wg bg wp g4) (tX h p g3 wg bg wp) (tS h p g3 wg bg wp) wg
abbrev tH3 : FVec Ideal S512x1024 .f32 :=
  k0_pay25 (F := Ideal) (k0_pay14 (F := Ideal) g4) (tY h p t g3 wg bg wp g4) (tX h p g3 wg bg wp) (tS h p g3 wg bg wp)
abbrev tDpre : FVec Ideal S512x1024 .f32 :=
  k0_pay28 (F := Ideal) (k0_pay14 (F := Ideal) g4) (tG h g3 wg bg) (tD p wp) (tY h p t g3 wg bg wp g4) (tX h p g3 wg bg wp) (tS h p g3 wg bg wp)

theorem g_at (i : Fin 512) (b : Fin 1024) : tG h g3 wg bg (ix2 i b) = gate (parB g3 wg bg wp g4) (rowB h i) b :=
  pay16_at h g3 wg bg wp g4 i b

theorem d_at (i : Fin 512) (b : Fin 1024) : tD p wp (ix2 i b) = pp (parB g3 wg bg wp g4) (rowP p i) b :=
  pay18_at p g3 wg bg wp g4 i b

theorem h3_at (i : Fin 512) (b : Fin 1024) :
    k0_pay19 (F := Ideal) h (tG h g3 wg bg) (tQ p) wp (ix2 i b) = h3 (parB g3 wg bg wp g4) (rowB h i) (rowP p i) b := by
  refine (pay19_at' _ _ _ _ _ _).trans ?_
  exact congrArg₂ (fun (x y : EReal) => h (ix2 i b) + x * y) (g_at h g3 wg bg wp g4 i b) (d_at p g3 wg bg wp g4 i b)

theorem h3_row (i : Fin 512) : rowB (k0_pay19 (F := Ideal) h (tG h g3 wg bg) (tQ p) wp) i = h3 (parB g3 wg bg wp g4) (rowB h i) (rowP p i) :=
  funext fun b => h3_at h p g3 wg bg wp g4 i b

theorem diff_at (i : Fin 512) (b : Fin 1024) :
    k0_pay20 (F := Ideal) h (k0_pay14 (F := Ideal) g4) (tG h g3 wg bg) (tQ p) wp t (ix2 i b) = diff (parB g3 wg bg wp g4) (rowB h i) (rowP p i) (rowB t i) b := by
  rw [pay20_at', h3_row h p g3 wg bg wp g4, h3_at h p g3 wg bg wp g4, pay14_eq]
  rfl

theorem loss_at (j : S1x1.Idx) :
    k0_pay21 (F := Ideal) h (k0_pay14 (F := Ideal) g4) (tG h g3 wg bg) (tQ p) wp t j
      = ∑ i : Fin 512, half * err (parB g3 wg bg wp g4) (rowB h i) (rowP p i) (rowB t i) := by
  rw [pay21_at', half_sum]
  simp only [diff_at]
  rfl

theorem y_at (i : Fin 512) (b : Fin 1024) : tY h p t g3 wg bg wp g4 (ix2 i b) = dy (parB g3 wg bg wp g4) (rowB h i) (rowP p i) (rowB t i) b := by
  refine (pay22_at' _ _ _ _ _ _ _ _).trans ?_
  rw [diff_at]
  rfl

theorem x_at (i : Fin 512) (b : Fin 1024) : tX h p g3 wg bg wp (ix2 i b)
    = h3 (parB g3 wg bg wp g4) (rowB h i) (rowP p i) b * RmsGrad.rs (h3 (parB g3 wg bg wp g4) (rowB h i) (rowP p i)) := by
  refine (pay23_at' _ _ _ _ _ _).trans ?_
  rw [h3_row h p g3 wg bg wp g4, h3_at h p g3 wg bg wp g4]

theorem s_at (i : Fin 512) : tS h p g3 wg bg wp (ix2 i 0)
    = ∑ k : Fin 1024, h3 (parB g3 wg bg wp g4) (rowB h i) (rowP p i) k * h3 (parB g3 wg bg wp g4) (rowB h i) (rowP p i) k := by
  refine (pay24_at' _ _ _ _ _).trans ?_
  exact Finset.sum_congr rfl fun k _ => congrArg (fun r : Fin 1024 → EReal => r k * r k) (h3_row h p g3 wg bg wp g4 i)

theorem dh3_at (i : Fin 512) (b : Fin 1024) : tH3 h p t g3 wg bg wp g4 (ix2 i b) = dh3 (parB g3 wg bg wp g4) (rowB h i) (rowP p i) (rowB t i) b := by
  refine (pay25_at' _ _ _ _ _ _).trans ?_
  simp only [y_at, x_at h p g3 wg bg wp g4, s_at h p g3 wg bg wp g4, pay14_eq]
  rfl

theorem dpp_at (i : Fin 512) (b : Fin 1024) :
    k0_pay27 (F := Ideal) (k0_pay14 (F := Ideal) g4) (tG h g3 wg bg) (tY h p t g3 wg bg wp g4) (tX h p g3 wg bg wp) (tS h p g3 wg bg wp) (ix2 i b)
      = dpp (parB g3 wg bg wp g4) (rowB h i) (rowP p i) (rowB t i) b := by
  refine (pay27_at' _ _ _ _ _ _ _).trans ?_
  exact congrArg₂ (fun (x y : EReal) => x * y) (dh3_at h p t g3 wg bg wp g4 i b) (g_at h g3 wg bg wp g4 i b)

theorem dpre_at (i : Fin 512) (b : Fin 1024) : tDpre h p t g3 wg bg wp g4 (ix2 i b) = dpre (parB g3 wg bg wp g4) (rowB h i) (rowP p i) (rowB t i) b := by
  refine (pay28_at' _ _ _ _ _ _ _ _).trans ?_
  exact congrArg₂ (fun (x y : EReal) => x * y * (one - y))
    (congrArg₂ (fun (x y : EReal) => x * y) (dh3_at h p t g3 wg bg wp g4 i b) (d_at p g3 wg bg wp g4 i b)) (g_at h g3 wg bg wp g4 i b)

theorem dz_at (i : Fin 512) (b : Fin 1024) : tQz h p t g3 wg bg wp g4 (ix2 i b) = dz (parB g3 wg bg wp g4) (rowB h i) (rowP p i) (rowB t i) b := by
  refine (pay30_at' _ _ _ _ _ _ _ _ _).trans ?_
  exact Finset.sum_congr rfl fun k _ => congrArg (fun (x : EReal) => x * wg (ix2 b k)) (dpre_at h p t g3 wg bg wp g4 i k)

theorem dh2_at (i : Fin 512) (b : Fin 1024) :
    k0_pay33 (F := Ideal) (k0_pay13 (F := Ideal) g3) (tH3 h p t g3 wg bg wp g4) (tQz h p t g3 wg bg wp g4) (k0_pay31 (F := Ideal) h) (k0_pay32 (F := Ideal) h) (ix2 i b)
      = dh2 (parB g3 wg bg wp g4) (rowB h i) (rowP p i) (rowB t i) b := by
  refine (pay33_at' _ _ _ _ _ _ _).trans ?_
  simp only [dz_at, dh3_at, pay31_at, pay32_at, pay13_eq]
  rfl

/-- A tile's gradient at its rows. -/
def oB : FVec Ideal S512x1024 .f32 := fun x => dh2 (parB g3 wg bg wp g4) (rowB h (x 0)) (rowP p (x 0)) (rowB t (x 0)) (x 1)

/-- A tile's contribution to the gradient of the gate's weights. -/
def wgB : FVec Ideal S1024x1024 .f32 := fun j => ∑ i : Fin 512, wgT (parB g3 wg bg wp g4) (rowB h i) (rowP p i) (rowB t i) (j 0) (j 1)

/-- A tile's contribution to the gradient of the projection's weights. -/
def wpB : FVec Ideal S256x1024 .f32 := fun j => ∑ i : Fin 512, wpT (parB g3 wg bg wp g4) (rowB h i) (rowP p i) (rowB t i) (j 0) (j 1)

/-- One row's terms of the eight rows of vectors: the two gains, the bias, the loss. -/
def vecT (P : Par) (h : Fin 1024 → EReal) (p : Fin 256 → EReal) (t : Fin 1024 → EReal) (r : ℕ) (b : Fin 1024) : EReal :=
  if r = 0 then g3T P h p t b else if r = 1 then g4T P h p t b else if r = 2 then dpre P h p t b else if r = 3 then half * err P h p t else 0

/-- A tile's contribution to the eight rows of vectors. -/
def vecB : FVec Ideal S8x1024 .f32 := fun j => ∑ i : Fin 512, vecT (parB g3 wg bg wp g4) (rowB h i) (rowP p i) (rowB t i) (j 0).val (j 1)

theorem o_at (x : S512x1024.Idx) :
    k0_pay33 (F := Ideal) (k0_pay13 (F := Ideal) g3) (tH3 h p t g3 wg bg wp g4) (tQz h p t g3 wg bg wp g4) (k0_pay31 (F := Ideal) h) (k0_pay32 (F := Ideal) h) x
      = oB h p t g3 wg bg wp g4 x :=
  (congrArg _ (show x = ix2 (x 0) (x 1) by blk_ext)).trans (dh2_at h p t g3 wg bg wp g4 (x 0) (x 1))

theorem ob_at (x : S512x1024.Idx) :
    k0_pay34 (F := Ideal) (k0_pay13 (F := Ideal) g3) (tH3 h p t g3 wg bg wp g4) (tQz h p t g3 wg bg wp g4) (k0_pay31 (F := Ideal) h) (k0_pay32 (F := Ideal) h) x
      = oB h p t g3 wg bg wp g4 x :=
  (congrArg _ (show x = ix2 (x 0) (x 1) by blk_ext)).trans ((pay34_at' _ _ _ _ _ _ _).trans (dh2_at h p t g3 wg bg wp g4 (x 0) (x 1)))

theorem wg_at (v : Vec Ideal S1024x1024 .f32) (j : S1024x1024.Idx) :
    k0_pay35 (F := Ideal) (k0_pay15 (F := Ideal) h g3) (k0_pay29 (F := Ideal) (k0_pay14 (F := Ideal) g4) (tG h g3 wg bg) (tD p wp) (tY h p t g3 wg bg wp g4) (tX h p g3 wg bg wp) (tS h p g3 wg bg wp)) v j
      = v j + wgB h p t g3 wg bg wp g4 j := by
  rw [pay35_at']
  refine congrArg (v j + ·) (Finset.sum_congr rfl fun i _ => ?_)
  exact congrArg₂ (fun (p q : EReal) => p * q) (pay15_at h g3 i (j 0)) ((pay29_at' _ _ _ _ _ _ _ _).trans (dpre_at h p t g3 wg bg wp g4 i (j 1)))

theorem wp_at (v : Vec Ideal S256x1024 .f32) (j : S256x1024.Idx) :
    k0_pay36 (F := Ideal) (tQ p) (k0_pay27 (F := Ideal) (k0_pay14 (F := Ideal) g4) (tG h g3 wg bg) (tY h p t g3 wg bg wp g4) (tX h p g3 wg bg wp) (tS h p g3 wg bg wp)) v j
      = v j + wpB h p t g3 wg bg wp g4 j := by
  rw [pay36_at']
  refine congrArg (v j + ·) (Finset.sum_congr rfl fun i _ => ?_)
  exact congrArg₂ (fun (p q : EReal) => p * q) (pay17_eq p i (j 0)) (dpp_at h p t g3 wg bg wp g4 i (j 1))

/-- The four stored rows: what was there plus the tile's contribution. -/
theorem vec0_at (v : Vec Ideal S1x1024 .f32) (b : Fin 1024) :
    k0_pay1 (F := Ideal) (k0_pay37 (F := Ideal) (tQz h p t g3 wg bg wp g4) (k0_pay31 (F := Ideal) h) v) (ix2 0 b) = v (ix2 0 b) + vecB h p t g3 wg bg wp g4 (ix2 0 b) := by
  rw [pay37_at']
  refine congrArg (v (ix2 0 b) + ·) (Finset.sum_congr rfl fun i _ => ?_)
  exact congrArg₂ (fun (p q : EReal) => p * q) (dz_at h p t g3 wg bg wp g4 i b) (pay31_at h i b)

theorem vec1_at (v : Vec Ideal S1x1024 .f32) (b : Fin 1024) :
    k0_pay2 (F := Ideal) (k0_pay26 (F := Ideal) (tY h p t g3 wg bg wp g4) (tX h p g3 wg bg wp)) v (ix2 0 b) = v (ix2 0 b) + vecB h p t g3 wg bg wp g4 (ix2 1 b) := by
  rw [pay2_at, pay26_at']
  refine congrArg (v (ix2 0 b) + ·) (Finset.sum_congr rfl fun i _ => ?_)
  exact congrArg₂ (fun (p q : EReal) => p * q) (y_at h p t g3 wg bg wp g4 i b) (x_at h p g3 wg bg wp g4 i b)

theorem vec2_at (v : Vec Ideal S1x1024 .f32) (b : Fin 1024) :
    k0_pay3 (F := Ideal) (tDpre h p t g3 wg bg wp g4) v (ix2 0 b) = v (ix2 0 b) + vecB h p t g3 wg bg wp g4 (ix2 2 b) := by
  rw [pay3_at]
  exact congrArg (v (ix2 0 b) + ·) (Finset.sum_congr rfl fun i _ => dpre_at h p t g3 wg bg wp g4 i b)

theorem vec3_at (v : Vec Ideal S1x1024 .f32) (b : Fin 1024) :
    k0_pay4 (F := Ideal) (k0_pay21 (F := Ideal) h (k0_pay14 (F := Ideal) g4) (tG h g3 wg bg) (tQ p) wp t) v (ix2 0 b) = v (ix2 0 b) + vecB h p t g3 wg bg wp g4 (ix2 3 b) := by
  rw [pay4_at, loss_at]
  rfl

theorem vecB_zero (j : S8x1024.Idx) (hj : 4 ≤ (j 0).val) : vecB h p t g3 wg bg wp g4 j = 0 := by
  refine Finset.sum_eq_zero fun i _ => ?_
  unfold vecT
  rw [if_neg (by omega), if_neg (by omega), if_neg (by omega), if_neg (by omega)]

end Cert.HeadIdeal.Hand

end
-- ==== Proof.HeadOut.lean ====
module

public import proofs.«01_k».proof.Proof.HeadTile
public import proofs.«01_k».proof.Proof.Gen.HeadIdeal.Value
public import Idealize.ShloMosaic.Lib.WritesUnit

@[expose] public section

set_option maxRecDepth 16384

noncomputable section

open Idealize.ShloMosaic Idealize.ShloMosaic.TcCoe Idealize.SL.Sem

namespace Cert.HeadIdeal.Hand

open Cert.HeadIdeal Cert.HeadIdeal.Gen
open Cert.HeadRow

variable (m : (ℓ : Loc nD τ sig) → Buf (Elt Ideal) ℓ)

/-- The tile's results at a grid point, from the blocks of that point. -/
abbrev oT (c : Dev nD) (t : Fin cfg0.N) := oB (iblk m c 0 t) (iblk m c 1 t) (iblk m c 2 t) (iblk m c 3 t) (iblk m c 4 t) (iblk m c 5 t) (iblk m c 6 t) (iblk m c 7 t)
abbrev wgt (c : Dev nD) (t : Fin cfg0.N) := wgB (iblk m c 0 t) (iblk m c 1 t) (iblk m c 2 t) (iblk m c 3 t) (iblk m c 4 t) (iblk m c 5 t) (iblk m c 6 t) (iblk m c 7 t)
abbrev wpt (c : Dev nD) (t : Fin cfg0.N) := wpB (iblk m c 0 t) (iblk m c 1 t) (iblk m c 2 t) (iblk m c 3 t) (iblk m c 4 t) (iblk m c 5 t) (iblk m c 6 t) (iblk m c 7 t)
abbrev vct (c : Dev nD) (t : Fin cfg0.N) := vecB (iblk m c 0 t) (iblk m c 1 t) (iblk m c 2 t) (iblk m c 3 t) (iblk m c 4 t) (iblk m c 5 t) (iblk m c 6 t) (iblk m c 7 t)

theorem o8 (c : Dev nD) (t : Fin cfg0.N) (j : S512x1024.Idx) : (outsAt0 m c t.val t.isLt).1 j = oT m c t j := by
  by_cases h0 : t.val % 16 = 0
  · rw [outsAt0_A m c t h0 (by omega)]
    frame_out
    exact o_at _ _ _ _ _ _ _ _ j
  · by_cases h1 : t.val % 16 = 15
    · rw [outsAt0_C m c t h0 h1]
      frame_out
      exact o_at _ _ _ _ _ _ _ _ j
    · rw [outsAt0_B m c t h0 h1]
      frame_out
      exact o_at _ _ _ _ _ _ _ _ j

theorem o9 (c : Dev nD) (t : Fin cfg0.N) (j : S512x1024.Idx) : (outsAt0 m c t.val t.isLt).2.1 j = oT m c t j := by
  by_cases h0 : t.val % 16 = 0
  · rw [outsAt0_A m c t h0 (by omega)]
    frame_out
    exact ob_at _ _ _ _ _ _ _ _ j
  · by_cases h1 : t.val % 16 = 15
    · rw [outsAt0_C m c t h0 h1]
      frame_out
      exact ob_at _ _ _ _ _ _ _ _ j
    · rw [outsAt0_B m c t h0 h1]
      frame_out
      exact ob_at _ _ _ _ _ _ _ _ j

theorem wg_B (c : Dev nD) (t : Fin cfg0.N) (h0 : ¬t.val % 16 = 0) (j : S1024x1024.Idx) :
    (outsAt0 m c t.val t.isLt).2.2.2.2.2.1 j = (outsAt0 m c (t.val - 1) (Nat.lt_of_le_of_lt (Nat.sub_le _ _) t.isLt)).2.2.2.2.2.1 j + wgt m c t j := by
  by_cases h1 : t.val % 16 = 15
  · rw [outsAt0_C m c t h0 h1]
    frame_out
    simp only [read_unread_whole]
    exact wg_at _ _ _ _ _ _ _ _ _ j
  · rw [outsAt0_B m c t h0 h1]
    frame_out
    simp only [read_unread_whole]
    exact wg_at _ _ _ _ _ _ _ _ _ j

theorem wg_A (c : Dev nD) (t : Fin cfg0.N) (h0 : t.val % 16 = 0) (j : S1024x1024.Idx) :
    (outsAt0 m c t.val t.isLt).2.2.2.2.2.1 j = 0 + wgt m c t j := by
  rw [outsAt0_A m c t h0 (by omega)]
  frame_open
  simp (disch := decide) only [↓ View.readCov_skip, ↓ View.readCov_cons_toLoadRect, ↓ View.readCov_fill]
  frame_out
  refine (wg_at _ _ _ _ _ _ _ _ (k0_pay10 (F := Ideal)) j).trans ?_
  congr 1
  pointwise [k0_pay10]

theorem wp_B (c : Dev nD) (t : Fin cfg0.N) (h0 : ¬t.val % 16 = 0) (j : S256x1024.Idx) :
    (outsAt0 m c t.val t.isLt).2.2.2.2.2.2.1 j = (outsAt0 m c (t.val - 1) (Nat.lt_of_le_of_lt (Nat.sub_le _ _) t.isLt)).2.2.2.2.2.2.1 j + wpt m c t j := by
  by_cases h1 : t.val % 16 = 15
  · rw [outsAt0_C m c t h0 h1]
    frame_out
    simp only [read_unread_whole]
    exact wp_at _ _ _ _ _ _ _ _ _ j
  · rw [outsAt0_B m c t h0 h1]
    frame_out
    simp only [read_unread_whole]
    exact wp_at _ _ _ _ _ _ _ _ _ j

theorem wp_A (c : Dev nD) (t : Fin cfg0.N) (h0 : t.val % 16 = 0) (j : S256x1024.Idx) :
    (outsAt0 m c t.val t.isLt).2.2.2.2.2.2.1 j = 0 + wpt m c t j := by
  rw [outsAt0_A m c t h0 (by omega)]
  frame_open
  simp (disch := decide) only [↓ View.readCov_skip, ↓ View.readCov_cons_toLoadRect, ↓ View.readCov_fill]
  frame_out
  refine (wp_at _ _ _ _ _ _ _ _ (k0_pay11 (F := Ideal)) j).trans ?_
  congr 1
  pointwise [k0_pay11]

theorem o10_C (c : Dev nD) (t : Fin cfg0.N) (h0 : ¬t.val % 16 = 0) (h1 : t.val % 16 = 15) (j : S1024x1024.Idx) :
    (outsAt0 m c t.val t.isLt).2.2.1 j = (outsAt0 m c t.val t.isLt).2.2.2.2.2.1 j := by
  rw [outsAt0_C m c t h0 h1]
  frame_out
  simp only [read_unread_whole]
  pointwise [k0_pay5]

theorem o12_C (c : Dev nD) (t : Fin cfg0.N) (h0 : ¬t.val % 16 = 0) (h1 : t.val % 16 = 15) (j : S8x1024.Idx) :
    (outsAt0 m c t.val t.isLt).2.2.2.2.1 j = (outsAt0 m c t.val t.isLt).2.2.2.2.2.2.2 j := by
  rw [outsAt0_C m c t h0 h1]
  frame_out

/-- Column `a * 256 + b` of the projection's weights. -/
abbrev pcol (a : Fin 4) (b : Fin 256) : Fin 1024 := ⟨a.val * 256 + b.val, by omega⟩

theorem emb0 (x : S1x256x256.Idx) :
    (Rect.unit (s := S4x256x256) ![0, 0, 0] ![1, 256, 256] inb_S4x256x256_S1x256x256_0_0_0).emb x = ix3 (0 : Fin 4) (x 1) (x 2) := by
  blk_ext

theorem cut0 (K : Vec Ideal S256x1024 .f32) (x : S1x256x256.Idx) :
    k0_pay6 (F := Ideal) (View.ld K (Rect.unit ![0, 0] ![256, 256] inb_S256x1024_S256x256_0_0)) x = K (ix2 (x 1) (pcol 0 (x 2))) := by
  pointwise [k0_pay6]
  first | done | rfl | blk_ext

theorem emb1 (x : S1x256x256.Idx) :
    (Rect.unit (s := S4x256x256) ![1, 0, 0] ![1, 256, 256] inb_S4x256x256_S1x256x256_1_0_0).emb x = ix3 (1 : Fin 4) (x 1) (x 2) := by
  blk_ext

theorem cut1 (K : Vec Ideal S256x1024 .f32) (x : S1x256x256.Idx) :
    k0_pay7 (F := Ideal) (View.ld K (Rect.unit ![0, 256] ![256, 256] inb_S256x1024_S256x256_0_256)) x = K (ix2 (x 1) (pcol 1 (x 2))) := by
  pointwise [k0_pay7]
  first | done | rfl | blk_ext

theorem emb2 (x : S1x256x256.Idx) :
    (Rect.unit (s := S4x256x256) ![2, 0, 0] ![1, 256, 256] inb_S4x256x256_S1x256x256_2_0_0).emb x = ix3 (2 : Fin 4) (x 1) (x 2) := by
  blk_ext

theorem cut2 (K : Vec Ideal S256x1024 .f32) (x : S1x256x256.Idx) :
    k0_pay8 (F := Ideal) (View.ld K (Rect.unit ![0, 512] ![256, 256] inb_S256x1024_S256x256_0_512)) x = K (ix2 (x 1) (pcol 2 (x 2))) := by
  pointwise [k0_pay8]
  first | done | rfl | blk_ext

theorem emb3 (x : S1x256x256.Idx) :
    (Rect.unit (s := S4x256x256) ![3, 0, 0] ![1, 256, 256] inb_S4x256x256_S1x256x256_3_0_0).emb x = ix3 (3 : Fin 4) (x 1) (x 2) := by
  blk_ext

theorem cut3 (K : Vec Ideal S256x1024 .f32) (x : S1x256x256.Idx) :
    k0_pay9 (F := Ideal) (View.ld K (Rect.unit ![0, 768] ![256, 256] inb_S256x1024_S256x256_0_768)) x = K (ix2 (x 1) (pcol 3 (x 2))) := by
  pointwise [k0_pay9]
  first | done | rfl | blk_ext

/-- The four stores of column blocks lay the accumulated gradient out by blocks. -/
theorem canon_slots (K : Vec Ideal S256x1024 .f32) (j : S4x256x256.Idx) :
    View.canon (Val := Elt Ideal) (e := .bf16) [⟨Rect.unit (s := S4x256x256) ![3, 0, 0] ![1, 256, 256] inb_S4x256x256_S1x256x256_3_0_0, k0_pay9 (F := Ideal) (View.ld K (Rect.unit ![0, 768] ![256, 256] inb_S256x1024_S256x256_0_768))⟩,
      ⟨Rect.unit (s := S4x256x256) ![2, 0, 0] ![1, 256, 256] inb_S4x256x256_S1x256x256_2_0_0, k0_pay8 (F := Ideal) (View.ld K (Rect.unit ![0, 512] ![256, 256] inb_S256x1024_S256x256_0_512))⟩,
      ⟨Rect.unit (s := S4x256x256) ![1, 0, 0] ![1, 256, 256] inb_S4x256x256_S1x256x256_1_0_0, k0_pay7 (F := Ideal) (View.ld K (Rect.unit ![0, 256] ![256, 256] inb_S256x1024_S256x256_0_256))⟩,
      ⟨Rect.unit (s := S4x256x256) ![0, 0, 0] ![1, 256, 256] inb_S4x256x256_S1x256x256_0_0_0, k0_pay6 (F := Ideal) (View.ld K (Rect.unit ![0, 0] ![256, 256] inb_S256x1024_S256x256_0_0))⟩] j
      = K (ix2 (j 1) (pcol (j 0) (j 2))) := by
  refine View.canon_append_of_piecesOf (Val := Elt Ideal) (e := .bf16) (fun j => (K (ix2 (j 1) (pcol (j 0) (j 2))) : EReal)) [] [_, _, _, _] ⟨fun x => ?_, fun x => ?_, fun x => ?_, fun x => ?_, trivial⟩ j ?_
  · exact (cut3 K x).trans (congrArg (fun j : S4x256x256.Idx => K (ix2 (j 1) (pcol (j 0) (j 2)))) (emb3 x)).symm
  · exact (cut2 K x).trans (congrArg (fun j : S4x256x256.Idx => K (ix2 (j 1) (pcol (j 0) (j 2)))) (emb2 x)).symm
  · exact (cut1 K x).trans (congrArg (fun j : S4x256x256.Idx => K (ix2 (j 1) (pcol (j 0) (j 2)))) (emb1 x)).symm
  · exact (cut0 K x).trans (congrArg (fun j : S4x256x256.Idx => K (ix2 (j 1) (pcol (j 0) (j 2)))) (emb0 x)).symm
  · exact View.cover_of_tiledL (s := S4x256x256) _ S1x256x256.size (by sl_kernel_rfl) j

theorem o11_C (c : Dev nD) (t : Fin cfg0.N) (h0 : ¬t.val % 16 = 0) (h1 : t.val % 16 = 15) (j : S4x256x256.Idx) :
    (outsAt0 m c t.val t.isLt).2.2.2.1 j = (outsAt0 m c t.val t.isLt).2.2.2.2.2.2.1 (ix2 (j 1) (pcol (j 0) (j 2))) := by
  rw [outsAt0_C m c t h0 h1]
  frame_out
  simp only [read_unread_whole]
  simp (disch := decide) only [↓ View.readCov_skip, ↓ View.readCov_cons_toLoadRect, ↓ View.readCov_fill]
  exact canon_slots _ j

theorem ld0 (P : Vec Ideal S8x1024 .f32) (b : Fin 1024) :
    View.ld P (Rect.unit ![0, 0] ![1, 1024] inb_S8x1024_S1x1024_0_0) (ix2 (0 : Fin 1) b) = P (ix2 0 b) := by
  pointwise
  blk_ext

theorem ld1 (P : Vec Ideal S8x1024 .f32) (b : Fin 1024) :
    View.ld P (Rect.unit ![1, 0] ![1, 1024] inb_S8x1024_S1x1024_1_0) (ix2 (0 : Fin 1) b) = P (ix2 1 b) := by
  pointwise
  blk_ext

theorem ld2 (P : Vec Ideal S8x1024 .f32) (b : Fin 1024) :
    View.ld P (Rect.unit ![2, 0] ![1, 1024] inb_S8x1024_S1x1024_2_0) (ix2 (0 : Fin 1) b) = P (ix2 2 b) := by
  pointwise
  blk_ext

theorem ld3 (P : Vec Ideal S8x1024 .f32) (b : Fin 1024) :
    View.ld P (Rect.unit ![3, 0] ![1, 1024] inb_S8x1024_S1x1024_3_0) (ix2 (0 : Fin 1) b) = P (ix2 3 b) := by
  pointwise
  blk_ext

theorem etaV (y : S8x1024.Idx) (r : Fin 8) (h : (y 0).val = r.val) : y = ix2 r (y 1) := by
  funext a
  refine Fin.ext ?_
  match a with
  | 0 => exact h
  | 1 => rfl

/-- Reading back four stores of rows 0 to 3 of eight over what was there: each row what it was plus its contribution. -/
theorem rows_store (v : View sig .tc .vmem S8x1024 .f32) (f : v.ty.Contents (Elt Ideal))
    (L : List (View.Piece (Elt Ideal) S8x1024 .f32)) (P : Vec Ideal S8x1024 .f32) (hP : v.read (Elt Ideal) (v.writes (Elt Ideal) f L) = P)
    (s0 s1 s2 s3 : Vec Ideal S1x1024 .f32) (R : FVec Ideal S8x1024 .f32)
    (h0 : ∀ b : Fin 1024, s0 (ix2 0 b) = P (ix2 0 b) + R (ix2 0 b)) (h1 : ∀ b : Fin 1024, s1 (ix2 0 b) = P (ix2 1 b) + R (ix2 1 b))
    (h2 : ∀ b : Fin 1024, s2 (ix2 0 b) = P (ix2 2 b) + R (ix2 2 b)) (h3 : ∀ b : Fin 1024, s3 (ix2 0 b) = P (ix2 3 b) + R (ix2 3 b))
    (hR : ∀ j : S8x1024.Idx, 4 ≤ (j 0).val → R j = 0) (j : S8x1024.Idx) :
    v.read (Elt Ideal) (v.writes (Elt Ideal) f (⟨Rect.unit (s := S8x1024) ![3, 0] ![1, 1024] inb_S8x1024_S1x1024_3_0, s3⟩ ::
      ⟨Rect.unit (s := S8x1024) ![2, 0] ![1, 1024] inb_S8x1024_S1x1024_2_0, s2⟩ :: ⟨Rect.unit (s := S8x1024) ![1, 0] ![1, 1024] inb_S8x1024_S1x1024_1_0, s1⟩ ::
      ⟨Rect.unit (s := S8x1024) ![0, 0] ![1, 1024] inb_S8x1024_S1x1024_0_0, s0⟩ :: L)) j = P j + R j := by
  by_cases c3 : (j 0).val = 3
  · refine (View.read_writes_cons_rows_of_mem v f (o := 3) inb_S8x1024_S1x1024_3_0 _ _ j (ix2 (0 : Fin 1) (j 1)) rfl (by rw [c3]; rfl) rfl).trans ?_
    exact (h3 (j 1)).trans (congrArg (fun y => P y + R y) (etaV j 3 c3).symm)
  rw [View.read_writes_cons_rows_of_not_mem v f (o := 3) (W := 1) inb_S8x1024_S1x1024_3_0 _ _ j rfl rfl (by omega)]
  by_cases c2 : (j 0).val = 2
  · refine (View.read_writes_cons_rows_of_mem v f (o := 2) inb_S8x1024_S1x1024_2_0 _ _ j (ix2 (0 : Fin 1) (j 1)) rfl (by rw [c2]; rfl) rfl).trans ?_
    exact (h2 (j 1)).trans (congrArg (fun y => P y + R y) (etaV j 2 c2).symm)
  rw [View.read_writes_cons_rows_of_not_mem v f (o := 2) (W := 1) inb_S8x1024_S1x1024_2_0 _ _ j rfl rfl (by omega)]
  by_cases c1 : (j 0).val = 1
  · refine (View.read_writes_cons_rows_of_mem v f (o := 1) inb_S8x1024_S1x1024_1_0 _ _ j (ix2 (0 : Fin 1) (j 1)) rfl (by rw [c1]; rfl) rfl).trans ?_
    exact (h1 (j 1)).trans (congrArg (fun y => P y + R y) (etaV j 1 c1).symm)
  rw [View.read_writes_cons_rows_of_not_mem v f (o := 1) (W := 1) inb_S8x1024_S1x1024_1_0 _ _ j rfl rfl (by omega)]
  by_cases c0 : (j 0).val = 0
  · refine (View.read_writes_cons_rows_of_mem v f (o := 0) inb_S8x1024_S1x1024_0_0 _ _ j (ix2 (0 : Fin 1) (j 1)) rfl (by rw [c0]; rfl) rfl).trans ?_
    exact (h0 (j 1)).trans (congrArg (fun y => P y + R y) (etaV j 0 c0).symm)
  rw [View.read_writes_cons_rows_of_not_mem v f (o := 0) (W := 1) inb_S8x1024_S1x1024_0_0 _ _ j rfl rfl (by omega)]
  rw [hP, hR j (by omega), add_zero]

theorem v_B (c : Dev nD) (t : Fin cfg0.N) (h0 : ¬t.val % 16 = 0) (j : S8x1024.Idx) :
    (outsAt0 m c t.val t.isLt).2.2.2.2.2.2.2 j = (outsAt0 m c (t.val - 1) (Nat.lt_of_le_of_lt (Nat.sub_le _ _) t.isLt)).2.2.2.2.2.2.2 j
      + vct m c t j := by
  by_cases h1 : t.val % 16 = 15
  · rw [outsAt0_C m c t h0 h1]
    frame_out
    simp only [read_unread_whole]
    refine rows_store (View.whole cc0_scratch2) _ [] _ ?_ _ _ _ _ _ (fun b => (vec0_at _ _ _ _ _ _ _ _ _ b).trans (congrArg (fun (x : EReal) => x + _) (ld0 _ b)))
      (fun b => (vec1_at _ _ _ _ _ _ _ _ _ b).trans (congrArg (fun (x : EReal) => x + _) (ld1 _ b)))
      (fun b => (vec2_at _ _ _ _ _ _ _ _ _ b).trans (congrArg (fun (x : EReal) => x + _) (ld2 _ b)))
      (fun b => (vec3_at _ _ _ _ _ _ _ _ _ b).trans (congrArg (fun (x : EReal) => x + _) (ld3 _ b))) (vecB_zero _ _ _ _ _ _ _ _) j
    exact read_unread_whole _ _ _
  · rw [outsAt0_B m c t h0 h1]
    frame_out
    simp only [read_unread_whole]
    refine rows_store (View.whole cc0_scratch2) _ [] _ ?_ _ _ _ _ _ (fun b => (vec0_at _ _ _ _ _ _ _ _ _ b).trans (congrArg (fun (x : EReal) => x + _) (ld0 _ b)))
      (fun b => (vec1_at _ _ _ _ _ _ _ _ _ b).trans (congrArg (fun (x : EReal) => x + _) (ld1 _ b)))
      (fun b => (vec2_at _ _ _ _ _ _ _ _ _ b).trans (congrArg (fun (x : EReal) => x + _) (ld2 _ b)))
      (fun b => (vec3_at _ _ _ _ _ _ _ _ _ b).trans (congrArg (fun (x : EReal) => x + _) (ld3 _ b))) (vecB_zero _ _ _ _ _ _ _ _) j
    exact read_unread_whole _ _ _

theorem v_A (c : Dev nD) (t : Fin cfg0.N) (h0 : t.val % 16 = 0) (j : S8x1024.Idx) :
    (outsAt0 m c t.val t.isLt).2.2.2.2.2.2.2 j = 0 + vct m c t j := by
  rw [outsAt0_A m c t h0 (by omega)]
  frame_open
  simp (disch := decide) only [↓ View.readCov_skip, ↓ View.readCov_cons_toLoadRect, ↓ View.readCov_fill]
  frame_out
  refine (congrFun (View.read_writes_junk_eq_canon (View.whole cc0_scratch2) _).symm j).trans ?_
  refine (rows_store (View.whole cc0_scratch2) _ _ (k0_pay12 (F := Ideal)) ?_ _ _ _ _ _ (fun b => (vec0_at _ _ _ _ _ _ _ _ _ b).trans (congrArg (fun (x : EReal) => x + _) (ld0 _ b)))
      (fun b => (vec1_at _ _ _ _ _ _ _ _ _ b).trans (congrArg (fun (x : EReal) => x + _) (ld1 _ b)))
      (fun b => (vec2_at _ _ _ _ _ _ _ _ _ b).trans (congrArg (fun (x : EReal) => x + _) (ld2 _ b)))
      (fun b => (vec3_at _ _ _ _ _ _ _ _ _ b).trans (congrArg (fun (x : EReal) => x + _) (ld3 _ b))) (vecB_zero _ _ _ _ _ _ _ _) j).trans ?_
  · funext y
    exact View.read_writes_cons_unit_of_mem (View.whole cc0_scratch2) _ inb_S8x1024_S8x1024_0_0 _ [] y y (off' := ![0, 0]) rfl fun a => by
      match a with
      | 0 => exact (Nat.zero_add _).symm
      | 1 => exact (Nat.zero_add _).symm
  · congr 1
    pointwise [k0_pay12]

end Cert.HeadIdeal.Hand

end
-- ==== Proof.HeadSum.lean ====
module

public import proofs.«01_k».proof.Proof.HeadOut

@[expose] public section

set_option maxRecDepth 16384

noncomputable section

open Idealize.ShloMosaic Idealize.ShloMosaic.TcCoe Idealize.SL.Sem

namespace Cert.HeadIdeal.Hand

open Cert.HeadIdeal Cert.HeadIdeal.Gen
open Cert.HeadRow

variable (m : (ℓ : Loc nD τ sig) → Buf (Elt Ideal) ℓ)

/-- Which block each window is at, at each of the 16 row tiles. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0] ∧ win0_8.index t = ![t.val, 0]
    ∧ win0_9.index t = ![t.val, 0] ∧ win0_10.index t = ![0, 0] ∧ win0_11.index t = ![0, 0, 0] ∧ win0_12.index t = ![0, 0] :=
  (by decide +kernel : ∀ t : Fin grid0.N, _)

/-- The parameters as the arrays hold them. -/
def parA (g3 : S1x1024.Idx → EReal) (wg : S1024x1024.Idx → EReal) (bg : S1x1024.Idx → EReal) (wp : S256x1024.Idx → EReal) (g4 : S1x1024.Idx → EReal) : Par :=
  ⟨fun k => g3 (ix2 0 k), fun k b => wg (ix2 k b), fun k => bg (ix2 0 k), fun k b => wp (ix2 k b), fun k => g4 (ix2 0 k)⟩

/-- Row `i` of an array, and of the embeddings. -/
def rowA (h : S8192x1024.Idx → EReal) (i : Fin 8192) : Fin 1024 → EReal := fun k => h (ix2 i k)
def rowE (p : S8192x256.Idx → EReal) (i : Fin 8192) : Fin 256 → EReal := fun k => p (ix2 i k)

/-- The gradient at the rows, all rows. -/
def oA (P : Par) (h : S8192x1024.Idx → EReal) (p : S8192x256.Idx → EReal) (t : S8192x1024.Idx → EReal) : S8192x1024.Idx → EReal :=
  fun x => dh2 P (rowA h (x 0)) (rowE p (x 0)) (rowA t (x 0)) (x 1)

/-- The gradient of the gate's weights, summed over all rows. -/
def wgA (P : Par) (h : S8192x1024.Idx → EReal) (p : S8192x256.Idx → EReal) (t : S8192x1024.Idx → EReal) : S1024x1024.Idx → EReal :=
  fun j => ∑ l : Fin 8192, wgT P (rowA h l) (rowE p l) (rowA t l) (j 0) (j 1)

/-- The gradient of the projection's weights, summed over all rows, laid out by blocks of columns. -/
def wpA (P : Par) (h : S8192x1024.Idx → EReal) (p : S8192x256.Idx → EReal) (t : S8192x1024.Idx → EReal) : S4x256x256.Idx → EReal :=
  fun j => ∑ l : Fin 8192, wpT P (rowA h l) (rowE p l) (rowA t l) (j 1) (pcol (j 0) (j 2))

/-- The gradients of the two gains and of the bias, and the loss, in rows 0 to 3 of eight, the other rows zero. -/
def vecA (P : Par) (h : S8192x1024.Idx → EReal) (p : S8192x256.Idx → EReal) (t : S8192x1024.Idx → EReal) : S8x1024.Idx → EReal :=
  fun j => ∑ l : Fin 8192, vecT P (rowA h l) (rowE p l) (rowA t l) (j 0).val (j 1)

/-- Row `i` of the row tile of grid point `t`. -/
abbrev row (t : Fin cfg0.N) (i : Fin 512) : Fin 8192 := ⟨t.val * 512 + i.val, by have := t.isLt; have hN : cfg0.N = 16 := N_0; omega⟩

theorem b0 (c : Dev nD) (t : Fin cfg0.N) (i : Fin 512) (k : Fin 1024) : iblk m c 0 t (ix2 i k) = V m c main_arg0 (ix2 (row t i) k) := by
  blk_point [iblk, idx t]

theorem b1 (c : Dev nD) (t : Fin cfg0.N) (i : Fin 512) (k : Fin 256) : iblk m c 1 t (ix2 i k) = V m c main_arg1 (ix2 (row t i) k) := by
  blk_point [iblk, idx t]

theorem b2 (c : Dev nD) (t : Fin cfg0.N) (i : Fin 512) (k : Fin 1024) : iblk m c 2 t (ix2 i k) = V m c main_arg2 (ix2 (row t i) k) := by
  blk_point [iblk, idx t]

theorem b3 (c : Dev nD) (t : Fin cfg0.N) (k : Fin 1024) : iblk m c 3 t (ix2 0 k) = V m c main_v0 (ix2 0 k) := by
  blk_point [iblk, idx t]

theorem b4 (c : Dev nD) (t : Fin cfg0.N) (k b : Fin 1024) : iblk m c 4 t (ix2 k b) = V m c main_v1 (ix2 k b) := by
  blk_point [iblk, idx t]

theorem b5 (c : Dev nD) (t : Fin cfg0.N) (k : Fin 1024) : iblk m c 5 t (ix2 0 k) = V m c main_v2 (ix2 0 k) := by
  blk_point [iblk, idx t]

theorem b6 (c : Dev nD) (t : Fin cfg0.N) (k : Fin 256) (b : Fin 1024) : iblk m c 6 t (ix2 k b) = V m c main_v3 (ix2 k b) := by
  blk_point [iblk, idx t]

theorem b7 (c : Dev nD) (t : Fin cfg0.N) (k : Fin 1024) : iblk m c 7 t (ix2 0 k) = V m c main_v4 (ix2 0 k) := by
  blk_point [iblk, idx t]

/-- The parameters over the arrays the call reads. -/
abbrev parV (c : Dev nD) : Par := parA (V m c main_v0) (V m c main_v1) (V m c main_v2) (V m c main_v3) (V m c main_v4)

theorem par_eq (c : Dev nD) (t : Fin cfg0.N) :
    parB (iblk m c 3 t) (iblk m c 4 t) (iblk m c 5 t) (iblk m c 6 t) (iblk m c 7 t) = parV m c := by
  unfold parB parV parA
  rw [Par.mk.injEq]
  exact ⟨funext (b3 m c t), funext fun k => funext (b4 m c t k), funext (b5 m c t), funext fun k => funext (b6 m c t k), funext (b7 m c t)⟩

theorem row0 (c : Dev nD) (t : Fin cfg0.N) (i : Fin 512) : rowB (iblk m c 0 t) i = rowA (V m c main_arg0) (row t i) := funext (b0 m c t i)
theorem row1 (c : Dev nD) (t : Fin cfg0.N) (i : Fin 512) : rowP (iblk m c 1 t) i = rowE (V m c main_arg1) (row t i) := funext (b1 m c t i)
theorem row2 (c : Dev nD) (t : Fin cfg0.N) (i : Fin 512) : rowB (iblk m c 2 t) i = rowA (V m c main_arg2) (row t i) := funext (b2 m c t i)

theorem o_row (c : Dev nD) (t : Fin cfg0.N) (i : Fin 512) (b : Fin 1024) :
    oT m c t (ix2 i b) = oA (parV m c) (V m c main_arg0) (V m c main_arg1) (V m c main_arg2) (ix2 (row t i) b) := by
  show dh2 _ (rowB _ i) (rowP _ i) (rowB _ i) b = dh2 _ (rowA _ (row t i)) (rowE _ (row t i)) (rowA _ (row t i)) b
  rw [par_eq, row0, row1, row2]

theorem wg_row (c : Dev nD) (t : Fin cfg0.N) (j : S1024x1024.Idx) : wgt m c t j
    = ∑ i : Fin 512, wgT (parV m c) (rowA (V m c main_arg0) (row t i)) (rowE (V m c main_arg1) (row t i)) (rowA (V m c main_arg2) (row t i)) (j 0) (j 1) :=
  Finset.sum_congr rfl fun i _ => by rw [par_eq, row0, row1, row2]

theorem wp_row (c : Dev nD) (t : Fin cfg0.N) (j : S256x1024.Idx) : wpt m c t j
    = ∑ i : Fin 512, wpT (parV m c) (rowA (V m c main_arg0) (row t i)) (rowE (V m c main_arg1) (row t i)) (rowA (V m c main_arg2) (row t i)) (j 0) (j 1) :=
  Finset.sum_congr rfl fun i _ => by rw [par_eq, row0, row1, row2]

theorem v_row (c : Dev nD) (t : Fin cfg0.N) (j : S8x1024.Idx) : vct m c t j
    = ∑ i : Fin 512, vecT (parV m c) (rowA (V m c main_arg0) (row t i)) (rowE (V m c main_arg1) (row t i)) (rowA (V m c main_arg2) (row t i)) (j 0).val (j 1) :=
  Finset.sum_congr rfl fun i _ => by rw [par_eq, row0, row1, row2]

theorem arr8 (c : Dev nD) : (dats m 0 c).arrAt 8 cfg0.N = oA (parV m c) (V m c main_arg0) (V m c main_arg1) (V m c main_arg2) := by
  refine (dats m 0 c).arrAt_eq_of_covers 8 _ (by decide +kernel) fun t hf y => ?_
  blk_simp
  rw [after0_8, o8]
  refine (congrArg (oT m c t) (show y = ix2 (y 0) (y 1) by blk_ext)).trans ((o_row m c t (y 0) (y 1)).trans (congrArg (oA (parV m c) _ _ _) ?_))
  blk_ext [idx t]

theorem arr9 (c : Dev nD) : (dats m 0 c).arrAt 9 cfg0.N = oA (parV m c) (V m c main_arg0) (V m c main_arg1) (V m c main_arg2) := by
  refine (dats m 0 c).arrAt_eq_of_covers 9 _ (by decide +kernel) fun t hf y => ?_
  blk_simp
  rw [after0_9, o9]
  refine (congrArg (oT m c t) (show y = ix2 (y 0) (y 1) by blk_ext)).trans ((o_row m c t (y 0) (y 1)).trans (congrArg (oA (parV m c) _ _ _) ?_))
  blk_ext [idx t]

theorem row_eq (t : Fin cfg0.N) (s : Fin 16) (k : Fin 512) (h : 16 * (t.val / 16) + s.val < cfg0.N) (l : Fin 8192) (hl : l.val = s.val * 512 + k.val) :
    row ⟨16 * (t.val / 16) + s.val, h⟩ k = l := Fin.ext (by
  have hN : cfg0.N = 16 := N_0
  have := t.isLt
  show (16 * (t.val / 16) + s.val) * 512 + k.val = l.val
  omega)

theorem arr10 (c : Dev nD) : (dats m 0 c).arrAt 10 cfg0.N = wgA (parV m c) (V m c main_arg0) (V m c main_arg1) (V m c main_arg2) := by
  refine (dats m 0 c).arrAt_eq_of_covers 10 _ (by decide +kernel) fun t hf y => ?_
  blk_simp
  rw [after0_10]
  have h15 := (flush0_10 t).mp hf
  have hy : (win0_10.blk t).view.emb y = (y : S1024x1024.Idx) := by blk_ext [idx t]
  rw [hy, o10_C m c t (by omega) (by omega), Pipeline.eq_sum_fin_of_reset_step_apply_of_flush (fun n h => (outsAt0 m c n h).2.2.2.2.2.1) 16 (fun _ => 0)
    (fun t => wgt m c t) (fun t h j => wg_A m c t h j) (fun t h j => wg_B m c t h j) t h15 _, zero_add]
  refine Eq.trans (Finset.sum_congr (M := EReal) rfl fun s _ => wg_row m c _ y) ?_
  exact Fin.sum_mul_add_congr fun s k hl => congrArg (fun l => wgT (parV m c) (rowA (V m c main_arg0) l) (rowE (V m c main_arg1) l) (rowA (V m c main_arg2) l) (y 0) (y 1)) (row_eq t s k _ _ rfl)

theorem arr11 (c : Dev nD) : (dats m 0 c).arrAt 11 cfg0.N = wpA (parV m c) (V m c main_arg0) (V m c main_arg1) (V m c main_arg2) := by
  refine (dats m 0 c).arrAt_eq_of_covers 11 _ (by decide +kernel) fun t hf y => ?_
  blk_simp
  rw [after0_11]
  have h15 := (flush0_11 t).mp hf
  have hy : (win0_11.blk t).view.emb y = (y : S4x256x256.Idx) := by blk_ext [idx t]
  rw [hy, o11_C m c t (by omega) (by omega), Pipeline.eq_sum_fin_of_reset_step_apply_of_flush (fun n h => (outsAt0 m c n h).2.2.2.2.2.2.1) 16 (fun _ => 0)
    (fun t => wpt m c t) (fun t h j => wp_A m c t h j) (fun t h j => wp_B m c t h j) t h15 _, zero_add]
  refine Eq.trans (Finset.sum_congr (M := EReal) rfl fun s _ => wp_row m c _ _) ?_
  exact Fin.sum_mul_add_congr fun s k hl => congrArg (fun l => wpT (parV m c) (rowA (V m c main_arg0) l) (rowE (V m c main_arg1) l) (rowA (V m c main_arg2) l) (y 1) (pcol (y 0) (y 2))) (row_eq t s k _ _ rfl)

theorem arr12 (c : Dev nD) : (dats m 0 c).arrAt 12 cfg0.N = vecA (parV m c) (V m c main_arg0) (V m c main_arg1) (V m c main_arg2) := by
  refine (dats m 0 c).arrAt_eq_of_covers 12 _ (by decide +kernel) fun t hf y => ?_
  blk_simp
  rw [after0_12]
  have h15 := (flush0_12 t).mp hf
  have hy : (win0_12.blk t).view.emb y = (y : S8x1024.Idx) := by blk_ext [idx t]
  rw [hy, o12_C m c t (by omega) (by omega), Pipeline.eq_sum_fin_of_reset_step_apply_of_flush (fun n h => (outsAt0 m c n h).2.2.2.2.2.2.2) 16 (fun _ => 0)
    (fun t => vct m c t) (fun t h j => v_A m c t h j) (fun t h j => v_B m c t h j) t h15 _, zero_add]
  refine Eq.trans (Finset.sum_congr (M := EReal) rfl fun s _ => v_row m c _ y) ?_
  exact Fin.sum_mul_add_congr fun s k hl => congrArg (fun l => vecT (parV m c) (rowA (V m c main_arg0) l) (rowE (V m c main_arg1) l) (rowA (V m c main_arg2) l) (y 0).val (y 1)) (row_eq t s k _ _ rfl)

end Cert.HeadIdeal.Hand

end
-- ==== Proof.HeadValue.lean ====
module

public import proofs.«01_k».proof.Proof.HeadSum
public import proofs.«01_k».proof.Proof.Gen.HeadRefIdeal.Read
public import Idealize.ShloMosaic.Lib.Claim

@[expose] public section

set_option maxRecDepth 16384

noncomputable section

open Idealize.ShloMosaic Idealize.ShloMosaic.TcCoe Idealize.SL.Sem

namespace Cert.HeadIdeal.Hand

open Cert.HeadIdeal Cert.HeadIdeal.Gen
open Cert.HeadRefIdeal.Read
open Cert.HeadRow Cert.RmsGrad

variable (m : (ℓ : Loc nD τ sig) → Buf (Elt Ideal) ℓ)

/-- A vector as one row. -/
def rowW (x : S1024.Idx → EReal) : S1x1024.Idx → EReal := fun j => x (ix1 (j 1))

theorem entry_h (c : Dev nD) : V m c main_arg0 = m ((c : Thread nD τ).loc main_arg0) := by
  entry_read
  rfl

theorem entry_p (c : Dev nD) : V m c main_arg1 = m ((c : Thread nD τ).loc main_arg1) := by
  entry_read
  rfl

theorem entry_t (c : Dev nD) : V m c main_arg2 = m ((c : Thread nD τ).loc main_arg2) := by
  entry_read
  rfl

theorem entry_g3 (c : Dev nD) : V m c main_v0 = rowW (m ((c : Thread nD τ).loc main_arg3)) := by
  refine Eq.trans (b := (shapeCast S1x1024 (show FVec Ideal S1024 .f32 from m ((c : Thread nD τ).loc main_arg3)) shapeCasts_S1024_S1x1024)) ?_ ?_
  · entry_read
    rfl
  · funext j
    pointwise
    first | done | rfl | (unfold rowW; blk_ext)

theorem entry_wg (c : Dev nD) : V m c main_v1 = m ((c : Thread nD τ).loc main_arg4) := by
  entry_read
  rfl

theorem entry_bg (c : Dev nD) : V m c main_v2 = rowW (m ((c : Thread nD τ).loc main_arg5)) := by
  refine Eq.trans (b := (shapeCast S1x1024 (show FVec Ideal S1024 .f32 from m ((c : Thread nD τ).loc main_arg5)) shapeCasts_S1024_S1x1024)) ?_ ?_
  · entry_read
    rfl
  · funext j
    pointwise
    first | done | rfl | (unfold rowW; blk_ext)

theorem entry_wp (c : Dev nD) : V m c main_v3 = m ((c : Thread nD τ).loc main_arg6) := by
  entry_read
  rfl

theorem entry_g4 (c : Dev nD) : V m c main_v4 = rowW (m ((c : Thread nD τ).loc main_arg7)) := by
  refine Eq.trans (b := (shapeCast S1x1024 (show FVec Ideal S1024 .f32 from m ((c : Thread nD τ).loc main_arg7)) shapeCasts_S1024_S1x1024)) ?_ ?_
  · entry_read
    rfl
  · funext j
    pointwise
    first | done | rfl | (unfold rowW; blk_ext)

variable (x0 : S8192x1024.Idx → EReal) (x1 : S8192x256.Idx → EReal) (x2 : S8192x1024.Idx → EReal) (x3 : S1024.Idx → EReal) (x4 : S1024x1024.Idx → EReal)
  (x5 : S1024.Idx → EReal) (x6 : S256x1024.Idx → EReal) (x7 : S1024.Idx → EReal)

/-- The parameters in the reference's arrays. -/
abbrev PR : Par := parA (rowW x3) x4 (rowW x5) x6 (rowW x7)

/-- A sum from the zero literal. -/
theorem zero_sum {x y : EReal} (h : x = y) : Ideal.ofBits FTy.f32 0#32 + x = y := by
  rw [Ideal.ofBits_zero_f32, zero_add, h]

theorem ref_ms (j : Cert.HeadRefIdeal.S8192x1.Idx) : val_main_v6 (F := Ideal) x0 j = ms (rowA x0 (j 0)) + eps := by
  rw [val_main_v6_apply, val_main_v4_apply, val_main_v2_apply, val_main_v1_apply, val_main_v3_apply, val_main_v5_apply]
  refine congrArg (fun (p : EReal) => Ideal.div p width + eps) (zero_sum (Finset.sum_congr rfl fun k _ => ?_))
  rw [val_main_v0_apply]
  refine congrArg (fun i => x0 i * x0 i) ?_
  blk_ext

theorem ref_rs (j : Cert.HeadRefIdeal.S8192x1.Idx) : val_main_v7 (F := Ideal) x0 j = rs (rowA x0 (j 0)) := by
  rw [val_main_v7_apply, ref_ms]
  rfl

theorem ref_xn (i : Fin 8192) (b : Fin 1024) : val_main_v12 (F := Ideal) x0 (ix2 i b) = rowA x0 i b * rs (rowA x0 i) := by
  rw [val_main_v12_apply, val_main_v11_apply, ref_rs]
  rfl

theorem ref_z (i : Fin 8192) (b : Fin 1024) : val_main_v15 (F := Ideal) x0 x3 (ix2 i b) = z (PR x3 x4 x5 x6 x7) (rowA x0 i) b := by
  rw [val_main_v15_apply, ref_xn, val_main_v14_apply, val_main_v13_apply]
  refine congrArg (fun (p : EReal) => rowA x0 i b * rs (rowA x0 i) * p) (congrArg x3 ?_)
  blk_ext

theorem ref_gate (i : Fin 8192) (b : Fin 1024) : val_main_v25 (F := Ideal) x0 x3 x4 x5 (ix2 i b) = gate (PR x3 x4 x5 x6 x7) (rowA x0 i) b := by
  rw [val_main_v25_apply, val_main_v24_apply, val_main_v23_apply, val_main_v22_apply, val_main_v21_apply, val_main_v20_apply, val_main_v19_apply,
    val_main_v16_apply, val_main_v18_apply, val_main_v17_apply]
  refine congrArg (fun (p : EReal) => Ideal.div one (one + Ideal.exp (-p))) (congrArg₂ (fun (p q : EReal) => p + q)
    (Finset.sum_congr rfl fun k _ => congrArg₂ (fun (p q : EReal) => p * q) ((congrArg _ ?_).trans (ref_z x0 x3 x4 x5 x6 x7 i k)) (congrArg x4 ?_)) (congrArg x5 ?_))
  · blk_ext
  · blk_ext
  · blk_ext

theorem ref_pp (i : Fin 8192) (b : Fin 1024) : val_main_v29 (F := Ideal) x1 x6 (ix2 i b) = pp (PR x3 x4 x5 x6 x7) (rowE x1 i) b := by
  rw [val_main_v29_apply]
  refine Finset.sum_congr rfl fun k _ => congrArg₂ (fun (p q : EReal) => p * q) (congrArg x1 ?_) (congrArg x6 ?_)
  · blk_ext
  · blk_ext

theorem ref_h3 (i : Fin 8192) (b : Fin 1024) :
    val_main_v31 (F := Ideal) x0 x1 x3 x4 x5 x6 (ix2 i b) = h3 (PR x3 x4 x5 x6 x7) (rowA x0 i) (rowE x1 i) b := by
  rw [val_main_v31_apply, val_main_v30_apply, ref_gate x0 x3 x4 x5 x6 x7, ref_pp x1 x3 x4 x5 x6 x7]
  rfl

/-- The row the last norm takes, in the reference's arrays. -/
abbrev h3R (i : Fin 8192) : Fin 1024 → EReal := h3 (PR x3 x4 x5 x6 x7) (rowA x0 i) (rowE x1 i)

theorem ref_ms3 (j : Cert.HeadRefIdeal.S8192x1.Idx) : val_main_v38 (F := Ideal) x0 x1 x3 x4 x5 x6 j = ms (h3R x0 x1 x3 x4 x5 x6 x7 (j 0)) + eps := by
  rw [val_main_v38_apply, val_main_v36_apply, val_main_v34_apply, val_main_v33_apply, val_main_v35_apply, val_main_v37_apply]
  refine congrArg (fun (p : EReal) => Ideal.div p width + eps) (zero_sum (Finset.sum_congr rfl fun k _ => ?_))
  rw [val_main_v32_apply]
  refine congrArg (fun (p : EReal) => p * p) ((congrArg _ ?_).trans (ref_h3 x0 x1 x3 x4 x5 x6 x7 (j 0) k))
  blk_ext

theorem ref_rs3 (j : Cert.HeadRefIdeal.S8192x1.Idx) : val_main_v39 (F := Ideal) x0 x1 x3 x4 x5 x6 j = rs (h3R x0 x1 x3 x4 x5 x6 x7 (j 0)) := by
  rw [val_main_v39_apply, ref_ms3 x0 x1 x3 x4 x5 x6 x7]
  rfl

theorem ref_x3 (i : Fin 8192) (b : Fin 1024) :
    val_main_v44 (F := Ideal) x0 x1 x3 x4 x5 x6 (ix2 i b) = h3R x0 x1 x3 x4 x5 x6 x7 i b * rs (h3R x0 x1 x3 x4 x5 x6 x7 i) := by
  rw [val_main_v44_apply, ref_h3 x0 x1 x3 x4 x5 x6 x7, val_main_v43_apply, ref_rs3 x0 x1 x3 x4 x5 x6 x7]
  rfl

theorem ref_diff (i : Fin 8192) (b : Fin 1024) :
    val_main_v48 (F := Ideal) x0 x1 x2 x3 x4 x5 x6 x7 (ix2 i b) = diff (PR x3 x4 x5 x6 x7) (rowA x0 i) (rowE x1 i) (rowA x2 i) b := by
  rw [val_main_v48_apply, val_main_v47_apply, ref_x3 x0 x1 x3 x4 x5 x6 x7, val_main_v46_apply, val_main_v45_apply]
  refine congrArg (fun (p : EReal) => h3R x0 x1 x3 x4 x5 x6 x7 i b * rs (h3R x0 x1 x3 x4 x5 x6 x7 i) * p - x2 (ix2 i b)) (congrArg x7 ?_)
  blk_ext

theorem ref_err (i : Fin 8192) :
    val_main_v54 (F := Ideal) x0 x1 x2 x3 x4 x5 x6 x7 (ix1 i) = err (PR x3 x4 x5 x6 x7) (rowA x0 i) (rowE x1 i) (rowA x2 i) := by
  rw [val_main_v54_apply, val_main_v52_apply, val_main_v53_apply]
  refine congrArg (fun (p : EReal) => Ideal.div p width) (zero_sum (Finset.sum_congr rfl fun k _ => ?_))
  rw [val_main_v49_apply]
  refine congrArg (fun (p : EReal) => p * p) ((congrArg _ ?_).trans (ref_diff x0 x1 x2 x3 x4 x5 x6 x7 i k))
  blk_ext

theorem ref_dy (i : Fin 8192) (b : Fin 1024) :
    val_main_v62 (F := Ideal) x0 x1 x2 x3 x4 x5 x6 x7 (ix2 i b) = dy (PR x3 x4 x5 x6 x7) (rowA x0 i) (rowE x1 i) (rowA x2 i) b := by
  rw [val_main_v62_apply, val_main_v61_apply, val_main_v60_apply, val_main_v58_apply, val_main_v57_apply, val_main_v59_apply, val_main_v51_apply,
    val_main_v50_apply, ref_diff]
  exact dy_ref _

/-- The gradient at the last normed row, times the gain. -/
theorem ref_z4 (i : Fin 8192) (b : Fin 1024) :
    val_main_v67 (F := Ideal) x0 x1 x2 x3 x4 x5 x6 x7 (ix2 i b)
      = dy (PR x3 x4 x5 x6 x7) (rowA x0 i) (rowE x1 i) (rowA x2 i) b * (PR x3 x4 x5 x6 x7).g4 b := by
  rw [val_main_v67_apply, ref_dy, val_main_v66_apply, val_main_v45_apply]
  refine congrArg (fun (p : EReal) => dy (PR x3 x4 x5 x6 x7) (rowA x0 i) (rowE x1 i) (rowA x2 i) b * p) (congrArg x7 ?_)
  blk_ext

theorem ref_mean4 (i : Fin 8192) (j : Cert.HeadRefIdeal.S8192x1024.Idx) (h : (j 0).val = i.val) :
    val_main_v78 (F := Ideal) x0 x1 x2 x3 x4 x5 x6 x7 j
      = Ideal.div ((∑ k, h3R x0 x1 x3 x4 x5 x6 x7 i k * (dy (PR x3 x4 x5 x6 x7) (rowA x0 i) (rowE x1 i) (rowA x2 i) k * (PR x3 x4 x5 x6 x7).g4 k))
          * (mhalf * Ideal.div (rs (h3R x0 x1 x3 x4 x5 x6 x7 i)) (ms (h3R x0 x1 x3 x4 x5 x6 x7 i) + eps))) width := by
  obtain rfl : j 0 = i := Fin.ext h
  rw [val_main_v78_apply, val_main_v77_apply]
  refine zero_sum ?_
  rw [Fin.sum_univ_one, val_main_v76_apply, val_main_v74_apply, val_main_v71_apply, val_main_v70_apply, val_main_v75_apply, val_main_v42_apply,
    val_main_v41_apply, val_main_v40_apply, ref_ms3 x0 x1 x3 x4 x5 x6 x7, ref_rs3 x0 x1 x3 x4 x5 x6 x7]
  refine congrArg (fun (p : EReal) => Ideal.div (p * _) width) (zero_sum (Finset.sum_congr rfl fun k _ => ?_))
  rw [val_main_v69_apply]
  refine congrArg₂ (fun (p q : EReal) => p * q) ((congrArg _ ?_).trans (ref_h3 x0 x1 x3 x4 x5 x6 x7 (j 0) k)) ((congrArg _ ?_).trans (ref_z4 x0 x1 x2 x3 x4 x5 x6 x7 (j 0) k))
  · blk_ext
  · blk_ext

theorem ref_dh3 (i : Fin 8192) (b : Fin 1024) :
    val_main_v82 (F := Ideal) x0 x1 x2 x3 x4 x5 x6 x7 (ix2 i b) = dh3 (PR x3 x4 x5 x6 x7) (rowA x0 i) (rowE x1 i) (rowA x2 i) b := by
  rw [val_main_v82_apply, val_main_v80_apply, val_main_v81_apply, val_main_v79_apply, val_main_v73_apply, val_main_v72_apply,
    ref_mean4 x0 x1 x2 x3 x4 x5 x6 x7 i _ rfl, ref_z4, ref_rs3 x0 x1 x3 x4 x5 x6 x7, ref_h3 x0 x1 x3 x4 x5 x6 x7]
  have h := grad (h3R x0 x1 x3 x4 x5 x6 x7 i) (fun k => dy (PR x3 x4 x5 x6 x7) (rowA x0 i) (rowE x1 i) (rowA x2 i) k * (PR x3 x4 x5 x6 x7).g4 k) 0 b
  rw [zero_add, zero_add] at h
  exact h.symm

theorem ref_dpp (i : Fin 8192) (b : Fin 1024) :
    val_main_v83 (F := Ideal) x0 x1 x2 x3 x4 x5 x6 x7 (ix2 i b) = dpp (PR x3 x4 x5 x6 x7) (rowA x0 i) (rowE x1 i) (rowA x2 i) b := by
  rw [val_main_v83_apply, ref_dh3, ref_gate x0 x3 x4 x5 x6 x7]
  exact mul_comm _ _

theorem ref_dpre (i : Fin 8192) (b : Fin 1024) :
    val_main_v87 (F := Ideal) x0 x1 x2 x3 x4 x5 x6 x7 (ix2 i b) = dpre (PR x3 x4 x5 x6 x7) (rowA x0 i) (rowE x1 i) (rowA x2 i) b := by
  rw [val_main_v87_apply, val_main_v84_apply, val_main_v28_apply, val_main_v27_apply, val_main_v26_apply, ref_dh3, ref_gate x0 x3 x4 x5 x6 x7, ref_pp x1 x3 x4 x5 x6 x7]
  exact (mul_assoc _ _ _).symm

theorem ref_dz (i : Fin 8192) (b : Fin 1024) :
    val_main_v93 (F := Ideal) x0 x1 x2 x3 x4 x5 x6 x7 (ix2 i b) = dz (PR x3 x4 x5 x6 x7) (rowA x0 i) (rowE x1 i) (rowA x2 i) b := by
  rw [val_main_v93_apply]
  refine Finset.sum_congr rfl fun k _ => congrArg₂ (fun (p q : EReal) => p * q) ((congrArg _ ?_).trans (ref_dpre x0 x1 x2 x3 x4 x5 x6 x7 i k)) (congrArg x4 ?_)
  · blk_ext
  · blk_ext

/-- The gradient at the first normed row, times the gain. -/
theorem ref_z3 (i : Fin 8192) (b : Fin 1024) :
    val_main_v98 (F := Ideal) x0 x1 x2 x3 x4 x5 x6 x7 (ix2 i b)
      = dz (PR x3 x4 x5 x6 x7) (rowA x0 i) (rowE x1 i) (rowA x2 i) b * (PR x3 x4 x5 x6 x7).g3 b := by
  rw [val_main_v98_apply, ref_dz, val_main_v97_apply, val_main_v13_apply]
  refine congrArg (fun (p : EReal) => dz (PR x3 x4 x5 x6 x7) (rowA x0 i) (rowE x1 i) (rowA x2 i) b * p) (congrArg x3 ?_)
  blk_ext

theorem ref_mean3 (i : Fin 8192) (j : Cert.HeadRefIdeal.S8192x1024.Idx) (h : (j 0).val = i.val) :
    val_main_v110 (F := Ideal) x0 x1 x2 x3 x4 x5 x6 x7 j
      = Ideal.div ((∑ k, rowA x0 i k * (dz (PR x3 x4 x5 x6 x7) (rowA x0 i) (rowE x1 i) (rowA x2 i) k * (PR x3 x4 x5 x6 x7).g3 k))
          * (mhalf * Ideal.div (rs (rowA x0 i)) (ms (rowA x0 i) + eps))) width := by
  obtain rfl : j 0 = i := Fin.ext h
  rw [val_main_v110_apply, val_main_v109_apply]
  refine zero_sum ?_
  rw [Fin.sum_univ_one, val_main_v108_apply, val_main_v106_apply, val_main_v102_apply, val_main_v101_apply, val_main_v107_apply, val_main_v10_apply,
    val_main_v9_apply, val_main_v8_apply, ref_ms, ref_rs]
  refine congrArg (fun (p : EReal) => Ideal.div (p * _) width) (zero_sum (Finset.sum_congr rfl fun k _ => ?_))
  rw [val_main_v100_apply]
  refine congrArg₂ (fun (p q : EReal) => p * q) (congrArg x0 ?_) ((congrArg _ ?_).trans (ref_z3 x0 x1 x2 x3 x4 x5 x6 x7 (j 0) k))
  · blk_ext
  · blk_ext

theorem ref_dh2_at (i : Fin 8192) (b : Fin 1024) :
    val_main_v114 (F := Ideal) x0 x1 x2 x3 x4 x5 x6 x7 (ix2 i b) = dh2 (PR x3 x4 x5 x6 x7) (rowA x0 i) (rowE x1 i) (rowA x2 i) b := by
  rw [val_main_v114_apply, val_main_v112_apply, val_main_v105_apply, val_main_v113_apply, val_main_v111_apply, val_main_v104_apply, val_main_v103_apply,
    ref_mean3 x0 x1 x2 x3 x4 x5 x6 x7 i _ rfl, ref_z3, ref_rs, ref_dh3]
  exact (grad (rowA x0 i) (fun k => dz (PR x3 x4 x5 x6 x7) (rowA x0 i) (rowE x1 i) (rowA x2 i) k * (PR x3 x4 x5 x6 x7).g3 k)
    (dh3 (PR x3 x4 x5 x6 x7) (rowA x0 i) (rowE x1 i) (rowA x2 i) b) b).symm

/-- The reference's gradient at the rows is the kernel's. -/
theorem ref_dh2 : val_main_v114 (F := Ideal) x0 x1 x2 x3 x4 x5 x6 x7 = oA (PR x3 x4 x5 x6 x7) x0 x1 x2 := by
  funext j
  have hj : j = ix2 (j 0) (j 1) := by blk_ext
  exact (congrArg _ hj).trans (ref_dh2_at x0 x1 x2 x3 x4 x5 x6 x7 (j 0) (j 1))

theorem ref_dh2_bf16 : val_main_v123 (F := Ideal) x0 x1 x2 x3 x4 x5 x6 x7 = oA (PR x3 x4 x5 x6 x7) x0 x1 x2 := by
  funext j
  rw [val_main_v123_apply, Ideal.truncf_def, ref_dh2]

/-- The reference's gradient of the gate's weights is the kernel's. -/
theorem ref_wg : val_main_v124 (F := Ideal) x0 x1 x2 x3 x4 x5 x6 x7 = wgA (PR x3 x4 x5 x6 x7) x0 x1 x2 := by
  funext j
  rw [val_main_v124_apply, Ideal.truncf_def, val_main_v92_apply, val_main_v91_apply]
  refine Finset.sum_congr rfl fun l _ => (mul_comm _ _).trans (congrArg₂ (fun (p q : EReal) => p * q)
    ((congrArg _ ?_).trans (ref_z x0 x3 x4 x5 x6 x7 l (j 0))) ((congrArg _ ?_).trans (ref_dpre x0 x1 x2 x3 x4 x5 x6 x7 l (j 1))))
  · blk_ext
  · blk_ext

/-- The reference's gradient of the projection's weights, by blocks of columns, is the kernel's. -/
theorem ref_wp : val_main_v125 (F := Ideal) x0 x1 x2 x3 x4 x5 x6 x7 = wpA (PR x3 x4 x5 x6 x7) x0 x1 x2 := by
  funext j
  rw [val_main_v125_apply, Ideal.truncf_def, val_main_v116_apply, val_main_v115_apply, val_main_v86_apply, val_main_v85_apply]
  refine Finset.sum_congr rfl fun l _ => (mul_comm _ _).trans (congrArg₂ (fun (p q : EReal) => p * q)
    (congrArg x1 ?_) ((congrArg _ ?_).trans (ref_dpp x0 x1 x2 x3 x4 x5 x6 x7 l (pcol (j 0) (j 2)))))
  · blk_ext [pcol]
  · blk_ext [pcol]

theorem ref_g3 (b : Fin 1024) : val_main_v99 (F := Ideal) x0 x1 x2 x3 x4 x5 x6 x7 (ix1 b)
    = ∑ l : Fin 8192, g3T (PR x3 x4 x5 x6 x7) (rowA x0 l) (rowE x1 l) (rowA x2 l) b := by
  rw [val_main_v99_apply]
  refine zero_sum ?_
  rw [Fin.sum_univ_one, val_main_v96_apply, val_main_v95_apply]
  refine zero_sum (Finset.sum_congr rfl fun l _ => ?_)
  rw [val_main_v94_apply]
  refine (mul_comm _ _).trans (congrArg₂ (fun (p q : EReal) => p * q) ((congrArg _ ?_).trans (ref_dz x0 x1 x2 x3 x4 x5 x6 x7 l b)) ((congrArg _ ?_).trans (ref_xn x0 l b)))
  · blk_ext
  · blk_ext

theorem ref_g4 (b : Fin 1024) : val_main_v68 (F := Ideal) x0 x1 x2 x3 x4 x5 x6 x7 (ix1 b)
    = ∑ l : Fin 8192, g4T (PR x3 x4 x5 x6 x7) (rowA x0 l) (rowE x1 l) (rowA x2 l) b := by
  rw [val_main_v68_apply]
  refine zero_sum ?_
  rw [Fin.sum_univ_one, val_main_v65_apply, val_main_v64_apply]
  refine zero_sum (Finset.sum_congr rfl fun l _ => ?_)
  rw [val_main_v63_apply]
  refine (mul_comm _ _).trans (congrArg₂ (fun (p q : EReal) => p * q) ((congrArg _ ?_).trans (ref_dy x0 x1 x2 x3 x4 x5 x6 x7 l b)) ((congrArg _ ?_).trans (ref_x3 x0 x1 x3 x4 x5 x6 x7 l b)))
  · blk_ext
  · blk_ext

theorem ref_db (b : Fin 1024) : val_main_v90 (F := Ideal) x0 x1 x2 x3 x4 x5 x6 x7 (ix1 b)
    = ∑ l : Fin 8192, dpre (PR x3 x4 x5 x6 x7) (rowA x0 l) (rowE x1 l) (rowA x2 l) b := by
  rw [val_main_v90_apply]
  refine zero_sum ?_
  rw [Fin.sum_univ_one, val_main_v89_apply, val_main_v88_apply]
  refine zero_sum (Finset.sum_congr rfl fun l _ => (congrArg _ ?_).trans (ref_dpre x0 x1 x2 x3 x4 x5 x6 x7 l b))
  blk_ext

/-- The indices of a vector are the numbers under its length. -/
def idxEquiv : Fin 8192 ≃ Cert.HeadRefIdeal.S8192.Idx := ⟨fun i => ix1 i, fun j => j 0, fun i => rfl, fun j => by blk_ext⟩

theorem ref_loss (j : Cert.HeadRefIdeal.S_.Idx) : val_main_v56 (F := Ideal) x0 x1 x2 x3 x4 x5 x6 x7 j
    = ∑ l : Fin 8192, half * err (PR x3 x4 x5 x6 x7) (rowA x0 l) (rowE x1 l) (rowA x2 l) := by
  rw [val_main_v56_apply, val_main_v55_apply, ← half_sum]
  exact congrArg (fun (p : EReal) => half * p) (zero_sum (Fintype.sum_equiv idxEquiv _ _ fun l => (ref_err x0 x1 x2 x3 x4 x5 x6 x7 l).symm).symm)

/-- The reference's rows of small results are the kernel's. -/
theorem ref_vec : val_main_v122 (F := Ideal) x0 x1 x2 x3 x4 x5 x6 x7 = vecA (PR x3 x4 x5 x6 x7) x0 x1 x2 := by
  funext j
  unfold val_main_v122
  pointwise
  unfold vecA vecT
  by_cases h0 : (j 0).val = 0
  · rw [dif_pos (by omega), val_main_v117_apply]
    simp only [if_pos h0]
    exact (congrArg _ (by blk_ext)).trans (ref_g3 x0 x1 x2 x3 x4 x5 x6 x7 (j 1))
  rw [dif_neg (by omega)]
  simp only [if_neg h0]
  by_cases h1 : (j 0).val = 1
  · rw [dif_pos (by omega), val_main_v118_apply]
    simp only [if_pos h1]
    exact (congrArg _ (by blk_ext)).trans (ref_g4 x0 x1 x2 x3 x4 x5 x6 x7 (j 1))
  rw [dif_neg (by omega)]
  simp only [if_neg h1]
  by_cases h2 : (j 0).val = 2
  · rw [dif_pos (by omega), val_main_v119_apply]
    simp only [if_pos h2]
    exact (congrArg _ (by blk_ext)).trans (ref_db x0 x1 x2 x3 x4 x5 x6 x7 (j 1))
  rw [dif_neg (by omega)]
  simp only [if_neg h2]
  by_cases h3 : (j 0).val = 3
  · rw [dif_pos (by omega), val_main_v120_apply]
    simp only [if_pos h3]
    exact ref_loss x0 x1 x2 x3 x4 x5 x6 x7 _
  rw [dif_neg (by omega), val_main_v121_apply]
  simp only [if_neg h3]
  exact Ideal.ofBits_zero_f32.trans Finset.sum_const_zero.symm

end Cert.HeadIdeal.Hand

end
-- ==== Proof.HeadClaim.lean ====
module

public import proofs.«01_k».proof.Defs
public import proofs.«01_k».proof.Proof.HeadValue
public import proofs.«01_k».proof.Proof.Gen.HeadRefIdeal.Run
public import Idealize.ShloMosaic.Lib.Quiescent

@[expose] public section

set_option maxRecDepth 16384

noncomputable section

namespace Cert.HeadIdeal.Hand

open Idealize.ShloMosaic Idealize.ShloMosaic.TcCoe Idealize.SL.Sem

open Cert.HeadRefIdeal.Read

/-- The kernel of the loss head and the reference compute the same five arrays. -/
theorem algebraic : Cert.algebraic_HeadIdeal_HeadRefIdeal := by
  intro m g m' g' _ hagree
  refine ⟨fun c => Cert.HeadIdeal.Value.G8 m c, fun c => Cert.HeadIdeal.Value.G9 m c, fun c => Cert.HeadIdeal.Value.G10 m c,
    fun c => Cert.HeadIdeal.Value.G11 m c, fun c => Cert.HeadIdeal.Value.G12 m c, Cert.HeadIdeal.Value.run m g,
    (θ_run Cert.HeadRefIdeal.defs _ _).mono (fun r h c => ⟨(h c).1.trans ?_, (h c).2.1.trans ?_, (h c).2.2.1.trans ?_, (h c).2.2.2.1.trans ?_,
      (h c).2.2.2.2.1.trans ?_, (h c).2.2.2.2.2⟩) (Cert.HeadRefIdeal.Value.run m' g')⟩
  · obtain ⟨a0, a1, a2, a3, a4, a5, a6, a7⟩ := hagree c
    refine (val_main_v114_eq _).trans ?_
    show _ = Cert.HeadIdeal.Value.G8 m c
    rw [← Cert.HeadIdeal.Value.final8 m c, arr8, parV, entry_h, entry_p, entry_t, entry_g3, entry_wg, entry_bg, entry_wp, entry_g4]
    refine (ref_dh2 _ _ _ _ _ _ _ _).trans ?_
    show _ = oA _ _ _ _
    rw [← a0, ← a1, ← a2, ← a3, ← a4, ← a5, ← a6, ← a7]
  · obtain ⟨a0, a1, a2, a3, a4, a5, a6, a7⟩ := hagree c
    refine (val_main_v123_eq _).trans ?_
    show _ = Cert.HeadIdeal.Value.G9 m c
    rw [← Cert.HeadIdeal.Value.final9 m c, arr9, parV, entry_h, entry_p, entry_t, entry_g3, entry_wg, entry_bg, entry_wp, entry_g4]
    refine (ref_dh2_bf16 _ _ _ _ _ _ _ _).trans ?_
    show _ = oA _ _ _ _
    rw [← a0, ← a1, ← a2, ← a3, ← a4, ← a5, ← a6, ← a7]
  · obtain ⟨a0, a1, a2, a3, a4, a5, a6, a7⟩ := hagree c
    refine (val_main_v124_eq _).trans ?_
    show _ = Cert.HeadIdeal.Value.G10 m c
    rw [← Cert.HeadIdeal.Value.final10 m c, arr10, parV, entry_h, entry_p, entry_t, entry_g3, entry_wg, entry_bg, entry_wp, entry_g4]
    refine (ref_wg _ _ _ _ _ _ _ _).trans ?_
    show _ = wgA _ _ _ _
    rw [← a0, ← a1, ← a2, ← a3, ← a4, ← a5, ← a6, ← a7]
  · obtain ⟨a0, a1, a2, a3, a4, a5, a6, a7⟩ := hagree c
    refine (val_main_v125_eq _).trans ?_
    show _ = Cert.HeadIdeal.Value.G11 m c
    rw [← Cert.HeadIdeal.Value.final11 m c, arr11, parV, entry_h, entry_p, entry_t, entry_g3, entry_wg, entry_bg, entry_wp, entry_g4]
    refine (ref_wp _ _ _ _ _ _ _ _).trans ?_
    show _ = wpA _ _ _ _
    rw [← a0, ← a1, ← a2, ← a3, ← a4, ← a5, ← a6, ← a7]
  · obtain ⟨a0, a1, a2, a3, a4, a5, a6, a7⟩ := hagree c
    refine (val_main_v122_eq _).trans ?_
    show _ = Cert.HeadIdeal.Value.G12 m c
    rw [← Cert.HeadIdeal.Value.final12 m c, arr12, parV, entry_h, entry_p, entry_t, entry_g3, entry_wg, entry_bg, entry_wp, entry_g4]
    refine (ref_vec _ _ _ _ _ _ _ _).trans ?_
    show _ = vecA _ _ _ _
    rw [← a0, ← a1, ← a2, ← a3, ← a4, ← a5, ← a6, ← a7]

/-- The reference terminates, leaves its arguments as they were, and declares no semaphore. -/
theorem frameRef : Cert.quiescent_HeadRefIdeal := fun m g _ =>
  (θ_run Cert.HeadRefIdeal.defs _ _).mono (fun r h => ⟨fun c => (h c).2.2.2.2.2, sem_eq_zero_of_no_sems (by decide) r.2⟩)
    (Cert.HeadRefIdeal.Value.run m g)

end Cert.HeadIdeal.Hand

end
-- ==== Proof.AdamRow.lean ====
module

public import Idealize.ShloMosaic.Lib.ValueIdx
public import Idealize.ShloMosaic.Lib.IdealHost

@[expose] public section

noncomputable section

open Idealize.ShloMosaic

namespace Cert.AdamRow

/-- The bias corrections that the reference divides by, by their words, and the reals they are. -/
theorem d1_eq : Ideal.ofBits FTy.f32 0x3F26BD02#32 = ((5463681 / 8388608 : ℝ) : EReal) := by
  simp [Ideal.ofBits, Ideal.ieee, -EReal.coe_mul]
  norm_num [zpow_neg]

theorem d2_eq : Ideal.ofBits FTy.f32 0x3C231ACC#32 = ((2672307 / 268435456 : ℝ) : EReal) := by
  simp [Ideal.ofBits, Ideal.ieee, -EReal.coe_mul]
  norm_num [zpow_neg]

/-- Dividing by a bias correction is multiplying by its reciprocal. -/
theorem div_d1 (x : EReal) : Ideal.div x (Ideal.ofBits FTy.f32 0x3F26BD02#32) = x * (((5463681 / 8388608)⁻¹ : ℝ) : EReal) := by
  rw [d1_eq, Ideal.div_coe (by norm_num), one_div]

theorem div_d2 (x : EReal) : Ideal.div x (Ideal.ofBits FTy.f32 0x3C231ACC#32) = x * (((2672307 / 268435456)⁻¹ : ℝ) : EReal) := by
  rw [d2_eq, Ideal.div_coe (by norm_num), one_div]

end Cert.AdamRow

end
-- ==== Proof.AdamClaim.lean ====
module

public import proofs.«01_k».proof.Defs
public import proofs.«01_k».proof.Proof.AdamRow
public import proofs.«01_k».proof.Proof.Gen.AdamIdeal.Value
public import proofs.«01_k».proof.Proof.Gen.AdamRefIdeal.Run
public import proofs.«01_k».proof.Proof.Gen.AdamRefIdeal.Read
public import Idealize.ShloMosaic.Lib.Quiescent
public import Idealize.ShloMosaic.Lib.Claim

@[expose] public section

set_option maxRecDepth 16384

noncomputable section

namespace Cert.AdamIdeal.Hand

open Idealize.ShloMosaic Idealize.ShloMosaic.TcCoe Idealize.SL.Sem

open Cert.AdamIdeal Cert.AdamIdeal.Gen
open Cert.AdamRefIdeal.Read

/-- The two named constants are the reciprocals of the bias corrections. -/
theorem c1_eq : Named.named (F := Ideal) Cert.AdamIdeal.κ "c1" (φ := .f32) 0x3FC48605#32 = (((5463681 / 8388608)⁻¹ : ℝ) : EReal) :=
  IdealRules.named_const.ideal_named_scalar _ _ _ _ rfl

theorem c2_eq : Named.named (F := Ideal) Cert.AdamIdeal.κ "c2" (φ := .f32) 0x42C8E6D3#32 = (((2672307 / 268435456)⁻¹ : ℝ) : EReal) :=
  IdealRules.named_const.ideal_named_scalar _ _ _ _ rfl

theorem preserves : Cert.preserves_Adam_AdamIdeal :=
  ⟨IdealRules.named_const.statement Cert.AdamIdeal.κ "c1" .f32 0x3FC48605#32 (((5463681 / 8388608)⁻¹ : ℝ) : EReal) rfl,
    IdealRules.named_const.statement Cert.AdamIdeal.κ "c2" .f32 0x42C8E6D3#32 (((2672307 / 268435456)⁻¹ : ℝ) : EReal) rfl⟩

variable (x0 x1 x2 x3 : S1120x128.Idx → EReal)

/-- The first moment. -/
theorem ref_m : val_main_v4 (F := Ideal) x1 x2 = k0_pay1 (F := Ideal) x1 x2 := by
  funext i
  rw [val_main_v4_apply, val_main_v1_apply, val_main_v3_apply, val_main_v0_apply, val_main_v2_apply]
  rfl

/-- The second moment. -/
theorem ref_v : val_main_v10 (F := Ideal) x1 x3 = k0_pay2 (F := Ideal) x1 x3 := by
  funext i
  rw [val_main_v10_apply, val_main_v6_apply, val_main_v9_apply, val_main_v7_apply, val_main_v5_apply, val_main_v8_apply]
  rfl

/-- The step: the moments divided by the bias corrections are the moments times the named reciprocals. -/
theorem ref_d : val_main_v23 (F := Ideal) x0 x1 x2 x3 = k0_pay3 (F := Ideal) x1 x0 x2 x3 := by
  funext i
  rw [val_main_v23_apply, val_main_v21_apply, val_main_v20_apply, val_main_v18_apply, val_main_v17_apply, val_main_v15_apply, val_main_v14_apply,
    val_main_v12_apply, ref_m, ref_v, val_main_v11_apply, val_main_v13_apply, val_main_v16_apply, val_main_v19_apply, val_main_v22_apply]
  unfold k0_pay3
  rw [c1_eq, c2_eq]
  have e1 : FloatOps.hostDivf (F := Ideal) (φ := .f32) (k0_pay1 (F := Ideal) x1 x2 i) (val_main_cst_3 (F := Ideal) (idx_main_v11 i)) =
      k0_pay1 (F := Ideal) x1 x2 i * (((5463681 / 8388608)⁻¹ : ℝ) : EReal) := AdamRow.div_d1 _
  have e2 : FloatOps.hostDivf (F := Ideal) (φ := .f32) (k0_pay2 (F := Ideal) x1 x3 i) (val_main_cst_4 (F := Ideal) (idx_main_v13 i)) =
      k0_pay2 (F := Ideal) x1 x3 i * (((2672307 / 268435456)⁻¹ : ℝ) : EReal) := AdamRow.div_d2 _
  rw [e1, e2]
  rfl

/-- The kernel of the optimiser and the reference compute the same four arrays. -/
theorem algebraic : Cert.algebraic_AdamIdeal_AdamRefIdeal := by
  intro m g m' g' _ hagree
  refine ⟨_, _, _, _, Cert.AdamIdeal.Value.run (F := Ideal) m g,
    (θ_run Cert.AdamRefIdeal.defs _ _).mono (fun r h c => ⟨(h c).1.trans ?_, (h c).2.1.trans ?_, (h c).2.2.1.trans ?_, (h c).2.2.2.1.trans ?_,
      (h c).2.2.2.2⟩) (Cert.AdamRefIdeal.Value.run m' g')⟩
  · obtain ⟨a0, a1, a2, a3⟩ := hagree c
    rw [a0, a1, a2, a3]
    exact (val_main_v23_eq _ _ _ _).trans (ref_d _ _ _ _)
  · obtain ⟨a0, a1, a2, a3⟩ := hagree c
    rw [a1, a2]
    exact (val_main_v4_eq _ _).trans (ref_m _ _)
  · obtain ⟨a0, a1, a2, a3⟩ := hagree c
    rw [a1, a3]
    exact (val_main_v10_eq _ _).trans (ref_v _ _)
  · obtain ⟨a0, a1, a2, a3⟩ := hagree c
    exact a1

/-- The reference terminates, leaves its arguments as they were, and declares no semaphore. -/
theorem frameRef : Cert.quiescent_AdamRefIdeal := fun m g _ =>
  (θ_run Cert.AdamRefIdeal.defs _ _).mono (fun r h => ⟨fun c => (h c).2.2.2.2, sem_eq_zero_of_no_sems (by decide) r.2⟩)
    (Cert.AdamRefIdeal.Value.run m g)

end Cert.AdamIdeal.Hand

end
-- ==== Proof.BigIdealBody.lean ====
module

public import proofs.«01_k».proof.Proof.Gen.BigIdeal.Launch
public import proofs.«01_k».proof.Proof.Gen.BigIdeal.Skeleton
public import proofs.«01_k».proof.Proof.Gen.BigIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.BigIdeal.Hand

open Cert.BigIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The launch's set-up for the optimiser's call on the six large weights: each input window's block, what the body leaves in
each window's buffer, the body's triple, and the pipeline's proof data. -/

variable {F : FTy → Type} [FloatOps F] [Named F]

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl
theorem V_main_arg21 (c : Dev nD) : V m c main_arg21 = m ((c : Thread nD τ).loc main_arg21) := rfl
theorem V_main_arg22 (c : Dev nD) : V m c main_arg22 = m ((c : Thread nD τ).loc main_arg22) := rfl
theorem V_main_arg23 (c : Dev nD) : V m c main_arg23 = m ((c : Thread nD τ).loc main_arg23) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2880000 in
/-- The frame from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_BigIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c))),
      ((h c).1 20).trans (((dats 0 c).arrAt_in 20 rfl _).trans ((hA c 20).trans (V_main_arg20 m c))),
      ((h c).1 21).trans (((dats 0 c).arrAt_in 21 rfl _).trans ((hA c 21).trans (V_main_arg21 m c))),
      ((h c).1 22).trans (((dats 0 c).arrAt_in 22 rfl _).trans ((hA c 22).trans (V_main_arg22 m c))),
      ((h c).1 23).trans (((dats 0 c).arrAt_in 23 rfl _).trans ((hA c 23).trans (V_main_arg23 m c)))⟩) h

/-! ## The body's accesses -/

abbrev r0_0 : Rect S128x384 := Rect.unit (s := S128x384) ![0, 0] S128x384.size inb_S128x384_S128x384_0_0
abbrev r0_1 : Rect S32x1024 := Rect.unit (s := S32x1024) ![0, 0] S32x1024.size inb_S32x1024_S32x1024_0_0
abbrev r0_2 : Rect S128x1024 := Rect.unit (s := S128x1024) ![0, 0] S128x1024.size inb_S128x1024_S128x1024_0_0
abbrev r0_3 : Rect S32x256 := Rect.unit (s := S32x256) ![0, 0] S32x256.size inb_S32x256_S32x256_0_0

/-! ## What the body leaves in each output window's buffer -/

/-- Window 24's staging buffer after the body, from the input windows' blocks: its 1 store as pieces, last
    first (Lib/Pipeline/FrameBody.lean `View.canon`; the payloads are the skeleton's). -/
def out0_24 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x384 .f32 :=
  View.canon [⟨r0_0, k0_pay3 (View.ld x6 r0_0) (View.ld x0 r0_0) (View.ld x12 r0_0) (View.ld x18 r0_0)⟩]

/-- Its stores tile the buffer (checked by evaluation), so they cover it. -/
theorem cover0_24 (p0 : Vec F S128x384 .f32) (y : S128x384.Idx) :
    ∃ pc ∈ ([⟨r0_0, p0⟩] : List (View.Piece (Elt F) S128x384 .f32)), y ∈ pc.1.set :=
  View.cover_of_tiled [⟨r0_0, p0⟩] S128x384.size (by rfl) y

/-- Window 25's staging buffer after the body, from the input windows' blocks: its 1 store as pieces, last
    first (Lib/Pipeline/FrameBody.lean `View.canon`; the payloads are the skeleton's). -/
def out0_25 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x1024 .f32 :=
  View.canon [⟨r0_1, k0_pay6 (View.ld x7 r0_1) (View.ld x1 r0_1) (View.ld x13 r0_1) (View.ld x19 r0_1)⟩]

/-- Its stores tile the buffer (checked by evaluation), so they cover it. -/
theorem cover0_25 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Window 26's staging buffer after the body, from the input windows' blocks: its 1 store as pieces, last
    first (Lib/Pipeline/FrameBody.lean `View.canon`; the payloads are the skeleton's). -/
def out0_26 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x1024 .f32 :=
  View.canon [⟨r0_2, k0_pay9 (View.ld x8 r0_2) (View.ld x2 r0_2) (View.ld x14 r0_2) (View.ld x20 r0_2)⟩]

/-- Its stores tile the buffer (checked by evaluation), so they cover it. -/
theorem cover0_26 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-- Window 27's staging buffer after the body, from the input windows' blocks: its 1 store as pieces, last
    first (Lib/Pipeline/FrameBody.lean `View.canon`; the payloads are the skeleton's). -/
def out0_27 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x1024 .f32 :=
  View.canon [⟨r0_2, k0_pay12 (View.ld x9 r0_2) (View.ld x3 r0_2) (View.ld x15 r0_2) (View.ld x21 r0_2)⟩]

/-- Its stores tile the buffer (checked by evaluation), so they cover it. -/
theorem cover0_27 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-- Window 28's staging buffer after the body, from the input windows' blocks: its 1 store as pieces, last
    first (Lib/Pipeline/FrameBody.lean `View.canon`; the payloads are the skeleton's). -/
def out0_28 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x1024 .f32 :=
  View.canon [⟨r0_1, k0_pay15 (View.ld x10 r0_1) (View.ld x4 r0_1) (View.ld x16 r0_1) (View.ld x22 r0_1)⟩]

/-- Its stores tile the buffer (checked by evaluation), so they cover it. -/
theorem cover0_28 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Window 29's staging buffer after the body, from the input windows' blocks: its 1 store as pieces, last
    first (Lib/Pipeline/FrameBody.lean `View.canon`; the payloads are the skeleton's). -/
def out0_29 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x256 .f32 :=
  View.canon [⟨r0_3, k0_pay18 (View.ld x11 r0_3) (View.ld x5 r0_3) (View.ld x17 r0_3) (View.ld x23 r0_3)⟩]

/-- Its stores tile the buffer (checked by evaluation), so they cover it. -/
theorem cover0_29 (p0 : Vec F S32x256 .f32) (y : S32x256.Idx) :
    ∃ pc ∈ ([⟨r0_3, p0⟩] : List (View.Piece (Elt F) S32x256 .f32)), y ∈ pc.1.set :=
  View.cover_of_tiled [⟨r0_3, p0⟩] S32x256.size (by rfl) y

/-- Window 30's staging buffer after the body, from the input windows' blocks: its 1 store as pieces, last
    first (Lib/Pipeline/FrameBody.lean `View.canon`; the payloads are the skeleton's). -/
def out0_30 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x384 .f32 :=
  View.canon [⟨r0_0, k0_pay1 (View.ld x6 r0_0) (View.ld x12 r0_0)⟩]

/-- Its stores tile the buffer (checked by evaluation), so they cover it. -/
theorem cover0_30 (p0 : Vec F S128x384 .f32) (y : S128x384.Idx) :
    ∃ pc ∈ ([⟨r0_0, p0⟩] : List (View.Piece (Elt F) S128x384 .f32)), y ∈ pc.1.set :=
  View.cover_of_tiled [⟨r0_0, p0⟩] S128x384.size (by rfl) y

/-- Window 31's staging buffer after the body, from the input windows' blocks: its 1 store as pieces, last
    first (Lib/Pipeline/FrameBody.lean `View.canon`; the payloads are the skeleton's). -/
def out0_31 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x1024 .f32 :=
  View.canon [⟨r0_1, k0_pay4 (View.ld x7 r0_1) (View.ld x13 r0_1)⟩]

/-- Its stores tile the buffer (checked by evaluation), so they cover it. -/
theorem cover0_31 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Window 32's staging buffer after the body, from the input windows' blocks: its 1 store as pieces, last
    first (Lib/Pipeline/FrameBody.lean `View.canon`; the payloads are the skeleton's). -/
def out0_32 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x1024 .f32 :=
  View.canon [⟨r0_2, k0_pay7 (View.ld x8 r0_2) (View.ld x14 r0_2)⟩]

/-- Its stores tile the buffer (checked by evaluation), so they cover it. -/
theorem cover0_32 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-- Window 33's staging buffer after the body, from the input windows' blocks: its 1 store as pieces, last
    first (Lib/Pipeline/FrameBody.lean `View.canon`; the payloads are the skeleton's). -/
def out0_33 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x1024 .f32 :=
  View.canon [⟨r0_2, k0_pay10 (View.ld x9 r0_2) (View.ld x15 r0_2)⟩]

/-- Its stores tile the buffer (checked by evaluation), so they cover it. -/
theorem cover0_33 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-- Window 34's staging buffer after the body, from the input windows' blocks: its 1 store as pieces, last
    first (Lib/Pipeline/FrameBody.lean `View.canon`; the payloads are the skeleton's). -/
def out0_34 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x1024 .f32 :=
  View.canon [⟨r0_1, k0_pay13 (View.ld x10 r0_1) (View.ld x16 r0_1)⟩]

/-- Its stores tile the buffer (checked by evaluation), so they cover it. -/
theorem cover0_34 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Window 35's staging buffer after the body, from the input windows' blocks: its 1 store as pieces, last
    first (Lib/Pipeline/FrameBody.lean `View.canon`; the payloads are the skeleton's). -/
def out0_35 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x256 .f32 :=
  View.canon [⟨r0_3, k0_pay16 (View.ld x11 r0_3) (View.ld x17 r0_3)⟩]

/-- Its stores tile the buffer (checked by evaluation), so they cover it. -/
theorem cover0_35 (p0 : Vec F S32x256 .f32) (y : S32x256.Idx) :
    ∃ pc ∈ ([⟨r0_3, p0⟩] : List (View.Piece (Elt F) S32x256 .f32)), y ∈ pc.1.set :=
  View.cover_of_tiled [⟨r0_3, p0⟩] S32x256.size (by rfl) y

/-- Window 36's staging buffer after the body, from the input windows' blocks: its 1 store as pieces, last
    first (Lib/Pipeline/FrameBody.lean `View.canon`; the payloads are the skeleton's). -/
def out0_36 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x384 .f32 :=
  View.canon [⟨r0_0, k0_pay2 (View.ld x6 r0_0) (View.ld x18 r0_0)⟩]

/-- Its stores tile the buffer (checked by evaluation), so they cover it. -/
theorem cover0_36 (p0 : Vec F S128x384 .f32) (y : S128x384.Idx) :
    ∃ pc ∈ ([⟨r0_0, p0⟩] : List (View.Piece (Elt F) S128x384 .f32)), y ∈ pc.1.set :=
  View.cover_of_tiled [⟨r0_0, p0⟩] S128x384.size (by rfl) y

/-- Window 37's staging buffer after the body, from the input windows' blocks: its 1 store as pieces, last
    first (Lib/Pipeline/FrameBody.lean `View.canon`; the payloads are the skeleton's). -/
def out0_37 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x1024 .f32 :=
  View.canon [⟨r0_1, k0_pay5 (View.ld x7 r0_1) (View.ld x19 r0_1)⟩]

/-- Its stores tile the buffer (checked by evaluation), so they cover it. -/
theorem cover0_37 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Window 38's staging buffer after the body, from the input windows' blocks: its 1 store as pieces, last
    first (Lib/Pipeline/FrameBody.lean `View.canon`; the payloads are the skeleton's). -/
def out0_38 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x1024 .f32 :=
  View.canon [⟨r0_2, k0_pay8 (View.ld x8 r0_2) (View.ld x20 r0_2)⟩]

/-- Its stores tile the buffer (checked by evaluation), so they cover it. -/
theorem cover0_38 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-- Window 39's staging buffer after the body, from the input windows' blocks: its 1 store as pieces, last
    first (Lib/Pipeline/FrameBody.lean `View.canon`; the payloads are the skeleton's). -/
def out0_39 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x1024 .f32 :=
  View.canon [⟨r0_2, k0_pay11 (View.ld x9 r0_2) (View.ld x21 r0_2)⟩]

/-- Its stores tile the buffer (checked by evaluation), so they cover it. -/
theorem cover0_39 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-- Window 40's staging buffer after the body, from the input windows' blocks: its 1 store as pieces, last
    first (Lib/Pipeline/FrameBody.lean `View.canon`; the payloads are the skeleton's). -/
def out0_40 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x1024 .f32 :=
  View.canon [⟨r0_1, k0_pay14 (View.ld x10 r0_1) (View.ld x22 r0_1)⟩]

/-- Its stores tile the buffer (checked by evaluation), so they cover it. -/
theorem cover0_40 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Window 41's staging buffer after the body, from the input windows' blocks: its 1 store as pieces, last
    first (Lib/Pipeline/FrameBody.lean `View.canon`; the payloads are the skeleton's). -/
def out0_41 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x256 .f32 :=
  View.canon [⟨r0_3, k0_pay17 (View.ld x11 r0_3) (View.ld x23 r0_3)⟩]

/-- Its stores tile the buffer (checked by evaluation), so they cover it. -/
theorem cover0_41 (p0 : Vec F S32x256 .f32) (y : S32x256.Idx) :
    ∃ pc ∈ ([⟨r0_3, p0⟩] : List (View.Piece (Elt F) S32x256 .f32)), y ∈ pc.1.set :=
  View.cover_of_tiled [⟨r0_3, p0⟩] S32x256.size (by rfl) y

/-- Window 42's staging buffer after the body, from the input windows' blocks: its 1 store as pieces, last
    first (Lib/Pipeline/FrameBody.lean `View.canon`; the payloads are the skeleton's). -/
def out0_42 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x384 .f32 :=
  View.canon [⟨r0_0, View.ld x6 r0_0⟩]

/-- Its stores tile the buffer (checked by evaluation), so they cover it. -/
theorem cover0_42 (p0 : Vec F S128x384 .f32) (y : S128x384.Idx) :
    ∃ pc ∈ ([⟨r0_0, p0⟩] : List (View.Piece (Elt F) S128x384 .f32)), y ∈ pc.1.set :=
  View.cover_of_tiled [⟨r0_0, p0⟩] S128x384.size (by rfl) y

/-- Window 43's staging buffer after the body, from the input windows' blocks: its 1 store as pieces, last
    first (Lib/Pipeline/FrameBody.lean `View.canon`; the payloads are the skeleton's). -/
def out0_43 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x1024 .f32 :=
  View.canon [⟨r0_1, View.ld x7 r0_1⟩]

/-- Its stores tile the buffer (checked by evaluation), so they cover it. -/
theorem cover0_43 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Window 44's staging buffer after the body, from the input windows' blocks: its 1 store as pieces, last
    first (Lib/Pipeline/FrameBody.lean `View.canon`; the payloads are the skeleton's). -/
def out0_44 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x1024 .f32 :=
  View.canon [⟨r0_2, View.ld x8 r0_2⟩]

/-- Its stores tile the buffer (checked by evaluation), so they cover it. -/
theorem cover0_44 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-- Window 45's staging buffer after the body, from the input windows' blocks: its 1 store as pieces, last
    first (Lib/Pipeline/FrameBody.lean `View.canon`; the payloads are the skeleton's). -/
def out0_45 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S128x1024 .f32 :=
  View.canon [⟨r0_2, View.ld x9 r0_2⟩]

/-- Its stores tile the buffer (checked by evaluation), so they cover it. -/
theorem cover0_45 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-- Window 46's staging buffer after the body, from the input windows' blocks: its 1 store as pieces, last
    first (Lib/Pipeline/FrameBody.lean `View.canon`; the payloads are the skeleton's). -/
def out0_46 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x1024 .f32 :=
  View.canon [⟨r0_1, View.ld x10 r0_1⟩]

/-- Its stores tile the buffer (checked by evaluation), so they cover it. -/
theorem cover0_46 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Window 47's staging buffer after the body, from the input windows' blocks: its 1 store as pieces, last
    first (Lib/Pipeline/FrameBody.lean `View.canon`; the payloads are the skeleton's). -/
def out0_47 (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) : Vec F S32x256 .f32 :=
  View.canon [⟨r0_3, View.ld x11 r0_3⟩]

/-- Its stores tile the buffer (checked by evaluation), so they cover it. -/
theorem cover0_47 (p0 : Vec F S32x256 .f32) (y : S32x256.Idx) :
    ∃ pc ∈ ([⟨r0_3, p0⟩] : List (View.Piece (Elt F) S32x256 .f32)), y ∈ pc.1.set :=
  View.cover_of_tiled [⟨r0_3, p0⟩] S32x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S128x384 .f32) (harg1 : arg1.IsWhole) (arg2 : Memref sig .tc .vmem S32x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S32x1024 .f32) (harg5 : arg5.IsWhole) (arg6 : Memref sig .tc .vmem S32x256 .f32) (harg6 : arg6.IsWhole) (arg7 : Memref sig .tc .vmem S128x384 .f32) (harg7 : arg7.IsWhole) (arg8 : Memref sig .tc .vmem S32x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S32x1024 .f32) (harg11 : arg11.IsWhole) (arg12 : Memref sig .tc .vmem S32x256 .f32) (harg12 : arg12.IsWhole) (arg13 : Memref sig .tc .vmem S128x384 .f32) (harg13 : arg13.IsWhole) (arg14 : Memref sig .tc .vmem S32x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S32x1024 .f32) (harg17 : arg17.IsWhole) (arg18 : Memref sig .tc .vmem S32x256 .f32) (harg18 : arg18.IsWhole) (arg19 : Memref sig .tc .vmem S128x384 .f32) (harg19 : arg19.IsWhole) (arg20 : Memref sig .tc .vmem S32x1024 .f32) (harg20 : arg20.IsWhole) (arg21 : Memref sig .tc .vmem S128x1024 .f32) (harg21 : arg21.IsWhole) (arg22 : Memref sig .tc .vmem S128x1024 .f32) (harg22 : arg22.IsWhole) (arg23 : Memref sig .tc .vmem S32x1024 .f32) (harg23 : arg23.IsWhole) (arg24 : Memref sig .tc .vmem S32x256 .f32) (harg24 : arg24.IsWhole) (arg25 : Memref sig .tc .vmem S128x384 .f32) (harg25 : arg25.IsWhole) (arg26 : Memref sig .tc .vmem S32x1024 .f32) (harg26 : arg26.IsWhole) (arg27 : Memref sig .tc .vmem S128x1024 .f32) (harg27 : arg27.IsWhole) (arg28 : Memref sig .tc .vmem S128x1024 .f32) (harg28 : arg28.IsWhole) (arg29 : Memref sig .tc .vmem S32x1024 .f32) (harg29 : arg29.IsWhole) (arg30 : Memref sig .tc .vmem S32x256 .f32) (harg30 : arg30.IsWhole) (arg31 : Memref sig .tc .vmem S128x384 .f32) (harg31 : arg31.IsWhole) (arg32 : Memref sig .tc .vmem S32x1024 .f32) (harg32 : arg32.IsWhole) (arg33 : Memref sig .tc .vmem S128x1024 .f32) (harg33 : arg33.IsWhole) (arg34 : Memref sig .tc .vmem S128x1024 .f32) (harg34 : arg34.IsWhole) (arg35 : Memref sig .tc .vmem S32x1024 .f32) (harg35 : arg35.IsWhole) (arg36 : Memref sig .tc .vmem S32x256 .f32) (harg36 : arg36.IsWhole) (arg37 : Memref sig .tc .vmem S128x384 .f32) (harg37 : arg37.IsWhole) (arg38 : Memref sig .tc .vmem S32x1024 .f32) (harg38 : arg38.IsWhole) (arg39 : Memref sig .tc .vmem S128x1024 .f32) (harg39 : arg39.IsWhole) (arg40 : Memref sig .tc .vmem S128x1024 .f32) (harg40 : arg40.IsWhole) (arg41 : Memref sig .tc .vmem S32x1024 .f32) (harg41 : arg41.IsWhole) (arg42 : Memref sig .tc .vmem S32x256 .f32) (harg42 : arg42.IsWhole) (arg43 : Memref sig .tc .vmem S128x384 .f32) (harg43 : arg43.IsWhole) (arg44 : Memref sig .tc .vmem S32x1024 .f32) (harg44 : arg44.IsWhole) (arg45 : Memref sig .tc .vmem S128x1024 .f32) (harg45 : arg45.IsWhole) (arg46 : Memref sig .tc .vmem S128x1024 .f32) (harg46 : arg46.IsWhole) (arg47 : Memref sig .tc .vmem S32x1024 .f32) (harg47 : arg47.IsWhole) (arg48 : Memref sig .tc .vmem S32x256 .f32) (harg48 : arg48.IsWhole)
    (x0 : Vec F S128x384 .f32) (x1 : Vec F S32x1024 .f32) (x2 : Vec F S128x1024 .f32) (x3 : Vec F S128x1024 .f32) (x4 : Vec F S32x1024 .f32) (x5 : Vec F S32x256 .f32) (x6 : Vec F S128x384 .f32) (x7 : Vec F S32x1024 .f32) (x8 : Vec F S128x1024 .f32) (x9 : Vec F S128x1024 .f32) (x10 : Vec F S32x1024 .f32) (x11 : Vec F S32x256 .f32) (x12 : Vec F S128x384 .f32) (x13 : Vec F S32x1024 .f32) (x14 : Vec F S128x1024 .f32) (x15 : Vec F S128x1024 .f32) (x16 : Vec F S32x1024 .f32) (x17 : Vec F S32x256 .f32) (x18 : Vec F S128x384 .f32) (x19 : Vec F S32x1024 .f32) (x20 : Vec F S128x1024 .f32) (x21 : Vec F S128x1024 .f32) (x22 : Vec F S32x1024 .f32) (x23 : Vec F S32x256 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare (out0_24 x0 x1 x2 x3 x4 x5 x6 x7 x8 x9 x10 x11 x12 x13 x14 x15 x16 x17 x18 x19 x20 x21 x22 x23) ∗ owns (c : Thread nD τ) arg26 fullShare (out0_25 x0 x1 x2 x3 x4 x5 x6 x7 x8 x9 x10 x11 x12 x13 x14 x15 x16 x17 x18 x19 x20 x21 x22 x23) ∗ owns (c : Thread nD τ) arg27 fullShare (out0_26 x0 x1 x2 x3 x4 x5 x6 x7 x8 x9 x10 x11 x12 x13 x14 x15 x16 x17 x18 x19 x20 x21 x22 x23) ∗ owns (c : Thread nD τ) arg28 fullShare (out0_27 x0 x1 x2 x3 x4 x5 x6 x7 x8 x9 x10 x11 x12 x13 x14 x15 x16 x17 x18 x19 x20 x21 x22 x23) ∗ owns (c : Thread nD τ) arg29 fullShare (out0_28 x0 x1 x2 x3 x4 x5 x6 x7 x8 x9 x10 x11 x12 x13 x14 x15 x16 x17 x18 x19 x20 x21 x22 x23) ∗ owns (c : Thread nD τ) arg30 fullShare (out0_29 x0 x1 x2 x3 x4 x5 x6 x7 x8 x9 x10 x11 x12 x13 x14 x15 x16 x17 x18 x19 x20 x21 x22 x23) ∗ owns (c : Thread nD τ) arg31 fullShare (out0_30 x0 x1 x2 x3 x4 x5 x6 x7 x8 x9 x10 x11 x12 x13 x14 x15 x16 x17 x18 x19 x20 x21 x22 x23) ∗ owns (c : Thread nD τ) arg32 fullShare (out0_31 x0 x1 x2 x3 x4 x5 x6 x7 x8 x9 x10 x11 x12 x13 x14 x15 x16 x17 x18 x19 x20 x21 x22 x23) ∗ owns (c : Thread nD τ) arg33 fullShare (out0_32 x0 x1 x2 x3 x4 x5 x6 x7 x8 x9 x10 x11 x12 x13 x14 x15 x16 x17 x18 x19 x20 x21 x22 x23) ∗ owns (c : Thread nD τ) arg34 fullShare (out0_33 x0 x1 x2 x3 x4 x5 x6 x7 x8 x9 x10 x11 x12 x13 x14 x15 x16 x17 x18 x19 x20 x21 x22 x23) ∗ owns (c : Thread nD τ) arg35 fullShare (out0_34 x0 x1 x2 x3 x4 x5 x6 x7 x8 x9 x10 x11 x12 x13 x14 x15 x16 x17 x18 x19 x20 x21 x22 x23) ∗ owns (c : Thread nD τ) arg36 fullShare (out0_35 x0 x1 x2 x3 x4 x5 x6 x7 x8 x9 x10 x11 x12 x13 x14 x15 x16 x17 x18 x19 x20 x21 x22 x23) ∗ owns (c : Thread nD τ) arg37 fullShare (out0_36 x0 x1 x2 x3 x4 x5 x6 x7 x8 x9 x10 x11 x12 x13 x14 x15 x16 x17 x18 x19 x20 x21 x22 x23) ∗ owns (c : Thread nD τ) arg38 fullShare (out0_37 x0 x1 x2 x3 x4 x5 x6 x7 x8 x9 x10 x11 x12 x13 x14 x15 x16 x17 x18 x19 x20 x21 x22 x23) ∗ owns (c : Thread nD τ) arg39 fullShare (out0_38 x0 x1 x2 x3 x4 x5 x6 x7 x8 x9 x10 x11 x12 x13 x14 x15 x16 x17 x18 x19 x20 x21 x22 x23) ∗ owns (c : Thread nD τ) arg40 fullShare (out0_39 x0 x1 x2 x3 x4 x5 x6 x7 x8 x9 x10 x11 x12 x13 x14 x15 x16 x17 x18 x19 x20 x21 x22 x23) ∗ owns (c : Thread nD τ) arg41 fullShare (out0_40 x0 x1 x2 x3 x4 x5 x6 x7 x8 x9 x10 x11 x12 x13 x14 x15 x16 x17 x18 x19 x20 x21 x22 x23) ∗ owns (c : Thread nD τ) arg42 fullShare (out0_41 x0 x1 x2 x3 x4 x5 x6 x7 x8 x9 x10 x11 x12 x13 x14 x15 x16 x17 x18 x19 x20 x21 x22 x23) ∗ owns (c : Thread nD τ) arg43 fullShare (out0_42 x0 x1 x2 x3 x4 x5 x6 x7 x8 x9 x10 x11 x12 x13 x14 x15 x16 x17 x18 x19 x20 x21 x22 x23) ∗ owns (c : Thread nD τ) arg44 fullShare (out0_43 x0 x1 x2 x3 x4 x5 x6 x7 x8 x9 x10 x11 x12 x13 x14 x15 x16 x17 x18 x19 x20 x21 x22 x23) ∗ owns (c : Thread nD τ) arg45 fullShare (out0_44 x0 x1 x2 x3 x4 x5 x6 x7 x8 x9 x10 x11 x12 x13 x14 x15 x16 x17 x18 x19 x20 x21 x22 x23) ∗ owns (c : Thread nD τ) arg46 fullShare (out0_45 x0 x1 x2 x3 x4 x5 x6 x7 x8 x9 x10 x11 x12 x13 x14 x15 x16 x17 x18 x19 x20 x21 x22 x23) ∗ owns (c : Thread nD τ) arg47 fullShare (out0_46 x0 x1 x2 x3 x4 x5 x6 x7 x8 x9 x10 x11 x12 x13 x14 x15 x16 x17 x18 x19 x20 x21 x22 x23) ∗ owns (c : Thread nD τ) arg48 fullShare (out0_47 x0 x1 x2 x3 x4 x5 x6 x7 x8 x9 x10 x11 x12 x13 x14 x15 x16 x17 x18 x19 x20 x21 x22 x23)) -∗ K ⟨⟩))
      ⊢ wp frame (wpE (defs₀ (F := F)) Variants.none c none) E (cc0_adamw_big i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48) K := by
  simp only [cc0_adamw_big_eq_skeleton]; unfold cc0_adamw_big_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  isplitl [H27]
  · iexists _; isplitr
    swap; · iexact H27
    ipureintro
    exact View.read_writes_eq_canon _ _ _ (cover0_27 _)
  isplitl [H28]
  · iexists _; isplitr
    swap; · iexact H28
    ipureintro
    exact View.read_writes_eq_canon _ _ _ (cover0_28 _)
  isplitl [H29]
  · iexists _; isplitr
    swap; · iexact H29
    ipureintro
    exact View.read_writes_eq_canon _ _ _ (cover0_29 _)
  isplitl [H30]
  · iexists _; isplitr
    swap; · iexact H30
    ipureintro
    exact View.read_writes_eq_canon _ _ _ (cover0_30 _)
  isplitl [H31]
  · iexists _; isplitr
    swap; · iexact H31
    ipureintro
    exact View.read_writes_eq_canon _ _ _ (cover0_31 _)
  isplitl [H32]
  · iexists _; isplitr
    swap; · iexact H32
    ipureintro
    exact View.read_writes_eq_canon _ _ _ (cover0_32 _)
  isplitl [H33]
  · iexists _; isplitr
    swap; · iexact H33
    ipureintro
    exact View.read_writes_eq_canon _ _ _ (cover0_33 _)
  isplitl [H34]
  · iexists _; isplitr
    swap; · iexact H34
    ipureintro
    exact View.read_writes_eq_canon _ _ _ (cover0_34 _)
  isplitl [H35]
  · iexists _; isplitr
    swap; · iexact H35
    ipureintro
    exact View.read_writes_eq_canon _ _ _ (cover0_35 _)
  isplitl [H36]
  · iexists _; isplitr
    swap; · iexact H36
    ipureintro
    exact View.read_writes_eq_canon _ _ _ (cover0_36 _)
  isplitl [H37]
  · iexists _; isplitr
    swap; · iexact H37
    ipureintro
    exact View.read_writes_eq_canon _ _ _ (cover0_37 _)
  isplitl [H38]
  · iexists _; isplitr
    swap; · iexact H38
    ipureintro
    exact View.read_writes_eq_canon _ _ _ (cover0_38 _)
  isplitl [H39]
  · iexists _; isplitr
    swap; · iexact H39
    ipureintro
    exact View.read_writes_eq_canon _ _ _ (cover0_39 _)
  isplitl [H40]
  · iexists _; isplitr
    swap; · iexact H40
    ipureintro
    exact View.read_writes_eq_canon _ _ _ (cover0_40 _)
  isplitl [H41]
  · iexists _; isplitr
    swap; · iexact H41
    ipureintro
    exact View.read_writes_eq_canon _ _ _ (cover0_41 _)
  isplitl [H42]
  · iexists _; isplitr
    swap; · iexact H42
    ipureintro
    exact View.read_writes_eq_canon _ _ _ (cover0_42 _)
  isplitl [H43]
  · iexists _; isplitr
    swap; · iexact H43
    ipureintro
    exact View.read_writes_eq_canon _ _ _ (cover0_43 _)
  isplitl [H44]
  · iexists _; isplitr
    swap; · iexact H44
    ipureintro
    exact View.read_writes_eq_canon _ _ _ (cover0_44 _)
  isplitl [H45]
  · iexists _; isplitr
    swap; · iexact H45
    ipureintro
    exact View.read_writes_eq_canon _ _ _ (cover0_45 _)
  isplitl [H46]
  · iexists _; isplitr
    swap; · iexact H46
    ipureintro
    exact View.read_writes_eq_canon _ _ _ (cover0_46 _)
  iexists _; isplitr
  swap; · iexact H47
  ipureintro
  exact View.read_writes_eq_canon _ _ _ (cover0_47 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨36, _⟩ => out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨37, _⟩ => out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨38, _⟩ => out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨39, _⟩ => out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨40, _⟩ => out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨41, _⟩ => out0_41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨42, _⟩ => out0_42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨43, _⟩ => out0_43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨44, _⟩ => out0_44 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨45, _⟩ => out0_45 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨46, _⟩ => out0_46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨47, _⟩ => out0_47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨_ + 48, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_35 (c : Dev nD) (t : Fin cfg0.N) : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_36 (c : Dev nD) (t : Fin cfg0.N) : (dats m 0 c).after 36 t = out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_37 (c : Dev nD) (t : Fin cfg0.N) : (dats m 0 c).after 37 t = out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_38 (c : Dev nD) (t : Fin cfg0.N) : (dats m 0 c).after 38 t = out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_39 (c : Dev nD) (t : Fin cfg0.N) : (dats m 0 c).after 39 t = out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_40 (c : Dev nD) (t : Fin cfg0.N) : (dats m 0 c).after 40 t = out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_41 (c : Dev nD) (t : Fin cfg0.N) : (dats m 0 c).after 41 t = out0_41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_42 (c : Dev nD) (t : Fin cfg0.N) : (dats m 0 c).after 42 t = out0_42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_43 (c : Dev nD) (t : Fin cfg0.N) : (dats m 0 c).after 43 t = out0_43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_44 (c : Dev nD) (t : Fin cfg0.N) : (dats m 0 c).after 44 t = out0_44 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_45 (c : Dev nD) (t : Fin cfg0.N) : (dats m 0 c).after 45 t = out0_45 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_46 (c : Dev nD) (t : Fin cfg0.N) : (dats m 0 c).after 46 t = out0_46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_47 (c : Dev nD) (t : Fin cfg0.N) : (dats m 0 c).after 47 t = out0_47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

end Cert.BigIdeal.Hand

end
-- ==== Proof.BigIdealFrame.lean ====
module

public import proofs.«01_k».proof.Proof.BigIdealBody
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.BigIdeal.Hand

open Cert.BigIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The body's obligation at every grid point of the optimiser's call on the six large weights, its run, and its frame. -/

variable {F : FTy → Type} [FloatOps F] [Named F]

variable (m : (ℓ : Loc nD τ sig) → Buf (Elt F) ℓ) (ρ : Dev nD → PrngReg)
/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t))

set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  iexact H47

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

/-- The frame, over any float values `F`: every run ends with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (unchanged m ρ) ((θ_run defs _ _).mono (fun _ h => h.2) (run_main_quiescent m ρ))

end Cert.BigIdeal.Hand

end
-- ==== Proof.BigScalar.lean ====
module

public import proofs.«01_k».proof.Proof.AdamRow

@[expose] public section

noncomputable section

namespace Cert.AdamRow

open Idealize.ShloMosaic

/-- The first moment of one number, from its gradient and its old moment. -/
def mS (g m : EReal) : EReal := Ideal.ofBits FTy.f32 0x3F666666#32 * m + Ideal.ofBits FTy.f32 0x3DCCCCCD#32 * g

/-- The second moment of one number, from its gradient and its old moment. -/
def vS (g v : EReal) : EReal := Ideal.ofBits FTy.f32 0x3F7FBE77#32 * v + Ideal.ofBits FTy.f32 0x3A83126F#32 * (g * g)

/-- The step of one number, from itself, its gradient and its old moments, with the corrections as factors. -/
def dS (w g m v : EReal) : EReal :=
  Ideal.ofBits FTy.f32 0xBA83126F#32 * (Ideal.div (mS g m * (((5463681 / 8388608)⁻¹ : ℝ) : EReal))
    (Ideal.sqrt (vS g v * (((2672307 / 268435456)⁻¹ : ℝ) : EReal)) + Ideal.ofBits FTy.f32 0x322BCC77#32) + Ideal.ofBits FTy.f32 0x3C23D70A#32 * w)

theorem dS_congr {w w' g g' m m' v v' : EReal} (hw : w = w') (hg : g = g') (hm : m = m') (hv : v = v') : dS w g m v = dS w' g' m' v' := by
  rw [hw, hg, hm, hv]

/-- The reference's step of one number, which divides by the corrections. -/
theorem host_step (w g m v : EReal) :
    Ideal.ofBits FTy.f32 0xBA83126F#32 * (Ideal.div (Ideal.div (mS g m) (Ideal.ofBits FTy.f32 0x3F26BD02#32))
      (Ideal.sqrt (Ideal.div (vS g v) (Ideal.ofBits FTy.f32 0x3C231ACC#32)) + Ideal.ofBits FTy.f32 0x322BCC77#32) + Ideal.ofBits FTy.f32 0x3C23D70A#32 * w)
      = dS w g m v := by
  rw [div_d1, div_d2]
  rfl

end Cert.AdamRow

end
-- ==== Proof.BigPay.lean ====
module

public import proofs.«01_k».proof.Proof.BigScalar
public import proofs.«01_k».proof.Proof.Gen.BigIdeal.Skeleton
public import Idealize.ShloMosaic.Lib.Claim

@[expose] public section

set_option maxRecDepth 16384
set_option maxHeartbeats 1000000

noncomputable section

namespace Cert.BigIdeal.Hand

open Idealize.ShloMosaic Idealize.ShloMosaic.TcCoe Idealize.SL.Sem

open Cert.BigIdeal Cert.BigIdeal.Gen Cert.AdamRow

/-- The two named constants are the reciprocals of the bias corrections. -/
theorem c1_eq : Named.named (F := Ideal) Cert.BigIdeal.κ "c1" (φ := .f32) 0x3FC48605#32 = (((5463681 / 8388608)⁻¹ : ℝ) : EReal) :=
  IdealRules.named_const.ideal_named_scalar _ _ _ _ rfl

theorem c2_eq : Named.named (F := Ideal) Cert.BigIdeal.κ "c2" (φ := .f32) 0x42C8E6D3#32 = (((2672307 / 268435456)⁻¹ : ℝ) : EReal) :=
  IdealRules.named_const.ideal_named_scalar _ _ _ _ rfl

/-! What the body stores for each of the six weights, one number at a time: the first moment, the second moment and the step. -/

theorem pay1_at (g m : FVec Ideal S128x384 .f32) (j : S128x384.Idx) : k0_pay1 (F := Ideal) g m j = mS (g j) (m j) := rfl

theorem pay2_at (g v : FVec Ideal S128x384 .f32) (j : S128x384.Idx) : k0_pay2 (F := Ideal) g v j = vS (g j) (v j) := rfl

theorem pay3_at (g w m v : FVec Ideal S128x384 .f32) (j : S128x384.Idx) : k0_pay3 (F := Ideal) g w m v j = dS (w j) (g j) (m j) (v j) := by
  unfold k0_pay3
  rw [c1_eq, c2_eq]
  rfl

theorem pay4_at (g m : FVec Ideal S32x1024 .f32) (j : S32x1024.Idx) : k0_pay4 (F := Ideal) g m j = mS (g j) (m j) := rfl

theorem pay5_at (g v : FVec Ideal S32x1024 .f32) (j : S32x1024.Idx) : k0_pay5 (F := Ideal) g v j = vS (g j) (v j) := rfl

theorem pay6_at (g w m v : FVec Ideal S32x1024 .f32) (j : S32x1024.Idx) : k0_pay6 (F := Ideal) g w m v j = dS (w j) (g j) (m j) (v j) := by
  unfold k0_pay6
  rw [c1_eq, c2_eq]
  rfl

theorem pay7_at (g m : FVec Ideal S128x1024 .f32) (j : S128x1024.Idx) : k0_pay7 (F := Ideal) g m j = mS (g j) (m j) := rfl

theorem pay8_at (g v : FVec Ideal S128x1024 .f32) (j : S128x1024.Idx) : k0_pay8 (F := Ideal) g v j = vS (g j) (v j) := rfl

theorem pay9_at (g w m v : FVec Ideal S128x1024 .f32) (j : S128x1024.Idx) : k0_pay9 (F := Ideal) g w m v j = dS (w j) (g j) (m j) (v j) := by
  unfold k0_pay9
  rw [c1_eq, c2_eq]
  rfl

theorem pay10_at (g m : FVec Ideal S128x1024 .f32) (j : S128x1024.Idx) : k0_pay10 (F := Ideal) g m j = mS (g j) (m j) := rfl

theorem pay11_at (g v : FVec Ideal S128x1024 .f32) (j : S128x1024.Idx) : k0_pay11 (F := Ideal) g v j = vS (g j) (v j) := rfl

theorem pay12_at (g w m v : FVec Ideal S128x1024 .f32) (j : S128x1024.Idx) : k0_pay12 (F := Ideal) g w m v j = dS (w j) (g j) (m j) (v j) := by
  unfold k0_pay12
  rw [c1_eq, c2_eq]
  rfl

theorem pay13_at (g m : FVec Ideal S32x1024 .f32) (j : S32x1024.Idx) : k0_pay13 (F := Ideal) g m j = mS (g j) (m j) := rfl

theorem pay14_at (g v : FVec Ideal S32x1024 .f32) (j : S32x1024.Idx) : k0_pay14 (F := Ideal) g v j = vS (g j) (v j) := rfl

theorem pay15_at (g w m v : FVec Ideal S32x1024 .f32) (j : S32x1024.Idx) : k0_pay15 (F := Ideal) g w m v j = dS (w j) (g j) (m j) (v j) := by
  unfold k0_pay15
  rw [c1_eq, c2_eq]
  rfl

theorem pay16_at (g m : FVec Ideal S32x256 .f32) (j : S32x256.Idx) : k0_pay16 (F := Ideal) g m j = mS (g j) (m j) := rfl

theorem pay17_at (g v : FVec Ideal S32x256 .f32) (j : S32x256.Idx) : k0_pay17 (F := Ideal) g v j = vS (g j) (v j) := rfl

theorem pay18_at (g w m v : FVec Ideal S32x256 .f32) (j : S32x256.Idx) : k0_pay18 (F := Ideal) g w m v j = dS (w j) (g j) (m j) (v j) := by
  unfold k0_pay18
  rw [c1_eq, c2_eq]
  rfl

end Cert.BigIdeal.Hand

end
-- ==== Proof.BigSumA.lean ====
module

public import proofs.«01_k».proof.Proof.BigPay
public import proofs.«01_k».proof.Proof.BigIdealFrame
public import Idealize.ShloMosaic.Lib.Pipeline.Value
public import Idealize.ShloMosaic.Lib.Pipeline.ValueKit

@[expose] public section

set_option maxRecDepth 16384
set_option maxHeartbeats 1000000

noncomputable section

namespace Cert.BigIdeal.Hand

open Idealize.ShloMosaic Idealize.ShloMosaic.TcCoe Idealize.SL.Sem

open Cert.BigIdeal Cert.BigIdeal.Gen Cert.AdamRow

variable (m : (ℓ : Loc nD τ sig) → Buf (Elt Ideal) ℓ)

/-- The windows of w_in are at the block of the grid point's rows, at each of the 8 grid points. -/
theorem idx0 : ∀ t : Fin cfg0.N, win0_0.index t = ![t.val, 0] ∧ win0_6.index t = ![t.val, 0] ∧ win0_12.index t = ![t.val, 0] ∧ win0_18.index t = ![t.val, 0] ∧ win0_24.index t = ![t.val, 0] ∧ win0_30.index t = ![t.val, 0] ∧ win0_36.index t = ![t.val, 0] :=
  (by decide +kernel : ∀ t : Fin grid0.N, _)

/-- The step of w_in, after the run. -/
theorem arr24 (c : Dev nD) : (dats m 0 c).arrAt 24 cfg0.N = fun j : S1024x384.Idx => dS (V m c main_arg0 j) (V m c main_arg6 j) (V m c main_arg12 j) (V m c main_arg18 j) := by
  refine (dats m 0 c).arrAt_eq_of_covers 24 _ (by decide +kernel) fun t hf y => ?_
  blk_simp
  rw [after0_24]
  unfold out0_24
  rw [View.canon_unit_zero (by decide)]
  refine (pay3_at _ _ _ _ y).trans ?_
  rw [View.ld_unit_zero (by decide), View.ld_unit_zero (by decide), View.ld_unit_zero (by decide), View.ld_unit_zero (by decide)]
  refine dS_congr ?_ ?_ ?_ ?_
  all_goals blk_point [iblk, idx0 t]

/-- The first moment of w_in, after the run. -/
theorem arr30 (c : Dev nD) : (dats m 0 c).arrAt 30 cfg0.N = fun j : S1024x384.Idx => mS (V m c main_arg6 j) (V m c main_arg12 j) := by
  refine (dats m 0 c).arrAt_eq_of_covers 30 _ (by decide +kernel) fun t hf y => ?_
  blk_simp
  rw [after0_30]
  unfold out0_30
  rw [View.canon_unit_zero (by decide)]
  refine (pay1_at _ _ y).trans ?_
  rw [View.ld_unit_zero (by decide), View.ld_unit_zero (by decide)]
  refine congrArg₂ mS ?_ ?_
  all_goals blk_point [iblk, idx0 t]

/-- The second moment of w_in, after the run. -/
theorem arr36 (c : Dev nD) : (dats m 0 c).arrAt 36 cfg0.N = fun j : S1024x384.Idx => vS (V m c main_arg6 j) (V m c main_arg18 j) := by
  refine (dats m 0 c).arrAt_eq_of_covers 36 _ (by decide +kernel) fun t hf y => ?_
  blk_simp
  rw [after0_36]
  unfold out0_36
  rw [View.canon_unit_zero (by decide)]
  refine (pay2_at _ _ y).trans ?_
  rw [View.ld_unit_zero (by decide), View.ld_unit_zero (by decide)]
  refine congrArg₂ vS ?_ ?_
  all_goals blk_point [iblk, idx0 t]

/-- The windows of w_out are at the block of the grid point's rows, at each of the 8 grid points. -/
theorem idx1 : ∀ t : Fin cfg0.N, win0_1.index t = ![t.val, 0] ∧ win0_7.index t = ![t.val, 0] ∧ win0_13.index t = ![t.val, 0] ∧ win0_19.index t = ![t.val, 0] ∧ win0_25.index t = ![t.val, 0] ∧ win0_31.index t = ![t.val, 0] ∧ win0_37.index t = ![t.val, 0] :=
  (by decide +kernel : ∀ t : Fin grid0.N, _)

/-- The step of w_out, after the run. -/
theorem arr25 (c : Dev nD) : (dats m 0 c).arrAt 25 cfg0.N = fun j : S256x1024.Idx => dS (V m c main_arg1 j) (V m c main_arg7 j) (V m c main_arg13 j) (V m c main_arg19 j) := by
  refine (dats m 0 c).arrAt_eq_of_covers 25 _ (by decide +kernel) fun t hf y => ?_
  blk_simp
  rw [after0_25]
  unfold out0_25
  rw [View.canon_unit_zero (by decide)]
  refine (pay6_at _ _ _ _ y).trans ?_
  rw [View.ld_unit_zero (by decide), View.ld_unit_zero (by decide), View.ld_unit_zero (by decide), View.ld_unit_zero (by decide)]
  refine dS_congr ?_ ?_ ?_ ?_
  all_goals blk_point [iblk, idx1 t]

/-- The first moment of w_out, after the run. -/
theorem arr31 (c : Dev nD) : (dats m 0 c).arrAt 31 cfg0.N = fun j : S256x1024.Idx => mS (V m c main_arg7 j) (V m c main_arg13 j) := by
  refine (dats m 0 c).arrAt_eq_of_covers 31 _ (by decide +kernel) fun t hf y => ?_
  blk_simp
  rw [after0_31]
  unfold out0_31
  rw [View.canon_unit_zero (by decide)]
  refine (pay4_at _ _ y).trans ?_
  rw [View.ld_unit_zero (by decide), View.ld_unit_zero (by decide)]
  refine congrArg₂ mS ?_ ?_
  all_goals blk_point [iblk, idx1 t]

/-- The second moment of w_out, after the run. -/
theorem arr37 (c : Dev nD) : (dats m 0 c).arrAt 37 cfg0.N = fun j : S256x1024.Idx => vS (V m c main_arg7 j) (V m c main_arg19 j) := by
  refine (dats m 0 c).arrAt_eq_of_covers 37 _ (by decide +kernel) fun t hf y => ?_
  blk_simp
  rw [after0_37]
  unfold out0_37
  rw [View.canon_unit_zero (by decide)]
  refine (pay5_at _ _ y).trans ?_
  rw [View.ld_unit_zero (by decide), View.ld_unit_zero (by decide)]
  refine congrArg₂ vS ?_ ?_
  all_goals blk_point [iblk, idx1 t]

end Cert.BigIdeal.Hand

end
-- ==== Proof.BigSumB.lean ====
module

public import proofs.«01_k».proof.Proof.BigPay
public import proofs.«01_k».proof.Proof.BigIdealFrame
public import Idealize.ShloMosaic.Lib.Pipeline.Value
public import Idealize.ShloMosaic.Lib.Pipeline.ValueKit

@[expose] public section

set_option maxRecDepth 16384
set_option maxHeartbeats 1000000

noncomputable section

namespace Cert.BigIdeal.Hand

open Idealize.ShloMosaic Idealize.ShloMosaic.TcCoe Idealize.SL.Sem

open Cert.BigIdeal Cert.BigIdeal.Gen Cert.AdamRow

variable (m : (ℓ : Loc nD τ sig) → Buf (Elt Ideal) ℓ)

/-- The windows of w_up are at the block of the grid point's rows, at each of the 8 grid points. -/
theorem idx2 : ∀ t : Fin cfg0.N, win0_2.index t = ![t.val, 0] ∧ win0_8.index t = ![t.val, 0] ∧ win0_14.index t = ![t.val, 0] ∧ win0_20.index t = ![t.val, 0] ∧ win0_26.index t = ![t.val, 0] ∧ win0_32.index t = ![t.val, 0] ∧ win0_38.index t = ![t.val, 0] :=
  (by decide +kernel : ∀ t : Fin grid0.N, _)

/-- The step of w_up, after the run. -/
theorem arr26 (c : Dev nD) : (dats m 0 c).arrAt 26 cfg0.N = fun j : S1024x1024.Idx => dS (V m c main_arg2 j) (V m c main_arg8 j) (V m c main_arg14 j) (V m c main_arg20 j) := by
  refine (dats m 0 c).arrAt_eq_of_covers 26 _ (by decide +kernel) fun t hf y => ?_
  blk_simp
  rw [after0_26]
  unfold out0_26
  rw [View.canon_unit_zero (by decide)]
  refine (pay9_at _ _ _ _ y).trans ?_
  rw [View.ld_unit_zero (by decide), View.ld_unit_zero (by decide), View.ld_unit_zero (by decide), View.ld_unit_zero (by decide)]
  refine dS_congr ?_ ?_ ?_ ?_
  all_goals blk_point [iblk, idx2 t]

/-- The first moment of w_up, after the run. -/
theorem arr32 (c : Dev nD) : (dats m 0 c).arrAt 32 cfg0.N = fun j : S1024x1024.Idx => mS (V m c main_arg8 j) (V m c main_arg14 j) := by
  refine (dats m 0 c).arrAt_eq_of_covers 32 _ (by decide +kernel) fun t hf y => ?_
  blk_simp
  rw [after0_32]
  unfold out0_32
  rw [View.canon_unit_zero (by decide)]
  refine (pay7_at _ _ y).trans ?_
  rw [View.ld_unit_zero (by decide), View.ld_unit_zero (by decide)]
  refine congrArg₂ mS ?_ ?_
  all_goals blk_point [iblk, idx2 t]

/-- The second moment of w_up, after the run. -/
theorem arr38 (c : Dev nD) : (dats m 0 c).arrAt 38 cfg0.N = fun j : S1024x1024.Idx => vS (V m c main_arg8 j) (V m c main_arg20 j) := by
  refine (dats m 0 c).arrAt_eq_of_covers 38 _ (by decide +kernel) fun t hf y => ?_
  blk_simp
  rw [after0_38]
  unfold out0_38
  rw [View.canon_unit_zero (by decide)]
  refine (pay8_at _ _ y).trans ?_
  rw [View.ld_unit_zero (by decide), View.ld_unit_zero (by decide)]
  refine congrArg₂ vS ?_ ?_
  all_goals blk_point [iblk, idx2 t]

/-- The windows of w_down are at the block of the grid point's rows, at each of the 8 grid points. -/
theorem idx3 : ∀ t : Fin cfg0.N, win0_3.index t = ![t.val, 0] ∧ win0_9.index t = ![t.val, 0] ∧ win0_15.index t = ![t.val, 0] ∧ win0_21.index t = ![t.val, 0] ∧ win0_27.index t = ![t.val, 0] ∧ win0_33.index t = ![t.val, 0] ∧ win0_39.index t = ![t.val, 0] :=
  (by decide +kernel : ∀ t : Fin grid0.N, _)

/-- The step of w_down, after the run. -/
theorem arr27 (c : Dev nD) : (dats m 0 c).arrAt 27 cfg0.N = fun j : S1024x1024.Idx => dS (V m c main_arg3 j) (V m c main_arg9 j) (V m c main_arg15 j) (V m c main_arg21 j) := by
  refine (dats m 0 c).arrAt_eq_of_covers 27 _ (by decide +kernel) fun t hf y => ?_
  blk_simp
  rw [after0_27]
  unfold out0_27
  rw [View.canon_unit_zero (by decide)]
  refine (pay12_at _ _ _ _ y).trans ?_
  rw [View.ld_unit_zero (by decide), View.ld_unit_zero (by decide), View.ld_unit_zero (by decide), View.ld_unit_zero (by decide)]
  refine dS_congr ?_ ?_ ?_ ?_
  all_goals blk_point [iblk, idx3 t]

/-- The first moment of w_down, after the run. -/
theorem arr33 (c : Dev nD) : (dats m 0 c).arrAt 33 cfg0.N = fun j : S1024x1024.Idx => mS (V m c main_arg9 j) (V m c main_arg15 j) := by
  refine (dats m 0 c).arrAt_eq_of_covers 33 _ (by decide +kernel) fun t hf y => ?_
  blk_simp
  rw [after0_33]
  unfold out0_33
  rw [View.canon_unit_zero (by decide)]
  refine (pay10_at _ _ y).trans ?_
  rw [View.ld_unit_zero (by decide), View.ld_unit_zero (by decide)]
  refine congrArg₂ mS ?_ ?_
  all_goals blk_point [iblk, idx3 t]

/-- The second moment of w_down, after the run. -/
theorem arr39 (c : Dev nD) : (dats m 0 c).arrAt 39 cfg0.N = fun j : S1024x1024.Idx => vS (V m c main_arg9 j) (V m c main_arg21 j) := by
  refine (dats m 0 c).arrAt_eq_of_covers 39 _ (by decide +kernel) fun t hf y => ?_
  blk_simp
  rw [after0_39]
  unfold out0_39
  rw [View.canon_unit_zero (by decide)]
  refine (pay11_at _ _ y).trans ?_
  rw [View.ld_unit_zero (by decide), View.ld_unit_zero (by decide)]
  refine congrArg₂ vS ?_ ?_
  all_goals blk_point [iblk, idx3 t]

end Cert.BigIdeal.Hand

end
-- ==== Proof.BigSumC.lean ====
module

public import proofs.«01_k».proof.Proof.BigPay
public import proofs.«01_k».proof.Proof.BigIdealFrame
public import Idealize.ShloMosaic.Lib.Pipeline.Value
public import Idealize.ShloMosaic.Lib.Pipeline.ValueKit

@[expose] public section

set_option maxRecDepth 16384
set_option maxHeartbeats 1000000

noncomputable section

namespace Cert.BigIdeal.Hand

open Idealize.ShloMosaic Idealize.ShloMosaic.TcCoe Idealize.SL.Sem

open Cert.BigIdeal Cert.BigIdeal.Gen Cert.AdamRow

variable (m : (ℓ : Loc nD τ sig) → Buf (Elt Ideal) ℓ)

/-- The windows of w_ple_gate are at the block of the grid point's rows, at each of the 8 grid points. -/
theorem idx4 : ∀ t : Fin cfg0.N, win0_4.index t = ![t.val, 0] ∧ win0_10.index t = ![t.val, 0] ∧ win0_16.index t = ![t.val, 0] ∧ win0_22.index t = ![t.val, 0] ∧ win0_28.index t = ![t.val, 0] ∧ win0_34.index t = ![t.val, 0] ∧ win0_40.index t = ![t.val, 0] :=
  (by decide +kernel : ∀ t : Fin grid0.N, _)

/-- The step of w_ple_gate, after the run. -/
theorem arr28 (c : Dev nD) : (dats m 0 c).arrAt 28 cfg0.N = fun j : S256x1024.Idx => dS (V m c main_arg4 j) (V m c main_arg10 j) (V m c main_arg16 j) (V m c main_arg22 j) := by
  refine (dats m 0 c).arrAt_eq_of_covers 28 _ (by decide +kernel) fun t hf y => ?_
  blk_simp
  rw [after0_28]
  unfold out0_28
  rw [View.canon_unit_zero (by decide)]
  refine (pay15_at _ _ _ _ y).trans ?_
  rw [View.ld_unit_zero (by decide), View.ld_unit_zero (by decide), View.ld_unit_zero (by decide), View.ld_unit_zero (by decide)]
  refine dS_congr ?_ ?_ ?_ ?_
  all_goals blk_point [iblk, idx4 t]

/-- The first moment of w_ple_gate, after the run. -/
theorem arr34 (c : Dev nD) : (dats m 0 c).arrAt 34 cfg0.N = fun j : S256x1024.Idx => mS (V m c main_arg10 j) (V m c main_arg16 j) := by
  refine (dats m 0 c).arrAt_eq_of_covers 34 _ (by decide +kernel) fun t hf y => ?_
  blk_simp
  rw [after0_34]
  unfold out0_34
  rw [View.canon_unit_zero (by decide)]
  refine (pay13_at _ _ y).trans ?_
  rw [View.ld_unit_zero (by decide), View.ld_unit_zero (by decide)]
  refine congrArg₂ mS ?_ ?_
  all_goals blk_point [iblk, idx4 t]

/-- The second moment of w_ple_gate, after the run. -/
theorem arr40 (c : Dev nD) : (dats m 0 c).arrAt 40 cfg0.N = fun j : S256x1024.Idx => vS (V m c main_arg10 j) (V m c main_arg22 j) := by
  refine (dats m 0 c).arrAt_eq_of_covers 40 _ (by decide +kernel) fun t hf y => ?_
  blk_simp
  rw [after0_40]
  unfold out0_40
  rw [View.canon_unit_zero (by decide)]
  refine (pay14_at _ _ y).trans ?_
  rw [View.ld_unit_zero (by decide), View.ld_unit_zero (by decide)]
  refine congrArg₂ vS ?_ ?_
  all_goals blk_point [iblk, idx4 t]

/-- The windows of w_ple_proj are at the block of the grid point's rows, at each of the 8 grid points. -/
theorem idx5 : ∀ t : Fin cfg0.N, win0_5.index t = ![t.val, 0] ∧ win0_11.index t = ![t.val, 0] ∧ win0_17.index t = ![t.val, 0] ∧ win0_23.index t = ![t.val, 0] ∧ win0_29.index t = ![t.val, 0] ∧ win0_35.index t = ![t.val, 0] ∧ win0_41.index t = ![t.val, 0] :=
  (by decide +kernel : ∀ t : Fin grid0.N, _)

/-- The step of w_ple_proj, after the run. -/
theorem arr29 (c : Dev nD) : (dats m 0 c).arrAt 29 cfg0.N = fun j : S256x256.Idx => dS (V m c main_arg5 j) (V m c main_arg11 j) (V m c main_arg17 j) (V m c main_arg23 j) := by
  refine (dats m 0 c).arrAt_eq_of_covers 29 _ (by decide +kernel) fun t hf y => ?_
  blk_simp
  rw [after0_29]
  unfold out0_29
  rw [View.canon_unit_zero (by decide)]
  refine (pay18_at _ _ _ _ y).trans ?_
  rw [View.ld_unit_zero (by decide), View.ld_unit_zero (by decide), View.ld_unit_zero (by decide), View.ld_unit_zero (by decide)]
  refine dS_congr ?_ ?_ ?_ ?_
  all_goals blk_point [iblk, idx5 t]

/-- The first moment of w_ple_proj, after the run. -/
theorem arr35 (c : Dev nD) : (dats m 0 c).arrAt 35 cfg0.N = fun j : S256x256.Idx => mS (V m c main_arg11 j) (V m c main_arg17 j) := by
  refine (dats m 0 c).arrAt_eq_of_covers 35 _ (by decide +kernel) fun t hf y => ?_
  blk_simp
  rw [after0_35]
  unfold out0_35
  rw [View.canon_unit_zero (by decide)]
  refine (pay16_at _ _ y).trans ?_
  rw [View.ld_unit_zero (by decide), View.ld_unit_zero (by decide)]
  refine congrArg₂ mS ?_ ?_
  all_goals blk_point [iblk, idx5 t]

/-- The second moment of w_ple_proj, after the run. -/
theorem arr41 (c : Dev nD) : (dats m 0 c).arrAt 41 cfg0.N = fun j : S256x256.Idx => vS (V m c main_arg11 j) (V m c main_arg23 j) := by
  refine (dats m 0 c).arrAt_eq_of_covers 41 _ (by decide +kernel) fun t hf y => ?_
  blk_simp
  rw [after0_41]
  unfold out0_41
  rw [View.canon_unit_zero (by decide)]
  refine (pay17_at _ _ y).trans ?_
  rw [View.ld_unit_zero (by decide), View.ld_unit_zero (by decide)]
  refine congrArg₂ vS ?_ ?_
  all_goals blk_point [iblk, idx5 t]

end Cert.BigIdeal.Hand

end
-- ==== Proof.BigRun.lean ====
module

public import proofs.«01_k».proof.Proof.BigSumA
public import proofs.«01_k».proof.Proof.BigSumB
public import proofs.«01_k».proof.Proof.BigSumC

@[expose] public section

set_option maxRecDepth 16384
set_option maxHeartbeats 1000000

noncomputable section

namespace Cert.BigIdeal.Hand

open Idealize.ShloMosaic Idealize.ShloMosaic.TcCoe Idealize.SL.Sem

open Cert.BigIdeal Cert.BigIdeal.Gen Cert.AdamRow

variable (m : (ℓ : Loc nD τ sig) → Buf (Elt Ideal) ℓ)

/-! After the run: each result is its array, each argument is as it was. -/

theorem left24 {r} (h : Pipeline.FramePost cfgs (dats m) 0 (V m) r) (c : Dev nD) :
    r.2.mem ((c.tc : Thread nD τ).loc main_v0_0) = (fun j : S1024x384.Idx => dS (m ((c : Thread nD τ).loc main_arg0) j) (m ((c : Thread nD τ).loc main_arg6) j) (m ((c : Thread nD τ).loc main_arg12) j) (m ((c : Thread nD τ).loc main_arg18) j)) :=
  ((h c).1 24).trans ((arr24 m c).trans (by rw [V_main_arg0, V_main_arg6, V_main_arg12, V_main_arg18]))

theorem left25 {r} (h : Pipeline.FramePost cfgs (dats m) 0 (V m) r) (c : Dev nD) :
    r.2.mem ((c.tc : Thread nD τ).loc main_v0_1) = (fun j : S256x1024.Idx => dS (m ((c : Thread nD τ).loc main_arg1) j) (m ((c : Thread nD τ).loc main_arg7) j) (m ((c : Thread nD τ).loc main_arg13) j) (m ((c : Thread nD τ).loc main_arg19) j)) :=
  ((h c).1 25).trans ((arr25 m c).trans (by rw [V_main_arg1, V_main_arg7, V_main_arg13, V_main_arg19]))

theorem left26 {r} (h : Pipeline.FramePost cfgs (dats m) 0 (V m) r) (c : Dev nD) :
    r.2.mem ((c.tc : Thread nD τ).loc main_v0_2) = (fun j : S1024x1024.Idx => dS (m ((c : Thread nD τ).loc main_arg2) j) (m ((c : Thread nD τ).loc main_arg8) j) (m ((c : Thread nD τ).loc main_arg14) j) (m ((c : Thread nD τ).loc main_arg20) j)) :=
  ((h c).1 26).trans ((arr26 m c).trans (by rw [V_main_arg2, V_main_arg8, V_main_arg14, V_main_arg20]))

theorem left27 {r} (h : Pipeline.FramePost cfgs (dats m) 0 (V m) r) (c : Dev nD) :
    r.2.mem ((c.tc : Thread nD τ).loc main_v0_3) = (fun j : S1024x1024.Idx => dS (m ((c : Thread nD τ).loc main_arg3) j) (m ((c : Thread nD τ).loc main_arg9) j) (m ((c : Thread nD τ).loc main_arg15) j) (m ((c : Thread nD τ).loc main_arg21) j)) :=
  ((h c).1 27).trans ((arr27 m c).trans (by rw [V_main_arg3, V_main_arg9, V_main_arg15, V_main_arg21]))

theorem left28 {r} (h : Pipeline.FramePost cfgs (dats m) 0 (V m) r) (c : Dev nD) :
    r.2.mem ((c.tc : Thread nD τ).loc main_v0_4) = (fun j : S256x1024.Idx => dS (m ((c : Thread nD τ).loc main_arg4) j) (m ((c : Thread nD τ).loc main_arg10) j) (m ((c : Thread nD τ).loc main_arg16) j) (m ((c : Thread nD τ).loc main_arg22) j)) :=
  ((h c).1 28).trans ((arr28 m c).trans (by rw [V_main_arg4, V_main_arg10, V_main_arg16, V_main_arg22]))

theorem left29 {r} (h : Pipeline.FramePost cfgs (dats m) 0 (V m) r) (c : Dev nD) :
    r.2.mem ((c.tc : Thread nD τ).loc main_v0_5) = (fun j : S256x256.Idx => dS (m ((c : Thread nD τ).loc main_arg5) j) (m ((c : Thread nD τ).loc main_arg11) j) (m ((c : Thread nD τ).loc main_arg17) j) (m ((c : Thread nD τ).loc main_arg23) j)) :=
  ((h c).1 29).trans ((arr29 m c).trans (by rw [V_main_arg5, V_main_arg11, V_main_arg17, V_main_arg23]))

theorem left30 {r} (h : Pipeline.FramePost cfgs (dats m) 0 (V m) r) (c : Dev nD) :
    r.2.mem ((c.tc : Thread nD τ).loc main_v0_6) = (fun j : S1024x384.Idx => mS (m ((c : Thread nD τ).loc main_arg6) j) (m ((c : Thread nD τ).loc main_arg12) j)) :=
  ((h c).1 30).trans ((arr30 m c).trans (by rw [V_main_arg6, V_main_arg12]))

theorem left31 {r} (h : Pipeline.FramePost cfgs (dats m) 0 (V m) r) (c : Dev nD) :
    r.2.mem ((c.tc : Thread nD τ).loc main_v0_7) = (fun j : S256x1024.Idx => mS (m ((c : Thread nD τ).loc main_arg7) j) (m ((c : Thread nD τ).loc main_arg13) j)) :=
  ((h c).1 31).trans ((arr31 m c).trans (by rw [V_main_arg7, V_main_arg13]))

theorem left32 {r} (h : Pipeline.FramePost cfgs (dats m) 0 (V m) r) (c : Dev nD) :
    r.2.mem ((c.tc : Thread nD τ).loc main_v0_8) = (fun j : S1024x1024.Idx => mS (m ((c : Thread nD τ).loc main_arg8) j) (m ((c : Thread nD τ).loc main_arg14) j)) :=
  ((h c).1 32).trans ((arr32 m c).trans (by rw [V_main_arg8, V_main_arg14]))

theorem left33 {r} (h : Pipeline.FramePost cfgs (dats m) 0 (V m) r) (c : Dev nD) :
    r.2.mem ((c.tc : Thread nD τ).loc main_v0_9) = (fun j : S1024x1024.Idx => mS (m ((c : Thread nD τ).loc main_arg9) j) (m ((c : Thread nD τ).loc main_arg15) j)) :=
  ((h c).1 33).trans ((arr33 m c).trans (by rw [V_main_arg9, V_main_arg15]))

theorem left34 {r} (h : Pipeline.FramePost cfgs (dats m) 0 (V m) r) (c : Dev nD) :
    r.2.mem ((c.tc : Thread nD τ).loc main_v0_10) = (fun j : S256x1024.Idx => mS (m ((c : Thread nD τ).loc main_arg10) j) (m ((c : Thread nD τ).loc main_arg16) j)) :=
  ((h c).1 34).trans ((arr34 m c).trans (by rw [V_main_arg10, V_main_arg16]))

theorem left35 {r} (h : Pipeline.FramePost cfgs (dats m) 0 (V m) r) (c : Dev nD) :
    r.2.mem ((c.tc : Thread nD τ).loc main_v0_11) = (fun j : S256x256.Idx => mS (m ((c : Thread nD τ).loc main_arg11) j) (m ((c : Thread nD τ).loc main_arg17) j)) :=
  ((h c).1 35).trans ((arr35 m c).trans (by rw [V_main_arg11, V_main_arg17]))

theorem left36 {r} (h : Pipeline.FramePost cfgs (dats m) 0 (V m) r) (c : Dev nD) :
    r.2.mem ((c.tc : Thread nD τ).loc main_v0_12) = (fun j : S1024x384.Idx => vS (m ((c : Thread nD τ).loc main_arg6) j) (m ((c : Thread nD τ).loc main_arg18) j)) :=
  ((h c).1 36).trans ((arr36 m c).trans (by rw [V_main_arg6, V_main_arg18]))

theorem left37 {r} (h : Pipeline.FramePost cfgs (dats m) 0 (V m) r) (c : Dev nD) :
    r.2.mem ((c.tc : Thread nD τ).loc main_v0_13) = (fun j : S256x1024.Idx => vS (m ((c : Thread nD τ).loc main_arg7) j) (m ((c : Thread nD τ).loc main_arg19) j)) :=
  ((h c).1 37).trans ((arr37 m c).trans (by rw [V_main_arg7, V_main_arg19]))

theorem left38 {r} (h : Pipeline.FramePost cfgs (dats m) 0 (V m) r) (c : Dev nD) :
    r.2.mem ((c.tc : Thread nD τ).loc main_v0_14) = (fun j : S1024x1024.Idx => vS (m ((c : Thread nD τ).loc main_arg8) j) (m ((c : Thread nD τ).loc main_arg20) j)) :=
  ((h c).1 38).trans ((arr38 m c).trans (by rw [V_main_arg8, V_main_arg20]))

theorem left39 {r} (h : Pipeline.FramePost cfgs (dats m) 0 (V m) r) (c : Dev nD) :
    r.2.mem ((c.tc : Thread nD τ).loc main_v0_15) = (fun j : S1024x1024.Idx => vS (m ((c : Thread nD τ).loc main_arg9) j) (m ((c : Thread nD τ).loc main_arg21) j)) :=
  ((h c).1 39).trans ((arr39 m c).trans (by rw [V_main_arg9, V_main_arg21]))

theorem left40 {r} (h : Pipeline.FramePost cfgs (dats m) 0 (V m) r) (c : Dev nD) :
    r.2.mem ((c.tc : Thread nD τ).loc main_v0_16) = (fun j : S256x1024.Idx => vS (m ((c : Thread nD τ).loc main_arg10) j) (m ((c : Thread nD τ).loc main_arg22) j)) :=
  ((h c).1 40).trans ((arr40 m c).trans (by rw [V_main_arg10, V_main_arg22]))

theorem left41 {r} (h : Pipeline.FramePost cfgs (dats m) 0 (V m) r) (c : Dev nD) :
    r.2.mem ((c.tc : Thread nD τ).loc main_v0_17) = (fun j : S256x256.Idx => vS (m ((c : Thread nD τ).loc main_arg11) j) (m ((c : Thread nD τ).loc main_arg23) j)) :=
  ((h c).1 41).trans ((arr41 m c).trans (by rw [V_main_arg11, V_main_arg23]))

theorem kept0 {r} (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

theorem kept1 {r} (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))

theorem kept2 {r} (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))

theorem kept3 {r} (h : Pipeline.FramePost cfgs (dats m) 0 (V m) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))

theorem kept4 {r} (h : Pipeline.FramePost cfgs (dats m) 0 (V m) r) (c : Dev nD) :
    r.2.mem ((c.tc : Thread nD τ).loc main_arg4) = m ((c.tc : Thread nD τ).loc main_arg4) :=
  ((h c).1 4).trans (((dats m 0 c).arrAt_in 4 rfl _).trans ((A_eq m c 4).trans (V_main_arg4 m c)))

theorem kept5 {r} (h : Pipeline.FramePost cfgs (dats m) 0 (V m) r) (c : Dev nD) :
    r.2.mem ((c.tc : Thread nD τ).loc main_arg5) = m ((c.tc : Thread nD τ).loc main_arg5) :=
  ((h c).1 5).trans (((dats m 0 c).arrAt_in 5 rfl _).trans ((A_eq m c 5).trans (V_main_arg5 m c)))

theorem kept6 {r} (h : Pipeline.FramePost cfgs (dats m) 0 (V m) r) (c : Dev nD) :
    r.2.mem ((c.tc : Thread nD τ).loc main_arg6) = m ((c.tc : Thread nD τ).loc main_arg6) :=
  ((h c).1 6).trans (((dats m 0 c).arrAt_in 6 rfl _).trans ((A_eq m c 6).trans (V_main_arg6 m c)))

theorem kept7 {r} (h : Pipeline.FramePost cfgs (dats m) 0 (V m) r) (c : Dev nD) :
    r.2.mem ((c.tc : Thread nD τ).loc main_arg7) = m ((c.tc : Thread nD τ).loc main_arg7) :=
  ((h c).1 7).trans (((dats m 0 c).arrAt_in 7 rfl _).trans ((A_eq m c 7).trans (V_main_arg7 m c)))

theorem kept8 {r} (h : Pipeline.FramePost cfgs (dats m) 0 (V m) r) (c : Dev nD) :
    r.2.mem ((c.tc : Thread nD τ).loc main_arg8) = m ((c.tc : Thread nD τ).loc main_arg8) :=
  ((h c).1 8).trans (((dats m 0 c).arrAt_in 8 rfl _).trans ((A_eq m c 8).trans (V_main_arg8 m c)))

theorem kept9 {r} (h : Pipeline.FramePost cfgs (dats m) 0 (V m) r) (c : Dev nD) :
    r.2.mem ((c.tc : Thread nD τ).loc main_arg9) = m ((c.tc : Thread nD τ).loc main_arg9) :=
  ((h c).1 9).trans (((dats m 0 c).arrAt_in 9 rfl _).trans ((A_eq m c 9).trans (V_main_arg9 m c)))

theorem kept10 {r} (h : Pipeline.FramePost cfgs (dats m) 0 (V m) r) (c : Dev nD) :
    r.2.mem ((c.tc : Thread nD τ).loc main_arg10) = m ((c.tc : Thread nD τ).loc main_arg10) :=
  ((h c).1 10).trans (((dats m 0 c).arrAt_in 10 rfl _).trans ((A_eq m c 10).trans (V_main_arg10 m c)))

theorem kept11 {r} (h : Pipeline.FramePost cfgs (dats m) 0 (V m) r) (c : Dev nD) :
    r.2.mem ((c.tc : Thread nD τ).loc main_arg11) = m ((c.tc : Thread nD τ).loc main_arg11) :=
  ((h c).1 11).trans (((dats m 0 c).arrAt_in 11 rfl _).trans ((A_eq m c 11).trans (V_main_arg11 m c)))

theorem kept12 {r} (h : Pipeline.FramePost cfgs (dats m) 0 (V m) r) (c : Dev nD) :
    r.2.mem ((c.tc : Thread nD τ).loc main_arg12) = m ((c.tc : Thread nD τ).loc main_arg12) :=
  ((h c).1 12).trans (((dats m 0 c).arrAt_in 12 rfl _).trans ((A_eq m c 12).trans (V_main_arg12 m c)))

theorem kept13 {r} (h : Pipeline.FramePost cfgs (dats m) 0 (V m) r) (c : Dev nD) :
    r.2.mem ((c.tc : Thread nD τ).loc main_arg13) = m ((c.tc : Thread nD τ).loc main_arg13) :=
  ((h c).1 13).trans (((dats m 0 c).arrAt_in 13 rfl _).trans ((A_eq m c 13).trans (V_main_arg13 m c)))

theorem kept14 {r} (h : Pipeline.FramePost cfgs (dats m) 0 (V m) r) (c : Dev nD) :
    r.2.mem ((c.tc : Thread nD τ).loc main_arg14) = m ((c.tc : Thread nD τ).loc main_arg14) :=
  ((h c).1 14).trans (((dats m 0 c).arrAt_in 14 rfl _).trans ((A_eq m c 14).trans (V_main_arg14 m c)))

theorem kept15 {r} (h : Pipeline.FramePost cfgs (dats m) 0 (V m) r) (c : Dev nD) :
    r.2.mem ((c.tc : Thread nD τ).loc main_arg15) = m ((c.tc : Thread nD τ).loc main_arg15) :=
  ((h c).1 15).trans (((dats m 0 c).arrAt_in 15 rfl _).trans ((A_eq m c 15).trans (V_main_arg15 m c)))

theorem kept16 {r} (h : Pipeline.FramePost cfgs (dats m) 0 (V m) r) (c : Dev nD) :
    r.2.mem ((c.tc : Thread nD τ).loc main_arg16) = m ((c.tc : Thread nD τ).loc main_arg16) :=
  ((h c).1 16).trans (((dats m 0 c).arrAt_in 16 rfl _).trans ((A_eq m c 16).trans (V_main_arg16 m c)))

theorem kept17 {r} (h : Pipeline.FramePost cfgs (dats m) 0 (V m) r) (c : Dev nD) :
    r.2.mem ((c.tc : Thread nD τ).loc main_arg17) = m ((c.tc : Thread nD τ).loc main_arg17) :=
  ((h c).1 17).trans (((dats m 0 c).arrAt_in 17 rfl _).trans ((A_eq m c 17).trans (V_main_arg17 m c)))

theorem kept18 {r} (h : Pipeline.FramePost cfgs (dats m) 0 (V m) r) (c : Dev nD) :
    r.2.mem ((c.tc : Thread nD τ).loc main_arg18) = m ((c.tc : Thread nD τ).loc main_arg18) :=
  ((h c).1 18).trans (((dats m 0 c).arrAt_in 18 rfl _).trans ((A_eq m c 18).trans (V_main_arg18 m c)))

theorem kept19 {r} (h : Pipeline.FramePost cfgs (dats m) 0 (V m) r) (c : Dev nD) :
    r.2.mem ((c.tc : Thread nD τ).loc main_arg19) = m ((c.tc : Thread nD τ).loc main_arg19) :=
  ((h c).1 19).trans (((dats m 0 c).arrAt_in 19 rfl _).trans ((A_eq m c 19).trans (V_main_arg19 m c)))

theorem kept20 {r} (h : Pipeline.FramePost cfgs (dats m) 0 (V m) r) (c : Dev nD) :
    r.2.mem ((c.tc : Thread nD τ).loc main_arg20) = m ((c.tc : Thread nD τ).loc main_arg20) :=
  ((h c).1 20).trans (((dats m 0 c).arrAt_in 20 rfl _).trans ((A_eq m c 20).trans (V_main_arg20 m c)))

theorem kept21 {r} (h : Pipeline.FramePost cfgs (dats m) 0 (V m) r) (c : Dev nD) :
    r.2.mem ((c.tc : Thread nD τ).loc main_arg21) = m ((c.tc : Thread nD τ).loc main_arg21) :=
  ((h c).1 21).trans (((dats m 0 c).arrAt_in 21 rfl _).trans ((A_eq m c 21).trans (V_main_arg21 m c)))

theorem kept22 {r} (h : Pipeline.FramePost cfgs (dats m) 0 (V m) r) (c : Dev nD) :
    r.2.mem ((c.tc : Thread nD τ).loc main_arg22) = m ((c.tc : Thread nD τ).loc main_arg22) :=
  ((h c).1 22).trans (((dats m 0 c).arrAt_in 22 rfl _).trans ((A_eq m c 22).trans (V_main_arg22 m c)))

theorem kept23 {r} (h : Pipeline.FramePost cfgs (dats m) 0 (V m) r) (c : Dev nD) :
    r.2.mem ((c.tc : Thread nD τ).loc main_arg23) = m ((c.tc : Thread nD τ).loc main_arg23) :=
  ((h c).1 23).trans (((dats m 0 c).arrAt_in 23 rfl _).trans ((A_eq m c 23).trans (V_main_arg23 m c)))

/-- What the kernel leaves: the eighteen arrays number by number, and its arguments as they were. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = (fun j : S1024x384.Idx => dS (m ((c : Thread nD τ).loc main_arg0) j) (m ((c : Thread nD τ).loc main_arg6) j) (m ((c : Thread nD τ).loc main_arg12) j) (m ((c : Thread nD τ).loc main_arg18) j))
      ∧ r.2.mem ((c.tc : Thread nD τ).loc main_v0_1) = (fun j : S256x1024.Idx => dS (m ((c : Thread nD τ).loc main_arg1) j) (m ((c : Thread nD τ).loc main_arg7) j) (m ((c : Thread nD τ).loc main_arg13) j) (m ((c : Thread nD τ).loc main_arg19) j))
      ∧ r.2.mem ((c.tc : Thread nD τ).loc main_v0_2) = (fun j : S1024x1024.Idx => dS (m ((c : Thread nD τ).loc main_arg2) j) (m ((c : Thread nD τ).loc main_arg8) j) (m ((c : Thread nD τ).loc main_arg14) j) (m ((c : Thread nD τ).loc main_arg20) j))
      ∧ r.2.mem ((c.tc : Thread nD τ).loc main_v0_3) = (fun j : S1024x1024.Idx => dS (m ((c : Thread nD τ).loc main_arg3) j) (m ((c : Thread nD τ).loc main_arg9) j) (m ((c : Thread nD τ).loc main_arg15) j) (m ((c : Thread nD τ).loc main_arg21) j))
      ∧ r.2.mem ((c.tc : Thread nD τ).loc main_v0_4) = (fun j : S256x1024.Idx => dS (m ((c : Thread nD τ).loc main_arg4) j) (m ((c : Thread nD τ).loc main_arg10) j) (m ((c : Thread nD τ).loc main_arg16) j) (m ((c : Thread nD τ).loc main_arg22) j))
      ∧ r.2.mem ((c.tc : Thread nD τ).loc main_v0_5) = (fun j : S256x256.Idx => dS (m ((c : Thread nD τ).loc main_arg5) j) (m ((c : Thread nD τ).loc main_arg11) j) (m ((c : Thread nD τ).loc main_arg17) j) (m ((c : Thread nD τ).loc main_arg23) j))
      ∧ r.2.mem ((c.tc : Thread nD τ).loc main_v0_6) = (fun j : S1024x384.Idx => mS (m ((c : Thread nD τ).loc main_arg6) j) (m ((c : Thread nD τ).loc main_arg12) j))
      ∧ r.2.mem ((c.tc : Thread nD τ).loc main_v0_7) = (fun j : S256x1024.Idx => mS (m ((c : Thread nD τ).loc main_arg7) j) (m ((c : Thread nD τ).loc main_arg13) j))
      ∧ r.2.mem ((c.tc : Thread nD τ).loc main_v0_8) = (fun j : S1024x1024.Idx => mS (m ((c : Thread nD τ).loc main_arg8) j) (m ((c : Thread nD τ).loc main_arg14) j))
      ∧ r.2.mem ((c.tc : Thread nD τ).loc main_v0_9) = (fun j : S1024x1024.Idx => mS (m ((c : Thread nD τ).loc main_arg9) j) (m ((c : Thread nD τ).loc main_arg15) j))
      ∧ r.2.mem ((c.tc : Thread nD τ).loc main_v0_10) = (fun j : S256x1024.Idx => mS (m ((c : Thread nD τ).loc main_arg10) j) (m ((c : Thread nD τ).loc main_arg16) j))
      ∧ r.2.mem ((c.tc : Thread nD τ).loc main_v0_11) = (fun j : S256x256.Idx => mS (m ((c : Thread nD τ).loc main_arg11) j) (m ((c : Thread nD τ).loc main_arg17) j))
      ∧ r.2.mem ((c.tc : Thread nD τ).loc main_v0_12) = (fun j : S1024x384.Idx => vS (m ((c : Thread nD τ).loc main_arg6) j) (m ((c : Thread nD τ).loc main_arg18) j))
      ∧ r.2.mem ((c.tc : Thread nD τ).loc main_v0_13) = (fun j : S256x1024.Idx => vS (m ((c : Thread nD τ).loc main_arg7) j) (m ((c : Thread nD τ).loc main_arg19) j))
      ∧ r.2.mem ((c.tc : Thread nD τ).loc main_v0_14) = (fun j : S1024x1024.Idx => vS (m ((c : Thread nD τ).loc main_arg8) j) (m ((c : Thread nD τ).loc main_arg20) j))
      ∧ r.2.mem ((c.tc : Thread nD τ).loc main_v0_15) = (fun j : S1024x1024.Idx => vS (m ((c : Thread nD τ).loc main_arg9) j) (m ((c : Thread nD τ).loc main_arg21) j))
      ∧ r.2.mem ((c.tc : Thread nD τ).loc main_v0_16) = (fun j : S256x1024.Idx => vS (m ((c : Thread nD τ).loc main_arg10) j) (m ((c : Thread nD τ).loc main_arg22) j))
      ∧ r.2.mem ((c.tc : Thread nD τ).loc main_v0_17) = (fun j : S256x256.Idx => vS (m ((c : Thread nD τ).loc main_arg11) j) (m ((c : Thread nD τ).loc main_arg23) j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c => ⟨left24 m h c, left25 m h c, left26 m h c, left27 m h c, left28 m h c, left29 m h c, left30 m h c, left31 m h c, left32 m h c, left33 m h c, left34 m h c, left35 m h c, left36 m h c, left37 m h c, left38 m h c, left39 m h c, left40 m h c, left41 m h c, kept0 m h c, kept1 m h c, kept2 m h c, kept3 m h c, kept4 m h c, kept5 m h c, kept6 m h c, kept7 m h c, kept8 m h c, kept9 m h c, kept10 m h c, kept11 m h c, kept12 m h c, kept13 m h c, kept14 m h c, kept15 m h c, kept16 m h c, kept17 m h c, kept18 m h c, kept19 m h c, kept20 m h c, kept21 m h c, kept22 m h c, kept23 m h c⟩) (run_main m ρ)

end Cert.BigIdeal.Hand

end
-- ==== Proof.BigRef.lean ====
module

public import proofs.«01_k».proof.Proof.BigScalar
public import proofs.«01_k».proof.Proof.Gen.BigRefIdeal.Read

@[expose] public section

set_option maxRecDepth 16384
set_option maxHeartbeats 1000000

noncomputable section

namespace Cert.BigIdeal.Hand

open Idealize.ShloMosaic Idealize.ShloMosaic.TcCoe Idealize.SL.Sem

open Cert.AdamRow

open Cert.BigRefIdeal Cert.BigRefIdeal.Read

/-! Equal arrays have equal moments and steps. -/

theorem arr_m {A : Shape} {g g' m m' : A.Idx → EReal} (hg : g = g') (hm : m = m') : (fun j : A.Idx => mS (g j) (m j)) = fun j : A.Idx => mS (g' j) (m' j) := by
  rw [hg, hm]

theorem arr_v {A : Shape} {g g' v v' : A.Idx → EReal} (hg : g = g') (hv : v = v') : (fun j : A.Idx => vS (g j) (v j)) = fun j : A.Idx => vS (g' j) (v' j) := by
  rw [hg, hv]

theorem arr_d {A : Shape} {w w' g g' m m' v v' : A.Idx → EReal} (hw : w = w') (hg : g = g') (hm : m = m') (hv : v = v') :
    (fun j : A.Idx => dS (w j) (g j) (m j) (v j)) = fun j : A.Idx => dS (w' j) (g' j) (m' j) (v' j) := by
  rw [hw, hg, hm, hv]

/-! The reference's arrays, one number at a time. -/

theorem ref_m0 (g m : S1024x384.Idx → EReal) : val_main_v4 (F := Ideal) g m = fun j : S1024x384.Idx => mS (g j) (m j) := by
  funext i
  rw [val_main_v4_apply, val_main_v1_apply, val_main_v3_apply, val_main_v0_apply, val_main_v2_apply]
  rfl

theorem ref_v0 (g v : S1024x384.Idx → EReal) : val_main_v10 (F := Ideal) g v = fun j : S1024x384.Idx => vS (g j) (v j) := by
  funext i
  rw [val_main_v10_apply, val_main_v6_apply, val_main_v9_apply, val_main_v7_apply, val_main_v5_apply, val_main_v8_apply]
  rfl

theorem ref_d0 (w g m v : S1024x384.Idx → EReal) : val_main_v23 (F := Ideal) w g m v = fun j : S1024x384.Idx => dS (w j) (g j) (m j) (v j) := by
  funext i
  rw [val_main_v23_apply, val_main_v21_apply, val_main_v20_apply, val_main_v18_apply, val_main_v17_apply, val_main_v15_apply, val_main_v14_apply, val_main_v12_apply, ref_m0, ref_v0, val_main_v11_apply, val_main_v13_apply, val_main_v16_apply, val_main_v19_apply, val_main_v22_apply]
  exact host_step (w i) (g i) (m i) (v i)

theorem ref_m1 (g m : S256x1024.Idx → EReal) : val_main_v28 (F := Ideal) g m = fun j : S256x1024.Idx => mS (g j) (m j) := by
  funext i
  rw [val_main_v28_apply, val_main_v25_apply, val_main_v27_apply, val_main_v24_apply, val_main_v26_apply]
  rfl

theorem ref_v1 (g v : S256x1024.Idx → EReal) : val_main_v34 (F := Ideal) g v = fun j : S256x1024.Idx => vS (g j) (v j) := by
  funext i
  rw [val_main_v34_apply, val_main_v30_apply, val_main_v33_apply, val_main_v31_apply, val_main_v29_apply, val_main_v32_apply]
  rfl

theorem ref_d1 (w g m v : S256x1024.Idx → EReal) : val_main_v47 (F := Ideal) w g m v = fun j : S256x1024.Idx => dS (w j) (g j) (m j) (v j) := by
  funext i
  rw [val_main_v47_apply, val_main_v45_apply, val_main_v44_apply, val_main_v42_apply, val_main_v41_apply, val_main_v39_apply, val_main_v38_apply, val_main_v36_apply, ref_m1, ref_v1, val_main_v35_apply, val_main_v37_apply, val_main_v40_apply, val_main_v43_apply, val_main_v46_apply]
  exact host_step (w i) (g i) (m i) (v i)

theorem ref_m2 (g m : S1024x1024.Idx → EReal) : val_main_v52 (F := Ideal) g m = fun j : S1024x1024.Idx => mS (g j) (m j) := by
  funext i
  rw [val_main_v52_apply, val_main_v49_apply, val_main_v51_apply, val_main_v48_apply, val_main_v50_apply]
  rfl

theorem ref_v2 (g v : S1024x1024.Idx → EReal) : val_main_v58 (F := Ideal) g v = fun j : S1024x1024.Idx => vS (g j) (v j) := by
  funext i
  rw [val_main_v58_apply, val_main_v54_apply, val_main_v57_apply, val_main_v55_apply, val_main_v53_apply, val_main_v56_apply]
  rfl

theorem ref_d2 (w g m v : S1024x1024.Idx → EReal) : val_main_v71 (F := Ideal) w g m v = fun j : S1024x1024.Idx => dS (w j) (g j) (m j) (v j) := by
  funext i
  rw [val_main_v71_apply, val_main_v69_apply, val_main_v68_apply, val_main_v66_apply, val_main_v65_apply, val_main_v63_apply, val_main_v62_apply, val_main_v60_apply, ref_m2, ref_v2, val_main_v59_apply, val_main_v61_apply, val_main_v64_apply, val_main_v67_apply, val_main_v70_apply]
  exact host_step (w i) (g i) (m i) (v i)

theorem ref_m3 (g m : S1024x1024.Idx → EReal) : val_main_v76 (F := Ideal) g m = fun j : S1024x1024.Idx => mS (g j) (m j) := by
  funext i
  rw [val_main_v76_apply, val_main_v73_apply, val_main_v75_apply, val_main_v72_apply, val_main_v74_apply]
  rfl

theorem ref_v3 (g v : S1024x1024.Idx → EReal) : val_main_v82 (F := Ideal) g v = fun j : S1024x1024.Idx => vS (g j) (v j) := by
  funext i
  rw [val_main_v82_apply, val_main_v78_apply, val_main_v81_apply, val_main_v79_apply, val_main_v77_apply, val_main_v80_apply]
  rfl

theorem ref_d3 (w g m v : S1024x1024.Idx → EReal) : val_main_v95 (F := Ideal) w g m v = fun j : S1024x1024.Idx => dS (w j) (g j) (m j) (v j) := by
  funext i
  rw [val_main_v95_apply, val_main_v93_apply, val_main_v92_apply, val_main_v90_apply, val_main_v89_apply, val_main_v87_apply, val_main_v86_apply, val_main_v84_apply, ref_m3, ref_v3, val_main_v83_apply, val_main_v85_apply, val_main_v88_apply, val_main_v91_apply, val_main_v94_apply]
  exact host_step (w i) (g i) (m i) (v i)

theorem ref_m4 (g m : S256x1024.Idx → EReal) : val_main_v100 (F := Ideal) g m = fun j : S256x1024.Idx => mS (g j) (m j) := by
  funext i
  rw [val_main_v100_apply, val_main_v97_apply, val_main_v99_apply, val_main_v96_apply, val_main_v98_apply]
  rfl

theorem ref_v4 (g v : S256x1024.Idx → EReal) : val_main_v106 (F := Ideal) g v = fun j : S256x1024.Idx => vS (g j) (v j) := by
  funext i
  rw [val_main_v106_apply, val_main_v102_apply, val_main_v105_apply, val_main_v103_apply, val_main_v101_apply, val_main_v104_apply]
  rfl

theorem ref_d4 (w g m v : S256x1024.Idx → EReal) : val_main_v119 (F := Ideal) w g m v = fun j : S256x1024.Idx => dS (w j) (g j) (m j) (v j) := by
  funext i
  rw [val_main_v119_apply, val_main_v117_apply, val_main_v116_apply, val_main_v114_apply, val_main_v113_apply, val_main_v111_apply, val_main_v110_apply, val_main_v108_apply, ref_m4, ref_v4, val_main_v107_apply, val_main_v109_apply, val_main_v112_apply, val_main_v115_apply, val_main_v118_apply]
  exact host_step (w i) (g i) (m i) (v i)

theorem ref_m5 (g m : S256x256.Idx → EReal) : val_main_v124 (F := Ideal) g m = fun j : S256x256.Idx => mS (g j) (m j) := by
  funext i
  rw [val_main_v124_apply, val_main_v121_apply, val_main_v123_apply, val_main_v120_apply, val_main_v122_apply]
  rfl

theorem ref_v5 (g v : S256x256.Idx → EReal) : val_main_v130 (F := Ideal) g v = fun j : S256x256.Idx => vS (g j) (v j) := by
  funext i
  rw [val_main_v130_apply, val_main_v126_apply, val_main_v129_apply, val_main_v127_apply, val_main_v125_apply, val_main_v128_apply]
  rfl

theorem ref_d5 (w g m v : S256x256.Idx → EReal) : val_main_v143 (F := Ideal) w g m v = fun j : S256x256.Idx => dS (w j) (g j) (m j) (v j) := by
  funext i
  rw [val_main_v143_apply, val_main_v141_apply, val_main_v140_apply, val_main_v138_apply, val_main_v137_apply, val_main_v135_apply, val_main_v134_apply, val_main_v132_apply, ref_m5, ref_v5, val_main_v131_apply, val_main_v133_apply, val_main_v136_apply, val_main_v139_apply, val_main_v142_apply]
  exact host_step (w i) (g i) (m i) (v i)

end Cert.BigIdeal.Hand

end
-- ==== Proof.BigClaim.lean ====
module

public import proofs.«01_k».proof.Proof.BigRun
public import proofs.«01_k».proof.Proof.BigRef
public import proofs.«01_k».proof.Defs
public import proofs.«01_k».proof.Proof.Gen.BigRefIdeal.Run
public import Idealize.ShloMosaic.Lib.Quiescent
public import Idealize.ShloMosaic.Lib.Claim

@[expose] public section

set_option maxRecDepth 16384
set_option maxHeartbeats 1000000

noncomputable section

namespace Cert.BigIdeal.Hand

open Idealize.ShloMosaic Idealize.ShloMosaic.TcCoe Idealize.SL.Sem

open Cert.BigIdeal Cert.BigIdeal.Gen Cert.AdamRow

open Cert.BigRefIdeal.Read

/-- The kernel's text is the idealised kernel's but for the two named constants. -/
theorem preserves : Cert.preserves_Big_BigIdeal :=
  ⟨IdealRules.named_const.statement Cert.BigIdeal.κ "c1" .f32 0x3FC48605#32 (((5463681 / 8388608)⁻¹ : ℝ) : EReal) rfl,
    IdealRules.named_const.statement Cert.BigIdeal.κ "c2" .f32 0x42C8E6D3#32 (((2672307 / 268435456)⁻¹ : ℝ) : EReal) rfl⟩

/-- The kernel of the optimiser and the reference compute the same eighteen arrays. -/
theorem algebraic : Cert.algebraic_BigIdeal_BigRefIdeal := by
  intro m g m' g' _ hagree
  refine ⟨fun c => fun j : S1024x384.Idx => dS (m ((c : Thread nD τ).loc main_arg0) j) (m ((c : Thread nD τ).loc main_arg6) j) (m ((c : Thread nD τ).loc main_arg12) j) (m ((c : Thread nD τ).loc main_arg18) j),
    fun c => fun j : S256x1024.Idx => dS (m ((c : Thread nD τ).loc main_arg1) j) (m ((c : Thread nD τ).loc main_arg7) j) (m ((c : Thread nD τ).loc main_arg13) j) (m ((c : Thread nD τ).loc main_arg19) j),
    fun c => fun j : S1024x1024.Idx => dS (m ((c : Thread nD τ).loc main_arg2) j) (m ((c : Thread nD τ).loc main_arg8) j) (m ((c : Thread nD τ).loc main_arg14) j) (m ((c : Thread nD τ).loc main_arg20) j),
    fun c => fun j : S1024x1024.Idx => dS (m ((c : Thread nD τ).loc main_arg3) j) (m ((c : Thread nD τ).loc main_arg9) j) (m ((c : Thread nD τ).loc main_arg15) j) (m ((c : Thread nD τ).loc main_arg21) j),
    fun c => fun j : S256x1024.Idx => dS (m ((c : Thread nD τ).loc main_arg4) j) (m ((c : Thread nD τ).loc main_arg10) j) (m ((c : Thread nD τ).loc main_arg16) j) (m ((c : Thread nD τ).loc main_arg22) j),
    fun c => fun j : S256x256.Idx => dS (m ((c : Thread nD τ).loc main_arg5) j) (m ((c : Thread nD τ).loc main_arg11) j) (m ((c : Thread nD τ).loc main_arg17) j) (m ((c : Thread nD τ).loc main_arg23) j),
    fun c => fun j : S1024x384.Idx => mS (m ((c : Thread nD τ).loc main_arg6) j) (m ((c : Thread nD τ).loc main_arg12) j),
    fun c => fun j : S256x1024.Idx => mS (m ((c : Thread nD τ).loc main_arg7) j) (m ((c : Thread nD τ).loc main_arg13) j),
    fun c => fun j : S1024x1024.Idx => mS (m ((c : Thread nD τ).loc main_arg8) j) (m ((c : Thread nD τ).loc main_arg14) j),
    fun c => fun j : S1024x1024.Idx => mS (m ((c : Thread nD τ).loc main_arg9) j) (m ((c : Thread nD τ).loc main_arg15) j),
    fun c => fun j : S256x1024.Idx => mS (m ((c : Thread nD τ).loc main_arg10) j) (m ((c : Thread nD τ).loc main_arg16) j),
    fun c => fun j : S256x256.Idx => mS (m ((c : Thread nD τ).loc main_arg11) j) (m ((c : Thread nD τ).loc main_arg17) j),
    fun c => fun j : S1024x384.Idx => vS (m ((c : Thread nD τ).loc main_arg6) j) (m ((c : Thread nD τ).loc main_arg18) j),
    fun c => fun j : S256x1024.Idx => vS (m ((c : Thread nD τ).loc main_arg7) j) (m ((c : Thread nD τ).loc main_arg19) j),
    fun c => fun j : S1024x1024.Idx => vS (m ((c : Thread nD τ).loc main_arg8) j) (m ((c : Thread nD τ).loc main_arg20) j),
    fun c => fun j : S1024x1024.Idx => vS (m ((c : Thread nD τ).loc main_arg9) j) (m ((c : Thread nD τ).loc main_arg21) j),
    fun c => fun j : S256x1024.Idx => vS (m ((c : Thread nD τ).loc main_arg10) j) (m ((c : Thread nD τ).loc main_arg22) j),
    fun c => fun j : S256x256.Idx => vS (m ((c : Thread nD τ).loc main_arg11) j) (m ((c : Thread nD τ).loc main_arg23) j),
    run m g, (θ_run Cert.BigRefIdeal.defs _ _).mono (fun r h c => ?_) (Cert.BigRefIdeal.Value.run m' g')⟩
  have H := hagree c
  have K := h c
  refine ⟨K.1.trans ?_, K.2.1.trans ?_, K.2.2.1.trans ?_, K.2.2.2.1.trans ?_, K.2.2.2.2.1.trans ?_, K.2.2.2.2.2.1.trans ?_, K.2.2.2.2.2.2.1.trans ?_, K.2.2.2.2.2.2.2.1.trans ?_, K.2.2.2.2.2.2.2.2.1.trans ?_, K.2.2.2.2.2.2.2.2.2.1.trans ?_, K.2.2.2.2.2.2.2.2.2.2.1.trans ?_, K.2.2.2.2.2.2.2.2.2.2.2.1.trans ?_, K.2.2.2.2.2.2.2.2.2.2.2.2.1.trans ?_, K.2.2.2.2.2.2.2.2.2.2.2.2.2.1.trans ?_, K.2.2.2.2.2.2.2.2.2.2.2.2.2.2.1.trans ?_, K.2.2.2.2.2.2.2.2.2.2.2.2.2.2.2.1.trans ?_, K.2.2.2.2.2.2.2.2.2.2.2.2.2.2.2.2.1.trans ?_, K.2.2.2.2.2.2.2.2.2.2.2.2.2.2.2.2.2.1.trans ?_, K.2.2.2.2.2.2.2.2.2.2.2.2.2.2.2.2.2.2⟩
  · exact (val_main_v23_eq _).trans ((ref_d0 _ _ _ _).trans (arr_d H.1 H.2.2.2.2.2.2.1 H.2.2.2.2.2.2.2.2.2.2.2.2.1 H.2.2.2.2.2.2.2.2.2.2.2.2.2.2.2.2.2.2.1))
  · exact (val_main_v47_eq _).trans ((ref_d1 _ _ _ _).trans (arr_d H.2.1 H.2.2.2.2.2.2.2.1 H.2.2.2.2.2.2.2.2.2.2.2.2.2.1 H.2.2.2.2.2.2.2.2.2.2.2.2.2.2.2.2.2.2.2.1))
  · exact (val_main_v71_eq _).trans ((ref_d2 _ _ _ _).trans (arr_d H.2.2.1 H.2.2.2.2.2.2.2.2.1 H.2.2.2.2.2.2.2.2.2.2.2.2.2.2.1 H.2.2.2.2.2.2.2.2.2.2.2.2.2.2.2.2.2.2.2.2.1))
  · exact (val_main_v95_eq _).trans ((ref_d3 _ _ _ _).trans (arr_d H.2.2.2.1 H.2.2.2.2.2.2.2.2.2.1 H.2.2.2.2.2.2.2.2.2.2.2.2.2.2.2.1 H.2.2.2.2.2.2.2.2.2.2.2.2.2.2.2.2.2.2.2.2.2.1))
  · exact (val_main_v119_eq _).trans ((ref_d4 _ _ _ _).trans (arr_d H.2.2.2.2.1 H.2.2.2.2.2.2.2.2.2.2.1 H.2.2.2.2.2.2.2.2.2.2.2.2.2.2.2.2.1 H.2.2.2.2.2.2.2.2.2.2.2.2.2.2.2.2.2.2.2.2.2.2.1))
  · exact (val_main_v143_eq _).trans ((ref_d5 _ _ _ _).trans (arr_d H.2.2.2.2.2.1 H.2.2.2.2.2.2.2.2.2.2.2.1 H.2.2.2.2.2.2.2.2.2.2.2.2.2.2.2.2.2.1 H.2.2.2.2.2.2.2.2.2.2.2.2.2.2.2.2.2.2.2.2.2.2.2))
  · exact (val_main_v4_eq _).trans ((ref_m0 _ _).trans (arr_m H.2.2.2.2.2.2.1 H.2.2.2.2.2.2.2.2.2.2.2.2.1))
  · exact (val_main_v28_eq _).trans ((ref_m1 _ _).trans (arr_m H.2.2.2.2.2.2.2.1 H.2.2.2.2.2.2.2.2.2.2.2.2.2.1))
  · exact (val_main_v52_eq _).trans ((ref_m2 _ _).trans (arr_m H.2.2.2.2.2.2.2.2.1 H.2.2.2.2.2.2.2.2.2.2.2.2.2.2.1))
  · exact (val_main_v76_eq _).trans ((ref_m3 _ _).trans (arr_m H.2.2.2.2.2.2.2.2.2.1 H.2.2.2.2.2.2.2.2.2.2.2.2.2.2.2.1))
  · exact (val_main_v100_eq _).trans ((ref_m4 _ _).trans (arr_m H.2.2.2.2.2.2.2.2.2.2.1 H.2.2.2.2.2.2.2.2.2.2.2.2.2.2.2.2.1))
  · exact (val_main_v124_eq _).trans ((ref_m5 _ _).trans (arr_m H.2.2.2.2.2.2.2.2.2.2.2.1 H.2.2.2.2.2.2.2.2.2.2.2.2.2.2.2.2.2.1))
  · exact (val_main_v10_eq _).trans ((ref_v0 _ _).trans (arr_v H.2.2.2.2.2.2.1 H.2.2.2.2.2.2.2.2.2.2.2.2.2.2.2.2.2.2.1))
  · exact (val_main_v34_eq _).trans ((ref_v1 _ _).trans (arr_v H.2.2.2.2.2.2.2.1 H.2.2.2.2.2.2.2.2.2.2.2.2.2.2.2.2.2.2.2.1))
  · exact (val_main_v58_eq _).trans ((ref_v2 _ _).trans (arr_v H.2.2.2.2.2.2.2.2.1 H.2.2.2.2.2.2.2.2.2.2.2.2.2.2.2.2.2.2.2.2.1))
  · exact (val_main_v82_eq _).trans ((ref_v3 _ _).trans (arr_v H.2.2.2.2.2.2.2.2.2.1 H.2.2.2.2.2.2.2.2.2.2.2.2.2.2.2.2.2.2.2.2.2.1))
  · exact (val_main_v106_eq _).trans ((ref_v4 _ _).trans (arr_v H.2.2.2.2.2.2.2.2.2.2.1 H.2.2.2.2.2.2.2.2.2.2.2.2.2.2.2.2.2.2.2.2.2.2.1))
  · exact (val_main_v130_eq _).trans ((ref_v5 _ _).trans (arr_v H.2.2.2.2.2.2.2.2.2.2.2.1 H.2.2.2.2.2.2.2.2.2.2.2.2.2.2.2.2.2.2.2.2.2.2.2))

/-- The reference terminates, leaves its arguments as they were, and declares no semaphore. -/
theorem frameRef : Cert.quiescent_BigRefIdeal := fun m g _ =>
  (θ_run Cert.BigRefIdeal.defs _ _).mono (fun r h => ⟨fun c => (h c).2.2.2.2.2.2.2.2.2.2.2.2.2.2.2.2.2.2, sem_eq_zero_of_no_sems (by decide) r.2⟩)
    (Cert.BigRefIdeal.Value.run m g)

end Cert.BigIdeal.Hand

end
-- ==== Proof.lean ====
module

public import proofs.«01_k».proof.Defs
public import proofs.«01_k».proof.Proof.Gen.MlpX.Frame
public import proofs.«01_k».proof.Proof.Gen.MlpXIdeal.Frame
public import proofs.«01_k».proof.Proof.Gen.MlpXIdeal.Value
public import proofs.«01_k».proof.Proof.Gen.MlpXRefIdeal.Run
public import proofs.«01_k».proof.Proof.Gen.MlpXRefIdeal.Read
public import proofs.«01_k».proof.Proof.MlpXClaim
public import proofs.«01_k».proof.Proof.Gen.MlpW.Frame
public import proofs.«01_k».proof.Proof.Gen.MlpWIdeal.Frame
public import proofs.«01_k».proof.Proof.Gen.MlpWIdeal.Value
public import proofs.«01_k».proof.Proof.Gen.MlpWRefIdeal.Run
public import proofs.«01_k».proof.Proof.Gen.MlpWRefIdeal.Read
public import proofs.«01_k».proof.Proof.MlpWClaim
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import proofs.«01_k».proof.Proof.InClaim
public import proofs.«01_k».proof.Proof.Gen.Head.Frame
public import proofs.«01_k».proof.Proof.Gen.HeadIdeal.Frame
public import proofs.«01_k».proof.Proof.Gen.HeadIdeal.Value
public import proofs.«01_k».proof.Proof.Gen.HeadRefIdeal.Run
public import proofs.«01_k».proof.Proof.Gen.HeadRefIdeal.Read
public import proofs.«01_k».proof.Proof.HeadClaim
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamClaim
public import proofs.«01_k».proof.Proof.BigFrame
public import proofs.«01_k».proof.Proof.BigIdealFrame
public import proofs.«01_k».proof.Proof.Gen.BigRefIdeal.Run
public import proofs.«01_k».proof.Proof.Gen.BigRefIdeal.Read
public import proofs.«01_k».proof.Proof.BigClaim

@[expose] public section

noncomputable section

namespace Cert.Proof

open Idealize.ShloMosaic Idealize.SL.Sem

/-- The certificate's claims: the frames of every call, then for every call that the idealised program is the kernel's own text
and that the idealised kernel computes what the reference computes. -/
theorem claim : Cert.Claim :=
  ⟨Cert.MlpX.Gen.facts, Cert.MlpXIdeal.Gen.facts, Cert.MlpXRefIdeal.Gen.facts,
    Cert.MlpW.Gen.facts, Cert.MlpWIdeal.Gen.facts, Cert.MlpWRefIdeal.Gen.facts,
    Cert.In.Gen.facts, Cert.InIdeal.Gen.facts, Cert.InRefIdeal.Gen.facts,
    Cert.Head.Gen.facts, Cert.HeadIdeal.Gen.facts, Cert.HeadRefIdeal.Gen.facts,
    Cert.Adam.Gen.facts, Cert.AdamIdeal.Gen.facts, Cert.AdamRefIdeal.Gen.facts,
    Cert.Big.Gen.facts, Cert.BigIdeal.Gen.facts, Cert.BigRefIdeal.Gen.facts,
    fun m ρ _ => Cert.MlpX.Gen.frame m ρ, fun m ρ _ => Cert.MlpXIdeal.Gen.frame m ρ, Cert.MlpXIdeal.Hand.frameRef,
    fun m ρ _ => Cert.MlpW.Gen.frame m ρ, fun m ρ _ => Cert.MlpWIdeal.Gen.frame m ρ, Cert.MlpWIdeal.Hand.frameRef,
    fun m ρ _ => Cert.In.Gen.frame m ρ, fun m ρ _ => Cert.InIdeal.Gen.frame m ρ, Cert.InIdeal.Hand.frameRef,
    fun m ρ _ => Cert.Head.Gen.frame m ρ, fun m ρ _ => Cert.HeadIdeal.Gen.frame m ρ, Cert.HeadIdeal.Hand.frameRef,
    fun m ρ _ => Cert.Adam.Gen.frame m ρ, fun m ρ _ => Cert.AdamIdeal.Gen.frame m ρ, Cert.AdamIdeal.Hand.frameRef,
    fun m ρ _ => Cert.Big.Hand.frame m ρ, fun m ρ _ => Cert.BigIdeal.Hand.frame m ρ, Cert.BigIdeal.Hand.frameRef,
    trivial, Cert.MlpXIdeal.Hand.algebraic,
    trivial, Cert.MlpWIdeal.Hand.algebraic,
    trivial, Cert.InIdeal.Hand.algebraic,
    trivial, Cert.HeadIdeal.Hand.algebraic,
    Cert.AdamIdeal.Hand.preserves, Cert.AdamIdeal.Hand.algebraic,
    Cert.BigIdeal.Hand.preserves, Cert.BigIdeal.Hand.algebraic⟩

end Cert.Proof

end
